-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInReferenceIdeal (m : (ℓ : Loc Cert.GdnInReferenceIdeal.nD Cert.GdnInReferenceIdeal.τ Cert.GdnInReferenceIdeal.sig) → Buf (Elt Ideal) ℓ) : Prop :=
  True

def Pre_OutFox (m : (ℓ : Loc Cert.OutFox.nD Cert.OutFox.τ Cert.OutFox.sig) → Buf (Elt Bits) ℓ) : Prop :=
  True

def Pre_OutFoxIdeal (m : (ℓ : Loc Cert.OutFoxIdeal.nD Cert.OutFoxIdeal.τ Cert.OutFoxIdeal.sig) → Buf (Elt Ideal) ℓ) : Prop :=
  True

def Pre_OutFoxReferenceIdeal (m : (ℓ : Loc Cert.OutFoxReferenceIdeal.nD Cert.OutFoxReferenceIdeal.τ Cert.OutFoxReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_GdnGates (m : (ℓ : Loc Cert.GdnGates.nD Cert.GdnGates.τ Cert.GdnGates.sig) → Buf (Elt Bits) ℓ) : Prop :=
  True

def Pre_GdnGatesIdeal (m : (ℓ : Loc Cert.GdnGatesIdeal.nD Cert.GdnGatesIdeal.τ Cert.GdnGatesIdeal.sig) → Buf (Elt Ideal) ℓ) : Prop :=
  True

def Pre_GdnGatesReferenceIdeal (m : (ℓ : Loc Cert.GdnGatesReferenceIdeal.nD Cert.GdnGatesReferenceIdeal.τ Cert.GdnGatesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2)
      ∧ r.2.mem ((c.tc : Thread Cert.GdnIn.nD Cert.GdnIn.τ).loc Cert.GdnIn.main_arg3) = m ((c.tc : Thread Cert.GdnIn.nD Cert.GdnIn.τ).loc Cert.GdnIn.main_arg3))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
      ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3))
      ∧ r.2.sem = fun _ => 0)

def quiescent_GdnInReferenceIdeal [hGdnInReferenceIdeal : Cert.GdnInReferenceIdeal.Facts] : Prop :=
  ∀ (m : (ℓ : Loc Cert.GdnInReferenceIdeal.nD Cert.GdnInReferenceIdeal.τ Cert.GdnInReferenceIdeal.sig) → Buf (Elt Ideal) ℓ) (g : Dev Cert.GdnInReferenceIdeal.nD → PrngReg), Pre_GdnInReferenceIdeal m →
    θ_run (Cert.GdnInReferenceIdeal.defs (F := Ideal)) (onTc (τ := Cert.GdnInReferenceIdeal.τ) (Cert.GdnInReferenceIdeal.main (F := Ideal))) ⟨m, fun _ => 0, g⟩ (fun r => (∀ c : Dev Cert.GdnInReferenceIdeal.nD,
      r.2.mem ((c.tc : Thread Cert.GdnInReferenceIdeal.nD Cert.GdnInReferenceIdeal.τ).loc Cert.GdnInReferenceIdeal.main_arg0) = m ((c.tc : Thread Cert.GdnInReferenceIdeal.nD Cert.GdnInReferenceIdeal.τ).loc Cert.GdnInReferenceIdeal.main_arg0)
      ∧ r.2.mem ((c.tc : Thread Cert.GdnInReferenceIdeal.nD Cert.GdnInReferenceIdeal.τ).loc Cert.GdnInReferenceIdeal.main_arg1) = m ((c.tc : Thread Cert.GdnInReferenceIdeal.nD Cert.GdnInReferenceIdeal.τ).loc Cert.GdnInReferenceIdeal.main_arg1)
      ∧ r.2.mem ((c.tc : Thread Cert.GdnInReferenceIdeal.nD Cert.GdnInReferenceIdeal.τ).loc Cert.GdnInReferenceIdeal.main_arg2) = m ((c.tc : Thread Cert.GdnInReferenceIdeal.nD Cert.GdnInReferenceIdeal.τ).loc Cert.GdnInReferenceIdeal.main_arg2)
      ∧ r.2.mem ((c.tc : Thread Cert.GdnInReferenceIdeal.nD Cert.GdnInReferenceIdeal.τ).loc Cert.GdnInReferenceIdeal.main_arg3) = m ((c.tc : Thread Cert.GdnInReferenceIdeal.nD Cert.GdnInReferenceIdeal.τ).loc Cert.GdnInReferenceIdeal.main_arg3))
      ∧ r.2.sem = fun _ => 0)

def quiescent_OutFox [hOutFox : Cert.OutFox.Facts] : Prop :=
  ∀ (m : (ℓ : Loc Cert.OutFox.nD Cert.OutFox.τ Cert.OutFox.sig) → Buf (Elt Bits) ℓ) (g : Dev Cert.OutFox.nD → PrngReg), Pre_OutFox m →
    θ_run (Cert.OutFox.defs (F := Bits)) (onTc (τ := Cert.OutFox.τ) (Cert.OutFox.main (F := Bits))) ⟨m, fun _ => 0, g⟩ (fun r => (∀ c : Dev Cert.OutFox.nD,
      r.2.mem ((c.tc : Thread Cert.OutFox.nD Cert.OutFox.τ).loc Cert.OutFox.main_arg0) = m ((c.tc : Thread Cert.OutFox.nD Cert.OutFox.τ).loc Cert.OutFox.main_arg0)
      ∧ r.2.mem ((c.tc : Thread Cert.OutFox.nD Cert.OutFox.τ).loc Cert.OutFox.main_arg1) = m ((c.tc : Thread Cert.OutFox.nD Cert.OutFox.τ).loc Cert.OutFox.main_arg1)
      ∧ r.2.mem ((c.tc : Thread Cert.OutFox.nD Cert.OutFox.τ).loc Cert.OutFox.main_arg2) = m ((c.tc : Thread Cert.OutFox.nD Cert.OutFox.τ).loc Cert.OutFox.main_arg2)
      ∧ r.2.mem ((c.tc : Thread Cert.OutFox.nD Cert.OutFox.τ).loc Cert.OutFox.main_arg3) = m ((c.tc : Thread Cert.OutFox.nD Cert.OutFox.τ).loc Cert.OutFox.main_arg3))
      ∧ r.2.sem = fun _ => 0)

def quiescent_OutFoxIdeal [hOutFoxIdeal : Cert.OutFoxIdeal.Facts] : Prop :=
  ∀ (m : (ℓ : Loc Cert.OutFoxIdeal.nD Cert.OutFoxIdeal.τ Cert.OutFoxIdeal.sig) → Buf (Elt Ideal) ℓ) (g : Dev Cert.OutFoxIdeal.nD → PrngReg), Pre_OutFoxIdeal m →
    θ_run (Cert.OutFoxIdeal.defs (F := Ideal)) (onTc (τ := Cert.OutFoxIdeal.τ) (Cert.OutFoxIdeal.main (F := Ideal))) ⟨m, fun _ => 0, g⟩ (fun r => (∀ c : Dev Cert.OutFoxIdeal.nD,
      r.2.mem ((c.tc : Thread Cert.OutFoxIdeal.nD Cert.OutFoxIdeal.τ).loc Cert.OutFoxIdeal.main_arg0) = m ((c.tc : Thread Cert.OutFoxIdeal.nD Cert.OutFoxIdeal.τ).loc Cert.OutFoxIdeal.main_arg0)
      ∧ r.2.mem ((c.tc : Thread Cert.OutFoxIdeal.nD Cert.OutFoxIdeal.τ).loc Cert.OutFoxIdeal.main_arg1) = m ((c.tc : Thread Cert.OutFoxIdeal.nD Cert.OutFoxIdeal.τ).loc Cert.OutFoxIdeal.main_arg1)
      ∧ r.2.mem ((c.tc : Thread Cert.OutFoxIdeal.nD Cert.OutFoxIdeal.τ).loc Cert.OutFoxIdeal.main_arg2) = m ((c.tc : Thread Cert.OutFoxIdeal.nD Cert.OutFoxIdeal.τ).loc Cert.OutFoxIdeal.main_arg2)
      ∧ r.2.mem ((c.tc : Thread Cert.OutFoxIdeal.nD Cert.OutFoxIdeal.τ).loc Cert.OutFoxIdeal.main_arg3) = m ((c.tc : Thread Cert.OutFoxIdeal.nD Cert.OutFoxIdeal.τ).loc Cert.OutFoxIdeal.main_arg3))
      ∧ r.2.sem = fun _ => 0)

def quiescent_OutFoxReferenceIdeal [hOutFoxReferenceIdeal : Cert.OutFoxReferenceIdeal.Facts] : Prop :=
  ∀ (m : (ℓ : Loc Cert.OutFoxReferenceIdeal.nD Cert.OutFoxReferenceIdeal.τ Cert.OutFoxReferenceIdeal.sig) → Buf (Elt Ideal) ℓ) (g : Dev Cert.OutFoxReferenceIdeal.nD → PrngReg), Pre_OutFoxReferenceIdeal m →
    θ_run (Cert.OutFoxReferenceIdeal.defs (F := Ideal)) (onTc (τ := Cert.OutFoxReferenceIdeal.τ) (Cert.OutFoxReferenceIdeal.main (F := Ideal))) ⟨m, fun _ => 0, g⟩ (fun r => (∀ c : Dev Cert.OutFoxReferenceIdeal.nD,
      r.2.mem ((c.tc : Thread Cert.OutFoxReferenceIdeal.nD Cert.OutFoxReferenceIdeal.τ).loc Cert.OutFoxReferenceIdeal.main_arg0) = m ((c.tc : Thread Cert.OutFoxReferenceIdeal.nD Cert.OutFoxReferenceIdeal.τ).loc Cert.OutFoxReferenceIdeal.main_arg0)
      ∧ r.2.mem ((c.tc : Thread Cert.OutFoxReferenceIdeal.nD Cert.OutFoxReferenceIdeal.τ).loc Cert.OutFoxReferenceIdeal.main_arg1) = m ((c.tc : Thread Cert.OutFoxReferenceIdeal.nD Cert.OutFoxReferenceIdeal.τ).loc Cert.OutFoxReferenceIdeal.main_arg1)
      ∧ r.2.mem ((c.tc : Thread Cert.OutFoxReferenceIdeal.nD Cert.OutFoxReferenceIdeal.τ).loc Cert.OutFoxReferenceIdeal.main_arg2) = m ((c.tc : Thread Cert.OutFoxReferenceIdeal.nD Cert.OutFoxReferenceIdeal.τ).loc Cert.OutFoxReferenceIdeal.main_arg2)
      ∧ r.2.mem ((c.tc : Thread Cert.OutFoxReferenceIdeal.nD Cert.OutFoxReferenceIdeal.τ).loc Cert.OutFoxReferenceIdeal.main_arg3) = m ((c.tc : Thread Cert.OutFoxReferenceIdeal.nD Cert.OutFoxReferenceIdeal.τ).loc Cert.OutFoxReferenceIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_GdnGates [hGdnGates : Cert.GdnGates.Facts] : Prop :=
  ∀ (m : (ℓ : Loc Cert.GdnGates.nD Cert.GdnGates.τ Cert.GdnGates.sig) → Buf (Elt Bits) ℓ) (g : Dev Cert.GdnGates.nD → PrngReg), Pre_GdnGates m →
    θ_run (Cert.GdnGates.defs (F := Bits)) (onTc (τ := Cert.GdnGates.τ) (Cert.GdnGates.main (F := Bits))) ⟨m, fun _ => 0, g⟩ (fun r => (∀ c : Dev Cert.GdnGates.nD,
      r.2.mem ((c.tc : Thread Cert.GdnGates.nD Cert.GdnGates.τ).loc Cert.GdnGates.main_arg0) = m ((c.tc : Thread Cert.GdnGates.nD Cert.GdnGates.τ).loc Cert.GdnGates.main_arg0)
      ∧ r.2.mem ((c.tc : Thread Cert.GdnGates.nD Cert.GdnGates.τ).loc Cert.GdnGates.main_arg1) = m ((c.tc : Thread Cert.GdnGates.nD Cert.GdnGates.τ).loc Cert.GdnGates.main_arg1)
      ∧ r.2.mem ((c.tc : Thread Cert.GdnGates.nD Cert.GdnGates.τ).loc Cert.GdnGates.main_arg2) = m ((c.tc : Thread Cert.GdnGates.nD Cert.GdnGates.τ).loc Cert.GdnGates.main_arg2))
      ∧ r.2.sem = fun _ => 0)

def quiescent_GdnGatesIdeal [hGdnGatesIdeal : Cert.GdnGatesIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg), Pre_GdnGatesIdeal m →
    θ_run (Cert.GdnGatesIdeal.defs (F := Ideal)) (onTc (τ := Cert.GdnGatesIdeal.τ) (Cert.GdnGatesIdeal.main (F := Ideal))) ⟨m, fun _ => 0, g⟩ (fun r => (∀ c : Dev Cert.GdnGatesIdeal.nD,
      r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
      ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
      ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2))
      ∧ r.2.sem = fun _ => 0)

def quiescent_GdnGatesReferenceIdeal [hGdnGatesReferenceIdeal : Cert.GdnGatesReferenceIdeal.Facts] : Prop :=
  ∀ (m : (ℓ : Loc Cert.GdnGatesReferenceIdeal.nD Cert.GdnGatesReferenceIdeal.τ Cert.GdnGatesReferenceIdeal.sig) → Buf (Elt Ideal) ℓ) (g : Dev Cert.GdnGatesReferenceIdeal.nD → PrngReg), Pre_GdnGatesReferenceIdeal m →
    θ_run (Cert.GdnGatesReferenceIdeal.defs (F := Ideal)) (onTc (τ := Cert.GdnGatesReferenceIdeal.τ) (Cert.GdnGatesReferenceIdeal.main (F := Ideal))) ⟨m, fun _ => 0, g⟩ (fun r => (∀ c : Dev Cert.GdnGatesReferenceIdeal.nD,
      r.2.mem ((c.tc : Thread Cert.GdnGatesReferenceIdeal.nD Cert.GdnGatesReferenceIdeal.τ).loc Cert.GdnGatesReferenceIdeal.main_arg0) = m ((c.tc : Thread Cert.GdnGatesReferenceIdeal.nD Cert.GdnGatesReferenceIdeal.τ).loc Cert.GdnGatesReferenceIdeal.main_arg0)
      ∧ r.2.mem ((c.tc : Thread Cert.GdnGatesReferenceIdeal.nD Cert.GdnGatesReferenceIdeal.τ).loc Cert.GdnGatesReferenceIdeal.main_arg1) = m ((c.tc : Thread Cert.GdnGatesReferenceIdeal.nD Cert.GdnGatesReferenceIdeal.τ).loc Cert.GdnGatesReferenceIdeal.main_arg1)
      ∧ r.2.mem ((c.tc : Thread Cert.GdnGatesReferenceIdeal.nD Cert.GdnGatesReferenceIdeal.τ).loc Cert.GdnGatesReferenceIdeal.main_arg2) = m ((c.tc : Thread Cert.GdnGatesReferenceIdeal.nD Cert.GdnGatesReferenceIdeal.τ).loc Cert.GdnGatesReferenceIdeal.main_arg2))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v3) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v23) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v17) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v12_0)) (v1 : (c : Dev Cert.InIdeal.nD) → Buf (Elt Ideal) ((c.tc : Thread Cert.InIdeal.nD Cert.InIdeal.τ).loc Cert.InIdeal.main_v12_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v12_0) = v0 c
          ∧ r.2.mem ((c.tc : Thread Cert.InIdeal.nD Cert.InIdeal.τ).loc Cert.InIdeal.main_v12_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v20) = v0 c
          ∧ r.2.mem ((c.tc : Thread Cert.InReferenceIdeal.nD Cert.InReferenceIdeal.τ).loc Cert.InReferenceIdeal.main_v21) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_GdnIn_GdnInIdeal : Prop :=
  True

def algebraic_GdnInIdeal_GdnInReferenceIdeal [hGdnInIdeal : Cert.GdnInIdeal.Facts] [hGdnInReferenceIdeal : Cert.GdnInReferenceIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInReferenceIdeal.nD Cert.GdnInReferenceIdeal.τ Cert.GdnInReferenceIdeal.sig) → Buf (Elt Ideal) ℓ) (g' : Dev Cert.GdnInReferenceIdeal.nD → PrngReg), Pre_GdnInIdeal m →
    (∀ c : Dev Cert.GdnInIdeal.nD,
      m' ((c.tc : Thread Cert.GdnInReferenceIdeal.nD Cert.GdnInReferenceIdeal.τ).loc Cert.GdnInReferenceIdeal.main_arg0) = m ((c.tc : Thread Cert.GdnInIdeal.nD Cert.GdnInIdeal.τ).loc Cert.GdnInIdeal.main_arg0)
      ∧ m' ((c.tc : Thread Cert.GdnInReferenceIdeal.nD Cert.GdnInReferenceIdeal.τ).loc Cert.GdnInReferenceIdeal.main_arg1) = m ((c.tc : Thread Cert.GdnInIdeal.nD Cert.GdnInIdeal.τ).loc Cert.GdnInIdeal.main_arg1)
      ∧ m' ((c.tc : Thread Cert.GdnInReferenceIdeal.nD Cert.GdnInReferenceIdeal.τ).loc Cert.GdnInReferenceIdeal.main_arg2) = m ((c.tc : Thread Cert.GdnInIdeal.nD Cert.GdnInIdeal.τ).loc Cert.GdnInIdeal.main_arg2)
      ∧ m' ((c.tc : Thread Cert.GdnInReferenceIdeal.nD Cert.GdnInReferenceIdeal.τ).loc Cert.GdnInReferenceIdeal.main_arg3) = m ((c.tc : Thread Cert.GdnInIdeal.nD Cert.GdnInIdeal.τ).loc Cert.GdnInIdeal.main_arg3)) →
    ∃ (v0 : (c : Dev Cert.GdnInIdeal.nD) → Buf (Elt Ideal) ((c.tc : Thread Cert.GdnInIdeal.nD Cert.GdnInIdeal.τ).loc Cert.GdnInIdeal.main_v9_0)) (v1 : (c : Dev Cert.GdnInIdeal.nD) → Buf (Elt Ideal) ((c.tc : Thread Cert.GdnInIdeal.nD Cert.GdnInIdeal.τ).loc Cert.GdnInIdeal.main_v9_1)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v9_0) = v0 c
          ∧ r.2.mem ((c.tc : Thread Cert.GdnInIdeal.nD Cert.GdnInIdeal.τ).loc Cert.GdnInIdeal.main_v9_1) = v1 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2)
          ∧ r.2.mem ((c.tc : Thread Cert.GdnInIdeal.nD Cert.GdnInIdeal.τ).loc Cert.GdnInIdeal.main_arg3) = m ((c.tc : Thread Cert.GdnInIdeal.nD Cert.GdnInIdeal.τ).loc Cert.GdnInIdeal.main_arg3))
      ∧ θ_run (Cert.GdnInReferenceIdeal.defs (F := Ideal)) (onTc (τ := Cert.GdnInReferenceIdeal.τ) (Cert.GdnInReferenceIdeal.main (F := Ideal))) ⟨m', fun _ => 0, g'⟩ (fun r => ∀ c : Dev Cert.GdnInReferenceIdeal.nD,
          r.2.mem ((c.tc : Thread Cert.GdnInReferenceIdeal.nD Cert.GdnInReferenceIdeal.τ).loc Cert.GdnInReferenceIdeal.main_v79) = v0 c
          ∧ r.2.mem ((c.tc : Thread Cert.GdnInReferenceIdeal.nD Cert.GdnInReferenceIdeal.τ).loc Cert.GdnInReferenceIdeal.main_v80) = v1 c
          ∧ r.2.mem ((c.tc : Thread Cert.GdnInReferenceIdeal.nD Cert.GdnInReferenceIdeal.τ).loc Cert.GdnInReferenceIdeal.main_arg0) = m' ((c.tc : Thread Cert.GdnInReferenceIdeal.nD Cert.GdnInReferenceIdeal.τ).loc Cert.GdnInReferenceIdeal.main_arg0)
          ∧ r.2.mem ((c.tc : Thread Cert.GdnInReferenceIdeal.nD Cert.GdnInReferenceIdeal.τ).loc Cert.GdnInReferenceIdeal.main_arg1) = m' ((c.tc : Thread Cert.GdnInReferenceIdeal.nD Cert.GdnInReferenceIdeal.τ).loc Cert.GdnInReferenceIdeal.main_arg1)
          ∧ r.2.mem ((c.tc : Thread Cert.GdnInReferenceIdeal.nD Cert.GdnInReferenceIdeal.τ).loc Cert.GdnInReferenceIdeal.main_arg2) = m' ((c.tc : Thread Cert.GdnInReferenceIdeal.nD Cert.GdnInReferenceIdeal.τ).loc Cert.GdnInReferenceIdeal.main_arg2)
          ∧ r.2.mem ((c.tc : Thread Cert.GdnInReferenceIdeal.nD Cert.GdnInReferenceIdeal.τ).loc Cert.GdnInReferenceIdeal.main_arg3) = m' ((c.tc : Thread Cert.GdnInReferenceIdeal.nD Cert.GdnInReferenceIdeal.τ).loc Cert.GdnInReferenceIdeal.main_arg3))

def preserves_OutFox_OutFoxIdeal : Prop :=
  True

def algebraic_OutFoxIdeal_OutFoxReferenceIdeal [hOutFoxIdeal : Cert.OutFoxIdeal.Facts] [hOutFoxReferenceIdeal : Cert.OutFoxReferenceIdeal.Facts] : Prop :=
  ∀ (m : (ℓ : Loc Cert.OutFoxIdeal.nD Cert.OutFoxIdeal.τ Cert.OutFoxIdeal.sig) → Buf (Elt Ideal) ℓ) (g : Dev Cert.OutFoxIdeal.nD → PrngReg)
    (m' : (ℓ : Loc Cert.OutFoxReferenceIdeal.nD Cert.OutFoxReferenceIdeal.τ Cert.OutFoxReferenceIdeal.sig) → Buf (Elt Ideal) ℓ) (g' : Dev Cert.OutFoxReferenceIdeal.nD → PrngReg), Pre_OutFoxIdeal m →
    (∀ c : Dev Cert.OutFoxIdeal.nD,
      m' ((c.tc : Thread Cert.OutFoxReferenceIdeal.nD Cert.OutFoxReferenceIdeal.τ).loc Cert.OutFoxReferenceIdeal.main_arg0) = m ((c.tc : Thread Cert.OutFoxIdeal.nD Cert.OutFoxIdeal.τ).loc Cert.OutFoxIdeal.main_arg0)
      ∧ m' ((c.tc : Thread Cert.OutFoxReferenceIdeal.nD Cert.OutFoxReferenceIdeal.τ).loc Cert.OutFoxReferenceIdeal.main_arg1) = m ((c.tc : Thread Cert.OutFoxIdeal.nD Cert.OutFoxIdeal.τ).loc Cert.OutFoxIdeal.main_arg1)
      ∧ m' ((c.tc : Thread Cert.OutFoxReferenceIdeal.nD Cert.OutFoxReferenceIdeal.τ).loc Cert.OutFoxReferenceIdeal.main_arg2) = m ((c.tc : Thread Cert.OutFoxIdeal.nD Cert.OutFoxIdeal.τ).loc Cert.OutFoxIdeal.main_arg2)
      ∧ m' ((c.tc : Thread Cert.OutFoxReferenceIdeal.nD Cert.OutFoxReferenceIdeal.τ).loc Cert.OutFoxReferenceIdeal.main_arg3) = m ((c.tc : Thread Cert.OutFoxIdeal.nD Cert.OutFoxIdeal.τ).loc Cert.OutFoxIdeal.main_arg3)) →
    ∃ (v0 : (c : Dev Cert.OutFoxIdeal.nD) → Buf (Elt Ideal) ((c.tc : Thread Cert.OutFoxIdeal.nD Cert.OutFoxIdeal.τ).loc Cert.OutFoxIdeal.main_v0)),
      θ_run (Cert.OutFoxIdeal.defs (F := Ideal)) (onTc (τ := Cert.OutFoxIdeal.τ) (Cert.OutFoxIdeal.main (F := Ideal))) ⟨m, fun _ => 0, g⟩ (fun r => ∀ c : Dev Cert.OutFoxIdeal.nD,
          r.2.mem ((c.tc : Thread Cert.OutFoxIdeal.nD Cert.OutFoxIdeal.τ).loc Cert.OutFoxIdeal.main_v0) = v0 c
          ∧ r.2.mem ((c.tc : Thread Cert.OutFoxIdeal.nD Cert.OutFoxIdeal.τ).loc Cert.OutFoxIdeal.main_arg0) = m ((c.tc : Thread Cert.OutFoxIdeal.nD Cert.OutFoxIdeal.τ).loc Cert.OutFoxIdeal.main_arg0)
          ∧ r.2.mem ((c.tc : Thread Cert.OutFoxIdeal.nD Cert.OutFoxIdeal.τ).loc Cert.OutFoxIdeal.main_arg1) = m ((c.tc : Thread Cert.OutFoxIdeal.nD Cert.OutFoxIdeal.τ).loc Cert.OutFoxIdeal.main_arg1)
          ∧ r.2.mem ((c.tc : Thread Cert.OutFoxIdeal.nD Cert.OutFoxIdeal.τ).loc Cert.OutFoxIdeal.main_arg2) = m ((c.tc : Thread Cert.OutFoxIdeal.nD Cert.OutFoxIdeal.τ).loc Cert.OutFoxIdeal.main_arg2)
          ∧ r.2.mem ((c.tc : Thread Cert.OutFoxIdeal.nD Cert.OutFoxIdeal.τ).loc Cert.OutFoxIdeal.main_arg3) = m ((c.tc : Thread Cert.OutFoxIdeal.nD Cert.OutFoxIdeal.τ).loc Cert.OutFoxIdeal.main_arg3))
      ∧ θ_run (Cert.OutFoxReferenceIdeal.defs (F := Ideal)) (onTc (τ := Cert.OutFoxReferenceIdeal.τ) (Cert.OutFoxReferenceIdeal.main (F := Ideal))) ⟨m', fun _ => 0, g'⟩ (fun r => ∀ c : Dev Cert.OutFoxReferenceIdeal.nD,
          r.2.mem ((c.tc : Thread Cert.OutFoxReferenceIdeal.nD Cert.OutFoxReferenceIdeal.τ).loc Cert.OutFoxReferenceIdeal.main_v4) = v0 c
          ∧ r.2.mem ((c.tc : Thread Cert.OutFoxReferenceIdeal.nD Cert.OutFoxReferenceIdeal.τ).loc Cert.OutFoxReferenceIdeal.main_arg0) = m' ((c.tc : Thread Cert.OutFoxReferenceIdeal.nD Cert.OutFoxReferenceIdeal.τ).loc Cert.OutFoxReferenceIdeal.main_arg0)
          ∧ r.2.mem ((c.tc : Thread Cert.OutFoxReferenceIdeal.nD Cert.OutFoxReferenceIdeal.τ).loc Cert.OutFoxReferenceIdeal.main_arg1) = m' ((c.tc : Thread Cert.OutFoxReferenceIdeal.nD Cert.OutFoxReferenceIdeal.τ).loc Cert.OutFoxReferenceIdeal.main_arg1)
          ∧ r.2.mem ((c.tc : Thread Cert.OutFoxReferenceIdeal.nD Cert.OutFoxReferenceIdeal.τ).loc Cert.OutFoxReferenceIdeal.main_arg2) = m' ((c.tc : Thread Cert.OutFoxReferenceIdeal.nD Cert.OutFoxReferenceIdeal.τ).loc Cert.OutFoxReferenceIdeal.main_arg2)
          ∧ r.2.mem ((c.tc : Thread Cert.OutFoxReferenceIdeal.nD Cert.OutFoxReferenceIdeal.τ).loc Cert.OutFoxReferenceIdeal.main_arg3) = m' ((c.tc : Thread Cert.OutFoxReferenceIdeal.nD Cert.OutFoxReferenceIdeal.τ).loc Cert.OutFoxReferenceIdeal.main_arg3))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v8) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_GdnGates_GdnGatesIdeal : Prop :=
  True

def algebraic_GdnGatesIdeal_GdnGatesReferenceIdeal [hGdnGatesIdeal : Cert.GdnGatesIdeal.Facts] [hGdnGatesReferenceIdeal : Cert.GdnGatesReferenceIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg)
    (m' : (ℓ : Loc Cert.GdnGatesReferenceIdeal.nD Cert.GdnGatesReferenceIdeal.τ Cert.GdnGatesReferenceIdeal.sig) → Buf (Elt Ideal) ℓ) (g' : Dev Cert.GdnGatesReferenceIdeal.nD → PrngReg), Pre_GdnGatesIdeal m →
    (∀ c : Dev Cert.GdnGatesIdeal.nD,
      m' ((c.tc : Thread Cert.GdnGatesReferenceIdeal.nD Cert.GdnGatesReferenceIdeal.τ).loc Cert.GdnGatesReferenceIdeal.main_arg0) = m ((c.tc : Thread Cert.GdnGatesIdeal.nD Cert.GdnGatesIdeal.τ).loc Cert.GdnGatesIdeal.main_arg0)
      ∧ m' ((c.tc : Thread Cert.GdnGatesReferenceIdeal.nD Cert.GdnGatesReferenceIdeal.τ).loc Cert.GdnGatesReferenceIdeal.main_arg1) = m ((c.tc : Thread Cert.GdnGatesIdeal.nD Cert.GdnGatesIdeal.τ).loc Cert.GdnGatesIdeal.main_arg1)
      ∧ m' ((c.tc : Thread Cert.GdnGatesReferenceIdeal.nD Cert.GdnGatesReferenceIdeal.τ).loc Cert.GdnGatesReferenceIdeal.main_arg2) = m ((c.tc : Thread Cert.GdnGatesIdeal.nD Cert.GdnGatesIdeal.τ).loc Cert.GdnGatesIdeal.main_arg2)) →
    ∃ (v0 : (c : Dev Cert.GdnGatesIdeal.nD) → Buf (Elt Ideal) ((c.tc : Thread Cert.GdnGatesIdeal.nD Cert.GdnGatesIdeal.τ).loc Cert.GdnGatesIdeal.main_v6)),
      θ_run (Cert.GdnGatesIdeal.defs (F := Ideal)) (onTc (τ := Cert.GdnGatesIdeal.τ) (Cert.GdnGatesIdeal.main (F := Ideal))) ⟨m, fun _ => 0, g⟩ (fun r => ∀ c : Dev Cert.GdnGatesIdeal.nD,
          r.2.mem ((c.tc : Thread Cert.GdnGatesIdeal.nD Cert.GdnGatesIdeal.τ).loc Cert.GdnGatesIdeal.main_v6) = v0 c
          ∧ r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
          ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
          ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2))
      ∧ θ_run (Cert.GdnGatesReferenceIdeal.defs (F := Ideal)) (onTc (τ := Cert.GdnGatesReferenceIdeal.τ) (Cert.GdnGatesReferenceIdeal.main (F := Ideal))) ⟨m', fun _ => 0, g'⟩ (fun r => ∀ c : Dev Cert.GdnGatesReferenceIdeal.nD,
          r.2.mem ((c.tc : Thread Cert.GdnGatesReferenceIdeal.nD Cert.GdnGatesReferenceIdeal.τ).loc Cert.GdnGatesReferenceIdeal.main_v24) = v0 c
          ∧ r.2.mem ((c.tc : Thread Cert.GdnGatesReferenceIdeal.nD Cert.GdnGatesReferenceIdeal.τ).loc Cert.GdnGatesReferenceIdeal.main_arg0) = m' ((c.tc : Thread Cert.GdnGatesReferenceIdeal.nD Cert.GdnGatesReferenceIdeal.τ).loc Cert.GdnGatesReferenceIdeal.main_arg0)
          ∧ r.2.mem ((c.tc : Thread Cert.GdnGatesReferenceIdeal.nD Cert.GdnGatesReferenceIdeal.τ).loc Cert.GdnGatesReferenceIdeal.main_arg1) = m' ((c.tc : Thread Cert.GdnGatesReferenceIdeal.nD Cert.GdnGatesReferenceIdeal.τ).loc Cert.GdnGatesReferenceIdeal.main_arg1)
          ∧ r.2.mem ((c.tc : Thread Cert.GdnGatesReferenceIdeal.nD Cert.GdnGatesReferenceIdeal.τ).loc Cert.GdnGatesReferenceIdeal.main_arg2) = m' ((c.tc : Thread Cert.GdnGatesReferenceIdeal.nD Cert.GdnGatesReferenceIdeal.τ).loc Cert.GdnGatesReferenceIdeal.main_arg2))

def Claim : Prop :=
  ∃ (hKernel : Cert.Kernel.Facts) (hKernelIdeal : Cert.KernelIdeal.Facts) (hReferenceIdeal : Cert.ReferenceIdeal.Facts) (hMid : Cert.Mid.Facts) (hMidIdeal : Cert.MidIdeal.Facts) (hMidReferenceIdeal : Cert.MidReferenceIdeal.Facts) (hDown : Cert.Down.Facts) (hDownIdeal : Cert.DownIdeal.Facts) (hDownReferenceIdeal : Cert.DownReferenceIdeal.Facts) (hLast : Cert.Last.Facts) (hLastIdeal : Cert.LastIdeal.Facts) (hLastReferenceIdeal : Cert.LastReferenceIdeal.Facts) (hOut : Cert.Out.Facts) (hOutIdeal : Cert.OutIdeal.Facts) (hOutReferenceIdeal : Cert.OutReferenceIdeal.Facts) (hIn : Cert.In.Facts) (hInIdeal : Cert.InIdeal.Facts) (hInReferenceIdeal : Cert.InReferenceIdeal.Facts) (hGdnIn : Cert.GdnIn.Facts) (hGdnInIdeal : Cert.GdnInIdeal.Facts) (hGdnInReferenceIdeal : Cert.GdnInReferenceIdeal.Facts) (hOutFox : Cert.OutFox.Facts) (hOutFoxIdeal : Cert.OutFoxIdeal.Facts) (hOutFoxReferenceIdeal : Cert.OutFoxReferenceIdeal.Facts) (hGates : Cert.Gates.Facts) (hGatesIdeal : Cert.GatesIdeal.Facts) (hGatesReferenceIdeal : Cert.GatesReferenceIdeal.Facts) (hGdnGates : Cert.GdnGates.Facts) (hGdnGatesIdeal : Cert.GdnGatesIdeal.Facts) (hGdnGatesReferenceIdeal : Cert.GdnGatesReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Mid (hMid := hMid)
    ∧ quiescent_MidIdeal (hMidIdeal := hMidIdeal)
    ∧ quiescent_MidReferenceIdeal (hMidReferenceIdeal := hMidReferenceIdeal)
    ∧ quiescent_Down (hDown := hDown)
    ∧ quiescent_DownIdeal (hDownIdeal := hDownIdeal)
    ∧ quiescent_DownReferenceIdeal (hDownReferenceIdeal := hDownReferenceIdeal)
    ∧ quiescent_Last (hLast := hLast)
    ∧ quiescent_LastIdeal (hLastIdeal := hLastIdeal)
    ∧ quiescent_LastReferenceIdeal (hLastReferenceIdeal := hLastReferenceIdeal)
    ∧ quiescent_Out (hOut := hOut)
    ∧ quiescent_OutIdeal (hOutIdeal := hOutIdeal)
    ∧ quiescent_OutReferenceIdeal (hOutReferenceIdeal := hOutReferenceIdeal)
    ∧ quiescent_In (hIn := hIn)
    ∧ quiescent_InIdeal (hInIdeal := hInIdeal)
    ∧ quiescent_InReferenceIdeal (hInReferenceIdeal := hInReferenceIdeal)
    ∧ quiescent_GdnIn (hGdnIn := hGdnIn)
    ∧ quiescent_GdnInIdeal (hGdnInIdeal := hGdnInIdeal)
    ∧ quiescent_GdnInReferenceIdeal (hGdnInReferenceIdeal := hGdnInReferenceIdeal)
    ∧ quiescent_OutFox (hOutFox := hOutFox)
    ∧ quiescent_OutFoxIdeal (hOutFoxIdeal := hOutFoxIdeal)
    ∧ quiescent_OutFoxReferenceIdeal (hOutFoxReferenceIdeal := hOutFoxReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_GdnGates (hGdnGates := hGdnGates)
    ∧ quiescent_GdnGatesIdeal (hGdnGatesIdeal := hGdnGatesIdeal)
    ∧ quiescent_GdnGatesReferenceIdeal (hGdnGatesReferenceIdeal := hGdnGatesReferenceIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Mid_MidIdeal
    ∧ algebraic_MidIdeal_MidReferenceIdeal (hMidIdeal := hMidIdeal) (hMidReferenceIdeal := hMidReferenceIdeal)
    ∧ preserves_Down_DownIdeal
    ∧ algebraic_DownIdeal_DownReferenceIdeal (hDownIdeal := hDownIdeal) (hDownReferenceIdeal := hDownReferenceIdeal)
    ∧ preserves_Last_LastIdeal
    ∧ algebraic_LastIdeal_LastReferenceIdeal (hLastIdeal := hLastIdeal) (hLastReferenceIdeal := hLastReferenceIdeal)
    ∧ preserves_Out_OutIdeal
    ∧ algebraic_OutIdeal_OutReferenceIdeal (hOutIdeal := hOutIdeal) (hOutReferenceIdeal := hOutReferenceIdeal)
    ∧ preserves_In_InIdeal
    ∧ algebraic_InIdeal_InReferenceIdeal (hInIdeal := hInIdeal) (hInReferenceIdeal := hInReferenceIdeal)
    ∧ preserves_GdnIn_GdnInIdeal
    ∧ algebraic_GdnInIdeal_GdnInReferenceIdeal (hGdnInIdeal := hGdnInIdeal) (hGdnInReferenceIdeal := hGdnInReferenceIdeal)
    ∧ preserves_OutFox_OutFoxIdeal
    ∧ algebraic_OutFoxIdeal_OutFoxReferenceIdeal (hOutFoxIdeal := hOutFoxIdeal) (hOutFoxReferenceIdeal := hOutFoxReferenceIdeal)
    ∧ preserves_Gates_GatesIdeal
    ∧ algebraic_GatesIdeal_GatesReferenceIdeal (hGatesIdeal := hGatesIdeal) (hGatesReferenceIdeal := hGatesReferenceIdeal)
    ∧ preserves_GdnGates_GdnGatesIdeal
    ∧ algebraic_GdnGatesIdeal_GdnGatesReferenceIdeal (hGdnGatesIdeal := hGdnGatesIdeal) (hGdnGatesReferenceIdeal := hGdnGatesReferenceIdeal)
-- ==== Pre_finite_logits.lean ====
abbrev S16384x5120 : Shape := ⟨2, ![16384, 5120]⟩
abbrev S16384x128 : Shape := ⟨2, ![16384, 128]⟩
abbrev S16384x2048 : Shape := ⟨2, ![16384, 2048]⟩
abbrev S_ : Shape := ⟨0, ![]⟩
abbrev S16384x8 : Shape := ⟨2, ![16384, 8]⟩

class Facts : Prop where
  slices_S16384x5120_S16384x2048_0_0 : S16384x5120.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  slices_S16384x128_S16384x8_0_0 : S16384x128.Slices ![0, 0] S16384x8
  bcast_S_S16384x8 : S_.BroadcastsInDim S16384x8 (![] : Fin 0 → Fin S16384x8.rank)
  reducesTo_S16384x8_S_d0_1 : S16384x8.ReducesTo [0, 1] S_

variable [Facts]

def fn {F : FTy → Type} [FloatOps F] (main_arg0 : FVec F S16384x5120 .bf16) (main_arg1 : FVec F S16384x128 .f32) : IVec S_ 1 :=
  let main_v0 : FVec F S16384x2048 .bf16 := (extractStridedSlice S16384x2048 ![0, 0] · slices_S16384x5120_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S16384x8 .f32 := (extractStridedSlice S16384x8 ![0, 0] · slices_S16384x128_S16384x8_0_0) main_arg1
  let main_v7 : FVec F S16384x8 .f32 := Host.absf main_v6
  let main_cst_0 : FVec F S_ .f32 := constant S_ .f32 0x7F800000#32
  let main_v8 : FVec F S16384x8 .f32 := broadcastInDim S16384x8 ![] bcast_S_S16384x8 main_cst_0
  let main_v9 : IVec S16384x8 1 := cmpf .olt main_v7 main_v8
  let main_c_1 : IVec S_ 1 := constantI S_ 1 1#1
  let main_v10 : IVec S_ 1 := (fun x v => Host.reduce IntOp.andi x v reducesTo_S16384x8_S_d0_1 h_S_) main_v9 main_c_1
  let main_v11 : IVec S_ 1 := andi main_v5 main_v10
  main_v11
-- ==== Kernel.lean ====
abbrev S16384x5120 : Shape := ⟨2, ![16384, 5120]⟩
abbrev S16384x128 : Shape := ⟨2, ![16384, 128]⟩
abbrev S8x2048x128 : Shape := ⟨3, ![8, 2048, 128]⟩
abbrev S8x2048x8 : Shape := ⟨3, ![8, 2048, 8]⟩
abbrev S8x8x2048 : Shape := ⟨3, ![8, 8, 2048]⟩
abbrev S16384x1024 : Shape := ⟨2, ![16384, 1024]⟩
abbrev S8x8x256x1024 : Shape := ⟨4, ![8, 8, 256, 1024]⟩
abbrev S8x8x1024x256 : Shape := ⟨4, ![8, 8, 1024, 256]⟩
abbrev S8x8x1x2048 : Shape := ⟨4, ![8, 8, 1, 2048]⟩
abbrev S256x1024 : Shape := ⟨2, ![256, 1024]⟩
abbrev S2048x1024 : Shape := ⟨2, ![2048, 1024]⟩
abbrev S1x8x1024x256 : Shape := ⟨4, ![1, 8, 1024, 256]⟩
abbrev S1x8x1x256 : Shape := ⟨4, ![1, 8, 1, 256]⟩
abbrev S2048x128 : Shape := ⟨2, ![2048, 128]⟩
abbrev S8x1x256 : Shape := ⟨3, ![8, 1, 256]⟩
abbrev S8x128x256 : Shape := ⟨3, ![8, 128, 256]⟩
abbrev S256x128 : Shape := ⟨2, ![256, 128]⟩
abbrev S1x1x1x256 : Shape := ⟨4, ![1, 1, 1, 256]⟩
abbrev S1x256 : Shape := ⟨2, ![1, 256]⟩
abbrev S1x1x256 : Shape := ⟨3, ![1, 1, 256]⟩
abbrev S128x256 : Shape := ⟨2, ![128, 256]⟩
abbrev S1x128x256 : Shape := ⟨3, ![1, 128, 256]⟩
abbrev S256x256 : Shape := ⟨2, ![256, 256]⟩
abbrev S256x1 : Shape := ⟨2, ![256, 1]⟩
abbrev S256 : Shape := ⟨1, ![256]⟩
abbrev S1x1x128x256 : Shape := ⟨4, ![1, 1, 128, 256]⟩

abbrev nBuf : Space → Nat
  | .hbm => 10
  | .vmem => 15
  | .smem => 0
  | _ => 0

abbrev bufTy : (tb : Table) → Fin (tcTables nBuf tb) → BufTy
  | .hbm, ⟨0, _⟩ => ⟨S16384x5120, .bf16⟩
  | .hbm, ⟨1, _⟩ => ⟨S16384x128, .f32⟩
  | .hbm, ⟨2, _⟩ => ⟨S8x2048x128, .f32⟩
  | .hbm, ⟨3, _⟩ => ⟨S8x2048x8, .f32⟩
  | .hbm, ⟨4, _⟩ => ⟨S8x8x2048, .f32⟩
  | .hbm, ⟨5, _⟩ => ⟨S16384x1024, .bf16⟩
  | .hbm, ⟨6, _⟩ => ⟨S8x8x256x1024, .bf16⟩
  | .hbm, ⟨7, _⟩ => ⟨S8x8x1024x256, .bf16⟩
  | .hbm, ⟨8, _⟩ => ⟨S8x8x1x2048, .f32⟩
  | .hbm, ⟨9, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x8x1024x256, .bf16⟩
  | .local _ .vmem, ⟨5, _⟩ => ⟨S1x8x1024x256, .bf16⟩
  | .local _ .vmem, ⟨6, _⟩ => ⟨S1x8x1x256, .f32⟩
  | .local _ .vmem, ⟨7, _⟩ => ⟨S1x8x1x256, .f32⟩
  | .local _ .vmem, ⟨8, _⟩ => ⟨S2048x128, .f32⟩
  | .local _ .vmem, ⟨9, _⟩ => ⟨S2048x128, .f32⟩
  | .local _ .vmem, ⟨10, _⟩ => ⟨S256x1024, .bf16⟩
  | .local _ .vmem, ⟨11, _⟩ => ⟨S256x1024, .bf16⟩
  | .local _ .vmem, ⟨12, _⟩ => ⟨S8x1x256, .f32⟩
  | .local _ .vmem, ⟨13, _⟩ => ⟨S8x1x256, .f32⟩
  | .local _ .vmem, ⟨14, _⟩ => ⟨S8x128x256, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 1, 8], ![false, false, false]⟩

@[reducible] def k0_t1_loop (i : grid0.Coords) : Scf.Loop 32 :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_129 : BitVec 32 := 1#32
  ⟨c0_i32_128, v127, c1_i32_129⟩
def k0_mult1 (i : grid0.Coords) (k0_t1 : Fin (k0_t1_loop i).trips) : BitVec 32 :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  v580
def k0_off1 (i : grid0.Coords) (k0_t1 : Fin (k0_t1_loop i).trips) : Fin 2 → Nat :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  let v581 : BitVec 32 := v580
  let v582 : Index := Scalar.indexCast v581
  let c0_421 : Index := 0#32
  ![v582.toNat, 0]
def k0_off2 (i : grid0.Coords) (k0_t1 : Fin (k0_t1_loop i).trips) : Fin 2 → Nat :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  let v581 : BitVec 32 := v580
  let v585 : Index := Scalar.indexCast v581
  let c128_423 : Index := 128#32
  ![v585.toNat, 128]
def k0_off3 (i : grid0.Coords) (k0_t1 : Fin (k0_t1_loop i).trips) : Fin 2 → Nat :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  let v581 : BitVec 32 := v580
  let v588 : Index := Scalar.indexCast v581
  let c256_425 : Index := 256#32
  ![v588.toNat, 256]
def k0_off4 (i : grid0.Coords) (k0_t1 : Fin (k0_t1_loop i).trips) : Fin 2 → Nat :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  let v581 : BitVec 32 := v580
  let v591 : Index := Scalar.indexCast v581
  let c384_427 : Index := 384#32
  ![v591.toNat, 384]
def k0_off5 (i : grid0.Coords) (k0_t1 : Fin (k0_t1_loop i).trips) : Fin 2 → Nat :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  let v581 : BitVec 32 := v580
  let v594 : Index := Scalar.indexCast v581
  let c512_429 : Index := 512#32
  ![v594.toNat, 512]
def k0_off6 (i : grid0.Coords) (k0_t1 : Fin (k0_t1_loop i).trips) : Fin 2 → Nat :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  let v581 : BitVec 32 := v580
  let v597 : Index := Scalar.indexCast v581
  let c640_431 : Index := 640#32
  ![v597.toNat, 640]
def k0_off7 (i : grid0.Coords) (k0_t1 : Fin (k0_t1_loop i).trips) : Fin 2 → Nat :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  let v581 : BitVec 32 := v580
  let v600 : Index := Scalar.indexCast v581
  let c768_433 : Index := 768#32
  ![v600.toNat, 768]
def k0_off8 (i : grid0.Coords) (k0_t1 : Fin (k0_t1_loop i).trips) : Fin 2 → Nat :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  let v581 : BitVec 32 := v580
  let v603 : Index := Scalar.indexCast v581
  let c896_435 : Index := 896#32
  ![v603.toNat, 896]
def k0_off9 (i : grid0.Coords) (k0_t1 : Fin (k0_t1_loop i).trips) : Fin 2 → Nat :=
  let c0_i32_128 : BitVec 32 := 0#32
  let c1_i32_129 : BitVec 32 := 1#32
  let arg12 : BitVec 32 := Scf.iv c0_i32_128 c1_i32_129 k0_t1
  let c256_i32_420 : BitVec 32 := 256#32
  let v580 : BitVec 32 := Scalar.muli arg12 c256_i32_420
  let v581 : BitVec 32 := v580
  let v606 : Index := Scalar.indexCast v581
  let c0_437 : Index := 0#32
  ![v606.toNat, 0]
def k0_off10 (i : grid0.Coords) (k0_t1 : Fin (k0_t1_loop i).trips) : Fin 4 → Nat :=
  let c0_478 : Index := 0#32
  let c0_i32_128 : BitVec 32 := 0#32
  let c1_i32_129 : BitVec 32 := 1#32
  let arg12 : BitVec 32 := Scf.iv c0_i32_128 c1_i32_129 k0_t1
  let v744 : Index := Scalar.indexCast arg12
  let c0_479 : Index := 0#32
  let c0_480 : Index := 0#32
  ![0, v744.toNat, 0, 0]
def k0_off11 (i : grid0.Coords) (k0_t1 : Fin (k0_t1_loop i).trips) : Fin 4 → Nat :=
  let c0_482 : Index := 0#32
  let c0_i32_128 : BitVec 32 := 0#32
  let c1_i32_129 : BitVec 32 := 1#32
  let arg12 : BitVec 32 := Scf.iv c0_i32_128 c1_i32_129 k0_t1
  let v749 : Index := Scalar.indexCast arg12
  let c128_483 : Index := 128#32
  let c0_484 : Index := 0#32
  ![0, v749.toNat, 128, 0]
def k0_off12 (i : grid0.Coords) (k0_t1 : Fin (k0_t1_loop i).trips) : Fin 4 → Nat :=
  let c0_486 : Index := 0#32
  let c0_i32_128 : BitVec 32 := 0#32
  let c1_i32_129 : BitVec 32 := 1#32
  let arg12 : BitVec 32 := Scf.iv c0_i32_128 c1_i32_129 k0_t1
  let v754 : Index := Scalar.indexCast arg12
  let c256_487 : Index := 256#32
  let c0_488 : Index := 0#32
  ![0, v754.toNat, 256, 0]
def k0_off13 (i : grid0.Coords) (k0_t1 : Fin (k0_t1_loop i).trips) : Fin 4 → Nat :=
  let c0_490 : Index := 0#32
  let c0_i32_128 : BitVec 32 := 0#32
  let c1_i32_129 : BitVec 32 := 1#32
  let arg12 : BitVec 32 := Scf.iv c0_i32_128 c1_i32_129 k0_t1
  let v759 : Index := Scalar.indexCast arg12
  let c384_491 : Index := 384#32
  let c0_492 : Index := 0#32
  ![0, v759.toNat, 384, 0]
def k0_off14 (i : grid0.Coords) (k0_t1 : Fin (k0_t1_loop i).trips) : Fin 4 → Nat :=
  let c0_494 : Index := 0#32
  let c0_i32_128 : BitVec 32 := 0#32
  let c1_i32_129 : BitVec 32 := 1#32
  let arg12 : BitVec 32 := Scf.iv c0_i32_128 c1_i32_129 k0_t1
  let v764 : Index := Scalar.indexCast arg12
  let c512_495 : Index := 512#32
  let c0_496 : Index := 0#32
  ![0, v764.toNat, 512, 0]
def k0_off15 (i : grid0.Coords) (k0_t1 : Fin (k0_t1_loop i).trips) : Fin 4 → Nat :=
  let c0_498 : Index := 0#32
  let c0_i32_128 : BitVec 32 := 0#32
  let c1_i32_129 : BitVec 32 := 1#32
  let arg12 : BitVec 32 := Scf.iv c0_i32_128 c1_i32_129 k0_t1
  let v769 : Index := Scalar.indexCast arg12
  let c640_499 : Index := 640#32
  let c0_500 : Index := 0#32
  ![0, v769.toNat, 640, 0]
def k0_off16 (i : grid0.Coords) (k0_t1 : Fin (k0_t1_loop i).trips) : Fin 4 → Nat :=
  let c0_502 : Index := 0#32
  let c0_i32_128 : BitVec 32 := 0#32
  let c1_i32_129 : BitVec 32 := 1#32
  let arg12 : BitVec 32 := Scf.iv c0_i32_128 c1_i32_129 k0_t1
  let v774 : Index := Scalar.indexCast arg12
  let c768_503 : Index := 768#32
  let c0_504 : Index := 0#32
  ![0, v774.toNat, 768, 0]
def k0_off17 (i : grid0.Coords) (k0_t1 : Fin (k0_t1_loop i).trips) : Fin 4 → Nat :=
  let c0_506 : Index := 0#32
  let c0_i32_128 : BitVec 32 := 0#32
  let c1_i32_129 : BitVec 32 := 1#32
  let arg12 : BitVec 32 := Scf.iv c0_i32_128 c1_i32_129 k0_t1
  let v779 : Index := Scalar.indexCast arg12
  let c896_507 : Index := 896#32
  let c0_508 : Index := 0#32
  ![0, v779.toNat, 896, 0]
@[reducible] def k0_t2_loop (i : grid0.Coords) : Scf.Loop 32 :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let v124 : BitVec 32 := Scalar.addi c0_i32_128 v123
  let c1_i32_130 : BitVec 32 := 1#32
  ⟨v127, v124, c1_i32_130⟩
def k0_mult2 (i : grid0.Coords) (k0_t2 : Fin (k0_t2_loop i).trips) : BitVec 32 :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  v580
def k0_off18 (i : grid0.Coords) (k0_t2 : Fin (k0_t2_loop i).trips) : Fin 2 → Nat :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  let v581 : BitVec 32 := v580
  let v582 : Index := Scalar.indexCast v581
  let c0_421 : Index := 0#32
  ![v582.toNat, 0]
def k0_off19 (i : grid0.Coords) (k0_t2 : Fin (k0_t2_loop i).trips) : Fin 2 → Nat :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  let v581 : BitVec 32 := v580
  let v585 : Index := Scalar.indexCast v581
  let c128_423 : Index := 128#32
  ![v585.toNat, 128]
def k0_off20 (i : grid0.Coords) (k0_t2 : Fin (k0_t2_loop i).trips) : Fin 2 → Nat :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  let v581 : BitVec 32 := v580
  let v588 : Index := Scalar.indexCast v581
  let c256_425 : Index := 256#32
  ![v588.toNat, 256]
def k0_off21 (i : grid0.Coords) (k0_t2 : Fin (k0_t2_loop i).trips) : Fin 2 → Nat :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  let v581 : BitVec 32 := v580
  let v591 : Index := Scalar.indexCast v581
  let c384_427 : Index := 384#32
  ![v591.toNat, 384]
def k0_off22 (i : grid0.Coords) (k0_t2 : Fin (k0_t2_loop i).trips) : Fin 2 → Nat :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  let v581 : BitVec 32 := v580
  let v594 : Index := Scalar.indexCast v581
  let c512_429 : Index := 512#32
  ![v594.toNat, 512]
def k0_off23 (i : grid0.Coords) (k0_t2 : Fin (k0_t2_loop i).trips) : Fin 2 → Nat :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  let v581 : BitVec 32 := v580
  let v597 : Index := Scalar.indexCast v581
  let c640_431 : Index := 640#32
  ![v597.toNat, 640]
def k0_off24 (i : grid0.Coords) (k0_t2 : Fin (k0_t2_loop i).trips) : Fin 2 → Nat :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  let v581 : BitVec 32 := v580
  let v600 : Index := Scalar.indexCast v581
  let c768_433 : Index := 768#32
  ![v600.toNat, 768]
def k0_off25 (i : grid0.Coords) (k0_t2 : Fin (k0_t2_loop i).trips) : Fin 2 → Nat :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  let v581 : BitVec 32 := v580
  let v603 : Index := Scalar.indexCast v581
  let c896_435 : Index := 896#32
  ![v603.toNat, 896]
def k0_off26 (i : grid0.Coords) (k0_t2 : Fin (k0_t2_loop i).trips) : Fin 2 → Nat :=
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let c256_i32_420 : BitVec 32 := 256#32
  let v580 : BitVec 32 := Scalar.muli arg12 c256_i32_420
  let v581 : BitVec 32 := v580
  let v606 : Index := Scalar.indexCast v581
  let c0_437 : Index := 0#32
  ![v606.toNat, 0]
def k0_off27 (i : grid0.Coords) (k0_t2 : Fin (k0_t2_loop i).trips) : Fin 4 → Nat :=
  let c0_478 : Index := 0#32
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let v744 : Index := Scalar.indexCast arg12
  let c0_479 : Index := 0#32
  let c0_480 : Index := 0#32
  ![0, v744.toNat, 0, 0]
def k0_off28 (i : grid0.Coords) (k0_t2 : Fin (k0_t2_loop i).trips) : Fin 4 → Nat :=
  let c0_482 : Index := 0#32
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let v749 : Index := Scalar.indexCast arg12
  let c128_483 : Index := 128#32
  let c0_484 : Index := 0#32
  ![0, v749.toNat, 128, 0]
def k0_off29 (i : grid0.Coords) (k0_t2 : Fin (k0_t2_loop i).trips) : Fin 4 → Nat :=
  let c0_486 : Index := 0#32
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let v754 : Index := Scalar.indexCast arg12
  let c256_487 : Index := 256#32
  let c0_488 : Index := 0#32
  ![0, v754.toNat, 256, 0]
def k0_off30 (i : grid0.Coords) (k0_t2 : Fin (k0_t2_loop i).trips) : Fin 4 → Nat :=
  let c0_490 : Index := 0#32
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let v759 : Index := Scalar.indexCast arg12
  let c384_491 : Index := 384#32
  let c0_492 : Index := 0#32
  ![0, v759.toNat, 384, 0]
def k0_off31 (i : grid0.Coords) (k0_t2 : Fin (k0_t2_loop i).trips) : Fin 4 → Nat :=
  let c0_494 : Index := 0#32
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let v764 : Index := Scalar.indexCast arg12
  let c512_495 : Index := 512#32
  let c0_496 : Index := 0#32
  ![0, v764.toNat, 512, 0]
def k0_off32 (i : grid0.Coords) (k0_t2 : Fin (k0_t2_loop i).trips) : Fin 4 → Nat :=
  let c0_498 : Index := 0#32
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let v769 : Index := Scalar.indexCast arg12
  let c640_499 : Index := 640#32
  let c0_500 : Index := 0#32
  ![0, v769.toNat, 640, 0]
def k0_off33 (i : grid0.Coords) (k0_t2 : Fin (k0_t2_loop i).trips) : Fin 4 → Nat :=
  let c0_502 : Index := 0#32
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let v774 : Index := Scalar.indexCast arg12
  let c768_503 : Index := 768#32
  let c0_504 : Index := 0#32
  ![0, v774.toNat, 768, 0]
def k0_off34 (i : grid0.Coords) (k0_t2 : Fin (k0_t2_loop i).trips) : Fin 4 → Nat :=
  let c0_506 : Index := 0#32
  let c0_i32_128 : BitVec 32 := 0#32
  let arg2 : BitVec 32 := BitVec.ofNat 32 (i 2).val
  let v123 : BitVec 32 := Scalar.subi arg2 c0_i32_128
  let c1_i32 : BitVec 32 := 1#32
  let v125 : BitVec 32 := Scalar.divsi v123 c1_i32
  let v126 : BitVec 32 := Scalar.muli v125 c1_i32
  let v127 : BitVec 32 := Scalar.addi c0_i32_128 v126
  let c1_i32_130 : BitVec 32 := 1#32
  let arg12 : BitVec 32 := Scf.iv v127 c1_i32_130 k0_t2
  let v779 : Index := Scalar.indexCast arg12
  let c896_507 : Index := 896#32
  let c0_508 : Index := 0#32
  ![0, v779.toNat, 896, 0]
def k0_mult3 (i : grid0.Coords) : BitVec 32 :=
  let arg2 : BitVec 32 := BitVec.ofNat 32 (i 2).val
  let c256_i32 : BitVec 32 := 256#32
  let v128 : BitVec 32 := Scalar.muli arg2 c256_i32
  v128
def k0_off35 (i : grid0.Coords) : Fin 2 → Nat :=
  let arg2 : BitVec 32 := BitVec.ofNat 32 (i 2).val
  let c256_i32 : BitVec 32 := 256#32
  let v128 : BitVec 32 := Scalar.muli arg2 c256_i32
  let v129 : BitVec 32 := v128
  let v130 : Index := Scalar.indexCast v129
  let c0_131 : Index := 0#32
  ![v130.toNat, 0]
def k0_off36 (i : grid0.Coords) : Fin 2 → Nat :=
  let arg2 : BitVec 32 := BitVec.ofNat 32 (i 2).val
  let c256_i32 : BitVec 32 := 256#32
  let v128 : BitVec 32 := Scalar.muli arg2 c256_i32
  let v129 : BitVec 32 := v128
  let v133 : Index := Scalar.indexCast v129
  let c128_133 : Index := 128#32
  ![v133.toNat, 128]
def k0_off37 (i : grid0.Coords) : Fin 2 → Nat :=
  let arg2 : BitVec 32 := BitVec.ofNat 32 (i 2).val
  let c256_i32 : BitVec 32 := 256#32
  let v128 : BitVec 32 := Scalar.muli arg2 c256_i32
  let v129 : BitVec 32 := v128
  let v136 : Index := Scalar.indexCast v129
  let c256_135 : Index := 256#32
  ![v136.toNat, 256]
def k0_off38 (i : grid0.Coords) : Fin 2 → Nat :=
  let arg2 : BitVec 32 := BitVec.ofNat 32 (i 2).val
  let c256_i32 : BitVec 32 := 256#32
  let v128 : BitVec 32 := Scalar.muli arg2 c256_i32
  let v129 : BitVec 32 := v128
  let v139 : Index := Scalar.indexCast v129
  let c384_137 : Index := 384#32
  ![v139.toNat, 384]
def k0_off39 (i : grid0.Coords) : Fin 2 → Nat :=
  let arg2 : BitVec 32 := BitVec.ofNat 32 (i 2).val
  let c256_i32 : BitVec 32 := 256#32
  let v128 : BitVec 32 := Scalar.muli arg2 c256_i32
  let v129 : BitVec 32 := v128
  let v142 : Index := Scalar.indexCast v129
  let c512_139 : Index := 512#32
  ![v142.toNat, 512]
def k0_off40 (i : grid0.Coords) : Fin 2 → Nat :=
  let arg2 : BitVec 32 := BitVec.ofNat 32 (i 2).val
  let c256_i32 : BitVec 32 := 256#32
  let v128 : BitVec 32 := Scalar.muli arg2 c256_i32
  let v129 : BitVec 32 := v128
  let v145 : Index := Scalar.indexCast v129
  let c640_141 : Index := 640#32
  ![v145.toNat, 640]
def k0_off41 (i : grid0.Coords) : Fin 2 → Nat :=
  let arg2 : BitVec 32 := BitVec.ofNat 32 (i 2).val
  let c256_i32 : BitVec 32 := 256#32
  let v128 : BitVec 32 := Scalar.muli arg2 c256_i32
  let v129 : BitVec 32 := v128
  let v148 : Index := Scalar.indexCast v129
  let c768_143 : Index := 768#32
  ![v148.toNat, 768]
def k0_off42 (i : grid0.Coords) : Fin 2 → Nat :=
  let arg2 : BitVec 32 := BitVec.ofNat 32 (i 2).val
  let c256_i32 : BitVec 32 := 256#32
  let v128 : BitVec 32 := Scalar.muli arg2 c256_i32
  let v129 : BitVec 32 := v128
  let v151 : Index := Scalar.indexCast v129
  let c896_145 : Index := 896#32
  ![v151.toNat, 896]
def k0_off43 (i : grid0.Coords) : Fin 2 → Nat :=
  let arg2 : BitVec 32 := BitVec.ofNat 32 (i 2).val
  let c256_i32 : BitVec 32 := 256#32
  let v128 : BitVec 32 := Scalar.muli arg2 c256_i32
  let v129 : BitVec 32 := v128
  let v154 : Index := Scalar.indexCast v129
  let c0_147 : Index := 0#32
  ![v154.toNat, 0]
def k0_off44 (i : grid0.Coords) : Fin 4 → Nat :=
  let c0_196 : Index := 0#32
  let arg2 : BitVec 32 := BitVec.ofNat 32 (i 2).val
  let v308 : Index := Scalar.indexCast arg2
  let c0_197 : Index := 0#32
  let c0_198 : Index := 0#32
  ![0, v308.toNat, 0, 0]
def k0_off45 (i : grid0.Coords) : Fin 4 → Nat :=
  let c0_200 : Index := 0#32
  let arg2 : BitVec 32 := BitVec.ofNat 32 (i 2).val
  let v313 : Index := Scalar.indexCast arg2
  let c128_201 : Index := 128#32
  let c0_202 : Index := 0#32
  ![0, v313.toNat, 128, 0]
def k0_off46 (i : grid0.Coords) : Fin 4 → Nat :=
  let c0_204 : Index := 0#32
  let arg2 : BitVec 32 := BitVec.ofNat 32 (i 2).val
  let v318 : Index := Scalar.indexCast arg2
  let c256_205 : Index := 256#32
  let c0_206 : Index := 0#32
  ![0, v318.toNat, 256, 0]
def k0_off47 (i : grid0.Coords) : Fin 4 → Nat :=
  let c0_208 : Index := 0#32
  let arg2 : BitVec 32 := BitVec.ofNat 32 (i 2).val
  let v323 : Index := Scalar.indexCast arg2
  let c384_209 : Index := 384#32
  let c0_210 : Index := 0#32
  ![0, v323.toNat, 384, 0]
def k0_off48 (i : grid0.Coords) : Fin 4 → Nat :=
  let c0_212 : Index := 0#32
  let arg2 : BitVec 32 := BitVec.ofNat 32 (i 2).val
  let v328 : Index := Scalar.indexCast arg2
  let c512_213 : Index := 512#32
  let c0_214 : Index := 0#32
  ![0, v328.toNat, 512, 0]
def k0_off49 (i : grid0.Coords) : Fin 4 → Nat :=
  let c0_216 : Index := 0#32
  let arg2 : BitVec 32 := BitVec.ofNat 32 (i 2).val
  let v333 : Index := Scalar.indexCast arg2
  let c640_217 : Index := 640#32
  let c0_218 : Index := 0#32
  ![0, v333.toNat, 640, 0]
def k0_off50 (i : grid0.Coords) : Fin 4 → Nat :=
  let c0_220 : Index := 0#32
  let arg2 : BitVec 32 := BitVec.ofNat 32 (i 2).val
  let v338 : Index := Scalar.indexCast arg2
  let c768_221 : Index := 768#32
  let c0_222 : Index := 0#32
  ![0, v338.toNat, 768, 0]
def k0_off51 (i : grid0.Coords) : Fin 4 → Nat :=
  let c0_224 : Index := 0#32
  let arg2 : BitVec 32 := BitVec.ofNat 32 (i 2).val
  let v343 : Index := Scalar.indexCast arg2
  let c896_225 : Index := 896#32
  let c0_226 : Index := 0#32
  ![0, v343.toNat, 896, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x5120 : Shape := ⟨2, ![16384, 5120]⟩
abbrev S16384x128 : Shape := ⟨2, ![16384, 128]⟩
abbrev S16384x1024 : Shape := ⟨2, ![16384, 1024]⟩
abbrev S8x2048x8x128 : Shape := ⟨4, ![8, 2048, 8, 128]⟩
abbrev S8x2048x128 : Shape := ⟨3, ![8, 2048, 128]⟩
abbrev S8x2048x8 : Shape := ⟨3, ![8, 2048, 8]⟩
abbrev S8x8x2048 : Shape := ⟨3, ![8, 8, 2048]⟩
abbrev S8x8x2048x2048 : Shape := ⟨4, ![8, 8, 2048, 2048]⟩
abbrev S_ : Shape := ⟨0, ![]⟩
abbrev S8x8x2048x1 : Shape := ⟨4, ![8, 8, 2048, 1]⟩
abbrev S8x8x1x2048 : Shape := ⟨4, ![8, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x128x2048 : Shape := ⟨4, ![8, 8, 128, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S16384x128, .f32⟩
  | .hbm, ⟨2, _⟩ => ⟨S16384x1024, .bf16⟩
  | .hbm, ⟨3, _⟩ => ⟨S16384x1024, .f32⟩
  | .hbm, ⟨4, _⟩ => ⟨S8x2048x8x128, .f32⟩
  | .hbm, ⟨5, _⟩ => ⟨S16384x1024, .bf16⟩
  | .hbm, ⟨6, _⟩ => ⟨S16384x1024, .f32⟩
  | .hbm, ⟨7, _⟩ => ⟨S8x2048x8x128, .f32⟩
  | .hbm, ⟨8, _⟩ => ⟨S16384x1024, .bf16⟩
  | .hbm, ⟨9, _⟩ => ⟨S16384x1024, .f32⟩
  | .hbm, ⟨10, _⟩ => ⟨S8x2048x8x128, .f32⟩
  | .hbm, ⟨11, _⟩ => ⟨S8x2048x128, .f32⟩
  | .hbm, ⟨12, _⟩ => ⟨S8x2048x8, .f32⟩
  | .hbm, ⟨13, _⟩ => ⟨S8x8x2048, .f32⟩
  | .hbm, ⟨14, _⟩ => ⟨S8x8x2048x2048, .f32⟩
  | .hbm, ⟨15, _⟩ => ⟨S_, .f32⟩
  | .hbm, ⟨16, _⟩ => ⟨S8x8x2048x2048, .f32⟩
  | .hbm, ⟨17, _⟩ => ⟨S8x8x2048x2048, .f32⟩
  | .hbm, ⟨18, _⟩ => ⟨S8x8x2048x1, .f32⟩
  | .hbm, ⟨19, _⟩ => ⟨S8x8x2048x2048, .f32⟩
  | .hbm, ⟨20, _⟩ => ⟨S8x8x2048x2048, .f32⟩
  | .hbm, ⟨21, _⟩ => ⟨S8x8x1x2048, .f32⟩
  | .hbm, ⟨22, _⟩ => ⟨S8x8x2048x2048, .f32⟩
  | .hbm, ⟨23, _⟩ => ⟨S8x8x2048x2048, .f32⟩
  | .hbm, ⟨24, _⟩ => ⟨S2048, .i32⟩
  | .hbm, ⟨25, _⟩ => ⟨S2048x1, .i32⟩
  | .hbm, ⟨26, _⟩ => ⟨S1x2048, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S8x8x2048x2048, .i1⟩
  | .hbm, ⟨33, _⟩ => ⟨S8x8x2048x2048, .f32⟩
  | .hbm, ⟨34, _⟩ => ⟨S8x8x2048x2048, .f32⟩
  | .hbm, ⟨35, _⟩ => ⟨S_, .f32⟩
  | .hbm, ⟨36, _⟩ => ⟨S8x8x2048, .f32⟩
  | .hbm, ⟨37, _⟩ => ⟨S_, .f32⟩
  | .hbm, ⟨38, _⟩ => ⟨S8x8x2048, .f32⟩
  | .hbm, ⟨39, _⟩ => ⟨S8x8x2048, .f32⟩
  | .hbm, ⟨40, _⟩ => ⟨S8x8x2048x1, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S8x8x2048, .f32⟩
  | .hbm, ⟨46, _⟩ => ⟨S8x8x2048x1, .f32⟩
  | .hbm, ⟨47, _⟩ => ⟨S8x8x2048x2048, .f32⟩
  | .hbm, ⟨48, _⟩ => ⟨S8x8x2048x2048, .f32⟩
  | .hbm, ⟨49, _⟩ => ⟨S8x8x128x2048, .f32⟩
  | .hbm, ⟨50, _⟩ => ⟨S8x2048x8x128, .f32⟩
  | .hbm, ⟨51, _⟩ => ⟨S16384x1024, .f32⟩
  | .hbm, ⟨52, _⟩ => ⟨S16384x1024, .bf16⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Mid.lean ====
abbrev S16384x2048 : Shape := ⟨2, ![16384, 2048]⟩
abbrev S2x2048 : Shape := ⟨2, ![2, 2048]⟩
abbrev S2x2048x5632 : Shape := ⟨3, ![2, 2048, 5632]⟩
abbrev S1x2048 : Shape := ⟨2, ![1, 2048]⟩
abbrev S2048 : Shape := ⟨1, ![2048]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MidReferenceIdeal.lean ====
abbrev S16384x2048 : Shape := ⟨2, ![16384, 2048]⟩
abbrev S2x2048 : Shape := ⟨2, ![2, 2048]⟩
abbrev S2x2048x5632 : Shape := ⟨3, ![2, 2048, 5632]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x5632 : Shape := ⟨3, ![1, 2048, 5632]⟩
abbrev S2048x5632 : Shape := ⟨2, ![2048, 5632]⟩
abbrev S16384x5632 : Shape := ⟨2, ![16384, 5632]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S1x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x5632, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S1x2048x5632, .f32⟩
  | .hbm, ⟨35, _⟩ => ⟨S2048x5632, .f32⟩
  | .hbm, ⟨36, _⟩ => ⟨S16384x5632, .f32⟩
  | .hbm, ⟨37, _⟩ => ⟨S16384x5632, .f32⟩
  | .hbm, ⟨38, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Down.lean ====
abbrev S16384x5632 : Shape := ⟨2, ![16384, 5632]⟩
abbrev S2x5632x2048 : Shape := ⟨3, ![2, 5632, 2048]⟩
abbrev S16384x2048 : Shape := ⟨2, ![16384, 2048]⟩
abbrev S1024x5632 : Shape := ⟨2, ![1024, 5632]⟩
abbrev S1x5632x1024 : Shape := ⟨3, ![1, 5632, 1024]⟩
abbrev S1024x1024 : Shape := ⟨2, ![1024, 1024]⟩
abbrev S5632x1024 : Shape := ⟨2, ![5632, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2x5632x2048, .bf16⟩
  | .hbm, ⟨4, _⟩ => ⟨S16384x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S16384x5632 : Shape := ⟨2, ![16384, 5632]⟩
abbrev S2x5632x2048 : Shape := ⟨3, ![2, 5632, 2048]⟩
abbrev S16384x2048 : Shape := ⟨2, ![16384, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S16384x5632, .f32⟩
  | .hbm, ⟨4, _⟩ => ⟨S1x5632x2048, .f32⟩
  | .hbm, ⟨5, _⟩ => ⟨S5632x2048, .f32⟩
  | .hbm, ⟨6, _⟩ => ⟨S16384x2048, .f32⟩
  | .hbm, ⟨7, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Last.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x2048 : Shape := ⟨2, ![1, 2048]⟩
abbrev S512x5632 : Shape := ⟨2, ![512, 5632]⟩
abbrev S1x5632x1024 : Shape := ⟨3, ![1, 5632, 1024]⟩
abbrev S512x1024 : Shape := ⟨2, ![512, 1024]⟩
abbrev S512x2048 : Shape := ⟨2, ![512, 2048]⟩
abbrev S2x512x1024 : Shape := ⟨3, ![2, 512, 1024]⟩
abbrev S5632x1024 : Shape := ⟨2, ![5632, 1024]⟩
abbrev S1x512x1024 : Shape := ⟨3, ![1, 512, 1024]⟩
abbrev S512 : Shape := ⟨1, ![512]⟩
abbrev S512x1 : Shape := ⟨2, ![512, 1]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S2x5632x2048, .bf16⟩
  | .hbm, ⟨5, _⟩ => ⟨S1x2048, .f32⟩
  | .hbm, ⟨6, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S2x512x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def k0_off1 (i : grid0.Coords) : Fin 3 → Nat :=
  let arg1 : BitVec 32 := BitVec.ofNat 32 (i 1).val
  let v6 : Index := Scalar.indexCast arg1
  let c0_6 : Index := 0#32
  let c0_7 : Index := 0#32
  ![v6.toNat, 0, 0]
def k0_cond1 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32 : BitVec 32 := 0#32
  let v12 : BitVec 1 := Scalar.cmpi .ne v11 c0_i32
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== LastReferenceIdeal.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S16384x5632, .f32⟩
  | .hbm, ⟨5, _⟩ => ⟨S1x5632x2048, .f32⟩
  | .hbm, ⟨6, _⟩ => ⟨S5632x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Out.lean ====
abbrev S16384x4096 : Shape := ⟨2, ![16384, 4096]⟩
abbrev S1x4096x2048 : Shape := ⟨3, ![1, 4096, 2048]⟩
abbrev S16384x2048 : Shape := ⟨2, ![16384, 2048]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S16384x2048, .f32⟩
  | .hbm, ⟨3, _⟩ => ⟨S1x4096x2048, .bf16⟩
  | .hbm, ⟨4, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S16384x4096 : Shape := ⟨2, ![16384, 4096]⟩
abbrev S1x4096x2048 : Shape := ⟨3, ![1, 4096, 2048]⟩
abbrev S16384x2048 : Shape := ⟨2, ![16384, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S16384x2048, .f32⟩
  | .hbm, ⟨3, _⟩ => ⟨S16384x4096, .f32⟩
  | .hbm, ⟨4, _⟩ => ⟨S4096x2048, .f32⟩
  | .hbm, ⟨5, _⟩ => ⟨S16384x2048, .f32⟩
  | .hbm, ⟨6, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S16384x2048 : Shape := ⟨2, ![16384, 2048]⟩
abbrev S1x2048 : Shape := ⟨2, ![1, 2048]⟩
abbrev S1x2048x5128 : Shape := ⟨3, ![1, 2048, 5128]⟩
abbrev S1x5128x2048 : Shape := ⟨3, ![1, 5128, 2048]⟩
abbrev S1x3072x2048 : Shape := ⟨3, ![1, 3072, 2048]⟩
abbrev S3072x2048 : Shape := ⟨2, ![3072, 2048]⟩
abbrev S1x2048x2048 : Shape := ⟨3, ![1, 2048, 2048]⟩
abbrev S2048x2048 : Shape := ⟨2, ![2048, 2048]⟩
abbrev S5120x2048 : Shape := ⟨2, ![5120, 2048]⟩
abbrev S2048 : Shape := ⟨1, ![2048]⟩
abbrev S1x8x2048 : Shape := ⟨3, ![1, 8, 2048]⟩
abbrev S8x2048 : Shape := ⟨2, ![8, 2048]⟩
abbrev S_ : Shape := ⟨0, ![]⟩
abbrev S128x2048 : Shape := ⟨2, ![128, 2048]⟩
abbrev S16384x5120 : Shape := ⟨2, ![16384, 5120]⟩
abbrev S16384x128 : Shape := ⟨2, ![16384, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 19
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5128, .f32⟩
  | .hbm, ⟨3, _⟩ => ⟨S1x5128x2048, .f32⟩
  | .hbm, ⟨4, _⟩ => ⟨S1x5128x2048, .bf16⟩
  | .hbm, ⟨5, _⟩ => ⟨S1x3072x2048, .bf16⟩
  | .hbm, ⟨6, _⟩ => ⟨S3072x2048, .bf16⟩
  | .hbm, ⟨7, _⟩ => ⟨S1x2048x2048, .bf16⟩
  | .hbm, ⟨8, _⟩ => ⟨S2048x2048, .bf16⟩
  | .hbm, ⟨9, _⟩ => ⟨S5120x2048, .bf16⟩
  | .hbm, ⟨10, _⟩ => ⟨S2048, .f32⟩
  | .hbm, ⟨11, _⟩ => ⟨S1x2048, .f32⟩
  | .hbm, ⟨12, _⟩ => ⟨S1x8x2048, .bf16⟩
  | .hbm, ⟨13, _⟩ => ⟨S8x2048, .bf16⟩
  | .hbm, ⟨14, _⟩ => ⟨S_, .i32⟩
  | .hbm, ⟨15, _⟩ => ⟨S_, .bf16⟩
  | .hbm, ⟨16, _⟩ => ⟨S128x2048, .bf16⟩
  | .hbm, ⟨17, _⟩ => ⟨S16384x5120, .bf16⟩
  | .hbm, ⟨18, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S128x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InReferenceIdeal.lean ====
abbrev S16384x2048 : Shape := ⟨2, ![16384, 2048]⟩
abbrev S1x2048 : Shape := ⟨2, ![1, 2048]⟩
abbrev S1x2048x5128 : Shape := ⟨3, ![1, 2048, 5128]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5128 : Shape := ⟨2, ![2048, 5128]⟩
abbrev S16384x5128 : Shape := ⟨2, ![16384, 5128]⟩
abbrev S16384x3072 : Shape := ⟨2, ![16384, 3072]⟩
abbrev S16384x8 : Shape := ⟨2, ![16384, 8]⟩
abbrev S16384x5120 : Shape := ⟨2, ![16384, 5120]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5128, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x5128, .f32⟩
  | .hbm, ⟨21, _⟩ => ⟨S16384x5128, .f32⟩
  | .hbm, ⟨22, _⟩ => ⟨S16384x3072, .f32⟩
  | .hbm, ⟨23, _⟩ => ⟨S16384x8, .f32⟩
  | .hbm, ⟨24, _⟩ => ⟨S16384x2048, .f32⟩
  | .hbm, ⟨25, _⟩ => ⟨S16384x5120, .f32⟩
  | .hbm, ⟨26, _⟩ => ⟨S16384x5120, .bf16⟩
  | .hbm, ⟨27, _⟩ => ⟨S_, .i32⟩
  | .hbm, ⟨28, _⟩ => ⟨S_, .f32⟩
  | .hbm, ⟨29, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== GdnIn.lean ====
abbrev S16384x2048 : Shape := ⟨2, ![16384, 2048]⟩
abbrev S1x2048 : Shape := ⟨2, ![1, 2048]⟩
abbrev S1x2048x12352 : Shape := ⟨3, ![1, 2048, 12352]⟩
abbrev S1x4x8192 : Shape := ⟨3, ![1, 4, 8192]⟩
abbrev S1x12352x2048 : Shape := ⟨3, ![1, 12352, 2048]⟩
abbrev S2048 : Shape := ⟨1, ![2048]⟩
abbrev S4x8192 : Shape := ⟨2, ![4, 8192]⟩
abbrev S_ : Shape := ⟨0, ![]⟩
abbrev S8x8192 : Shape := ⟨2, ![8, 8192]⟩
abbrev S1x64x2048 : Shape := ⟨3, ![1, 64, 2048]⟩
abbrev S64x2048 : Shape := ⟨2, ![64, 2048]⟩
abbrev S128x2048 : Shape := ⟨2, ![128, 2048]⟩
abbrev S16384x12288 : Shape := ⟨2, ![16384, 12288]⟩
abbrev S16384x128 : Shape := ⟨2, ![16384, 128]⟩
abbrev S1024x2048 : Shape := ⟨2, ![1024, 2048]⟩
abbrev S1x1024x2048 : Shape := ⟨3, ![1, 1024, 2048]⟩
abbrev S8x1024 : Shape := ⟨2, ![8, 1024]⟩
abbrev S1024x1024 : Shape := ⟨2, ![1024, 1024]⟩
abbrev S1024x128 : Shape := ⟨2, ![1024, 128]⟩
abbrev S1032x1024 : Shape := ⟨2, ![1032, 1024]⟩
abbrev S8x8x1024 : Shape := ⟨3, ![8, 8, 1024]⟩
abbrev S1024 : Shape := ⟨1, ![1024]⟩
abbrev S1024x1 : Shape := ⟨2, ![1024, 1]⟩
abbrev S1x8x1024 : Shape := ⟨3, ![1, 8, 1024]⟩
abbrev S1x256x2048 : Shape := ⟨3, ![1, 256, 2048]⟩
abbrev S256x2048 : Shape := ⟨2, ![256, 2048]⟩
abbrev S1024x256 : Shape := ⟨2, ![1024, 256]⟩
abbrev S136x128 : Shape := ⟨2, ![136, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩

abbrev nBuf : Space → Nat
  | .hbm => 19
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x12352, .f32⟩
  | .hbm, ⟨3, _⟩ => ⟨S1x4x8192, .f32⟩
  | .hbm, ⟨4, _⟩ => ⟨S1x12352x2048, .f32⟩
  | .hbm, ⟨5, _⟩ => ⟨S1x12352x2048, .bf16⟩
  | .hbm, ⟨6, _⟩ => ⟨S2048, .f32⟩
  | .hbm, ⟨7, _⟩ => ⟨S1x2048, .f32⟩
  | .hbm, ⟨8, _⟩ => ⟨S4x8192, .f32⟩
  | .hbm, ⟨9, _⟩ => ⟨S_, .i32⟩
  | .hbm, ⟨10, _⟩ => ⟨S_, .f32⟩
  | .hbm, ⟨11, _⟩ => ⟨S8x8192, .f32⟩
  | .hbm, ⟨12, _⟩ => ⟨S1x64x2048, .bf16⟩
  | .hbm, ⟨13, _⟩ => ⟨S64x2048, .bf16⟩
  | .hbm, ⟨14, _⟩ => ⟨S_, .i32⟩
  | .hbm, ⟨15, _⟩ => ⟨S_, .bf16⟩
  | .hbm, ⟨16, _⟩ => ⟨S128x2048, .bf16⟩
  | .hbm, ⟨17, _⟩ => ⟨S16384x12288, .bf16⟩
  | .hbm, ⟨18, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1024x2048, .bf16⟩
  | .local _ .vmem, ⟨4, _⟩ => ⟨S1x1024x2048, .bf16⟩
  | .local _ .vmem, ⟨5, _⟩ => ⟨S8x1024, .f32⟩
  | .local _ .vmem, ⟨6, _⟩ => ⟨S8x1024, .f32⟩
  | .local _ .vmem, ⟨7, _⟩ => ⟨S128x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .vmem, ⟨13, _⟩ => ⟨S1032x1024, .f32⟩
  | .local _ .vmem, ⟨14, _⟩ => ⟨S8x8x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 12], ![false, false]⟩

def k0_cond4 (i : grid0.Coords) : BitVec 1 :=
  let arg1 : BitVec 32 := BitVec.ofNat 32 (i 1).val
  let c4_i32 : BitVec 32 := 4#32
  let v11 : BitVec 1 := Scalar.cmpi .slt arg1 c4_i32
  let v12 : BitVec 32 := Scalar.extui v11
  let c0_i32_5 : BitVec 32 := 0#32
  let v13 : BitVec 1 := Scalar.cmpi .ne v12 c0_i32_5
  v13

def k0_off1 (i : grid0.Coords) : Fin 3 → Nat :=
  let arg1 : BitVec 32 := BitVec.ofNat 32 (i 1).val
  let v30 : Index := Scalar.indexCast arg1
  let c0 : Index := 0#32
  let c0_14 : Index := 0#32
  ![v30.toNat, 0, 0]
def k0_cond5 (i : grid0.Coords) : BitVec 1 :=
  let arg1 : BitVec 32 := BitVec.ofNat 32 (i 1).val
  let c4_i32_6 : BitVec 32 := 4#32
  let v14 : BitVec 1 := Scalar.cmpi .sge arg1 c4_i32_6
  let c8_i32_7 : BitVec 32 := 8#32
  let v15 : BitVec 1 := Scalar.cmpi .slt arg1 c8_i32_7
  let v16 : BitVec 1 := Scalar.andi v14 v15
  let v17 : BitVec 32 := Scalar.extui v16
  let c0_i32_8 : BitVec 32 := 0#32
  let v18 : BitVec 1 := Scalar.cmpi .ne v17 c0_i32_8
  v18

def k0_off2 (i : grid0.Coords) : Fin 3 → Nat :=
  let arg1 : BitVec 32 := BitVec.ofNat 32 (i 1).val
  let v30 : Index := Scalar.indexCast arg1
  let c0 : Index := 0#32
  let c0_14 : Index := 0#32
  ![v30.toNat, 0, 0]
def k0_cond3 (i : grid0.Coords) : BitVec 1 :=
  let arg1 : BitVec 32 := BitVec.ofNat 32 (i 1).val
  let c8_i32 : BitVec 32 := 8#32
  let v8 : BitVec 1 := Scalar.cmpi .sge arg1 c8_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GdnInReferenceIdeal.lean ====
abbrev S16384x2048 : Shape := ⟨2, ![16384, 2048]⟩
abbrev S1x2048 : Shape := ⟨2, ![1, 2048]⟩
abbrev S1x2048x12352 : Shape := ⟨3, ![1, 2048, 12352]⟩
abbrev S1x4x8192 : Shape := ⟨3, ![1, 4, 8192]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x12352 : Shape := ⟨2, ![2048, 12352]⟩
abbrev S16384x12352 : Shape := ⟨2, ![16384, 12352]⟩
abbrev S16384x8192 : Shape := ⟨2, ![16384, 8192]⟩
abbrev S16384x4096 : Shape := ⟨2, ![16384, 4096]⟩
abbrev S16384x64 : Shape := ⟨2, ![16384, 64]⟩
abbrev S8x2048x8192 : Shape := ⟨3, ![8, 2048, 8192]⟩
abbrev S4x8192 : Shape := ⟨2, ![4, 8192]⟩
abbrev S8x2051x8192 : Shape := ⟨3, ![8, 2051, 8192]⟩
abbrev S1x8192 : Shape := ⟨2, ![1, 8192]⟩
abbrev S8192 : Shape := ⟨1, ![8192]⟩
abbrev S1x1x8192 : Shape := ⟨3, ![1, 1, 8192]⟩
abbrev S16384x16x128 : Shape := ⟨3, ![16384, 16, 128]⟩
abbrev S16384x16 : Shape := ⟨2, ![16384, 16]⟩
abbrev S16384x16x1 : Shape := ⟨3, ![16384, 16, 1]⟩
abbrev S16384x12288 : Shape := ⟨2, ![16384, 12288]⟩
abbrev S16384x128 : Shape := ⟨2, ![16384, 128]⟩

abbrev nBuf : Space → Nat
  | .hbm => 106
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x12352, .f32⟩
  | .hbm, ⟨3, _⟩ => ⟨S1x4x8192, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x12352, .f32⟩
  | .hbm, ⟨22, _⟩ => ⟨S16384x12352, .f32⟩
  | .hbm, ⟨23, _⟩ => ⟨S16384x8192, .f32⟩
  | .hbm, ⟨24, _⟩ => ⟨S16384x4096, .f32⟩
  | .hbm, ⟨25, _⟩ => ⟨S16384x64, .f32⟩
  | .hbm, ⟨26, _⟩ => ⟨S8x2048x8192, .f32⟩
  | .hbm, ⟨27, _⟩ => ⟨S4x8192, .f32⟩
  | .hbm, ⟨28, _⟩ => ⟨S_, .i32⟩
  | .hbm, ⟨29, _⟩ => ⟨S_, .f32⟩
  | .hbm, ⟨30, _⟩ => ⟨S8x2051x8192, .f32⟩
  | .hbm, ⟨31, _⟩ => ⟨S1x8192, .f32⟩
  | .hbm, ⟨32, _⟩ => ⟨S8192, .f32⟩
  | .hbm, ⟨33, _⟩ => ⟨S8x2048x8192, .f32⟩
  | .hbm, ⟨34, _⟩ => ⟨S1x1x8192, .f32⟩
  | .hbm, ⟨35, _⟩ => ⟨S8x2048x8192, .f32⟩
  | .hbm, ⟨36, _⟩ => ⟨S8x2048x8192, .f32⟩
  | .hbm, ⟨37, _⟩ => ⟨S_, .f32⟩
  | .hbm, ⟨38, _⟩ => ⟨S8x2048x8192, .f32⟩
  | .hbm, ⟨39, _⟩ => ⟨S8x2048x8192, .f32⟩
  | .hbm, ⟨40, _⟩ => ⟨S1x8192, .f32⟩
  | .hbm, ⟨41, _⟩ => ⟨S8192, .f32⟩
  | .hbm, ⟨42, _⟩ => ⟨S8x2048x8192, .f32⟩
  | .hbm, ⟨43, _⟩ => ⟨S1x1x8192, .f32⟩
  | .hbm, ⟨44, _⟩ => ⟨S8x2048x8192, .f32⟩
  | .hbm, ⟨45, _⟩ => ⟨S8x2048x8192, .f32⟩
  | .hbm, ⟨46, _⟩ => ⟨S8x2048x8192, .f32⟩
  | .hbm, ⟨47, _⟩ => ⟨S1x8192, .f32⟩
  | .hbm, ⟨48, _⟩ => ⟨S8192, .f32⟩
  | .hbm, ⟨49, _⟩ => ⟨S8x2048x8192, .f32⟩
  | .hbm, ⟨50, _⟩ => ⟨S1x1x8192, .f32⟩
  | .hbm, ⟨51, _⟩ => ⟨S8x2048x8192, .f32⟩
  | .hbm, ⟨52, _⟩ => ⟨S8x2048x8192, .f32⟩
  | .hbm, ⟨53, _⟩ => ⟨S8x2048x8192, .f32⟩
  | .hbm, ⟨54, _⟩ => ⟨S1x8192, .f32⟩
  | .hbm, ⟨55, _⟩ => ⟨S8192, .f32⟩
  | .hbm, ⟨56, _⟩ => ⟨S8x2048x8192, .f32⟩
  | .hbm, ⟨57, _⟩ => ⟨S1x1x8192, .f32⟩
  | .hbm, ⟨58, _⟩ => ⟨S8x2048x8192, .f32⟩
  | .hbm, ⟨59, _⟩ => ⟨S8x2048x8192, .f32⟩
  | .hbm, ⟨60, _⟩ => ⟨S8x2048x8192, .f32⟩
  | .hbm, ⟨61, _⟩ => ⟨S8x2048x8192, .f32⟩
  | .hbm, ⟨62, _⟩ => ⟨S8x2048x8192, .f32⟩
  | .hbm, ⟨63, _⟩ => ⟨S_, .f32⟩
  | .hbm, ⟨64, _⟩ => ⟨S8x2048x8192, .f32⟩
  | .hbm, ⟨65, _⟩ => ⟨S8x2048x8192, .f32⟩
  | .hbm, ⟨66, _⟩ => ⟨S_, .f32⟩
  | .hbm, ⟨67, _⟩ => ⟨S8x2048x8192, .f32⟩
  | .hbm, ⟨68, _⟩ => ⟨S8x2048x8192, .f32⟩
  | .hbm, ⟨69, _⟩ => ⟨S8x2048x8192, .f32⟩
  | .hbm, ⟨70, _⟩ => ⟨S16384x8192, .f32⟩
  | .hbm, ⟨71, _⟩ => ⟨S16384x2048, .f32⟩
  | .hbm, ⟨72, _⟩ => ⟨S16384x2048, .f32⟩
  | .hbm, ⟨73, _⟩ => ⟨S16384x4096, .f32⟩
  | .hbm, ⟨74, _⟩ => ⟨S16384x16x128, .f32⟩
  | .hbm, ⟨75, _⟩ => ⟨S16384x16x128, .f32⟩
  | .hbm, ⟨76, _⟩ => ⟨S_, .f32⟩
  | .hbm, ⟨77, _⟩ => ⟨S16384x16, .f32⟩
  | .hbm, ⟨78, _⟩ => ⟨S16384x16x1, .f32⟩
  | .hbm, ⟨79, _⟩ => ⟨S_, .f32⟩
  | .hbm, ⟨80, _⟩ => ⟨S16384x16x1, .f32⟩
  | .hbm, ⟨81, _⟩ => ⟨S16384x16x1, .f32⟩
  | .hbm, ⟨82, _⟩ => ⟨S16384x16x1, .f32⟩
  | .hbm, ⟨83, _⟩ => ⟨S16384x16x128, .f32⟩
  | .hbm, ⟨84, _⟩ => ⟨S16384x16x128, .f32⟩
  | .hbm, ⟨85, _⟩ => ⟨S_, .f32⟩
  | .hbm, ⟨86, _⟩ => ⟨S16384x16x128, .f32⟩
  | .hbm, ⟨87, _⟩ => ⟨S16384x16x128, .f32⟩
  | .hbm, ⟨88, _⟩ => ⟨S16384x2048, .f32⟩
  | .hbm, ⟨89, _⟩ => ⟨S16384x16x128, .f32⟩
  | .hbm, ⟨90, _⟩ => ⟨S16384x16x128, .f32⟩
  | .hbm, ⟨91, _⟩ => ⟨S_, .f32⟩
  | .hbm, ⟨92, _⟩ => ⟨S16384x16, .f32⟩
  | .hbm, ⟨93, _⟩ => ⟨S16384x16x1, .f32⟩
  | .hbm, ⟨94, _⟩ => ⟨S_, .f32⟩
  | .hbm, ⟨95, _⟩ => ⟨S16384x16x1, .f32⟩
  | .hbm, ⟨96, _⟩ => ⟨S16384x16x1, .f32⟩
  | .hbm, ⟨97, _⟩ => ⟨S16384x16x1, .f32⟩
  | .hbm, ⟨98, _⟩ => ⟨S16384x16x128, .f32⟩
  | .hbm, ⟨99, _⟩ => ⟨S16384x16x128, .f32⟩
  | .hbm, ⟨100, _⟩ => ⟨S16384x2048, .f32⟩
  | .hbm, ⟨101, _⟩ => ⟨S16384x12288, .f32⟩
  | .hbm, ⟨102, _⟩ => ⟨S16384x12288, .bf16⟩
  | .hbm, ⟨103, _⟩ => ⟨S_, .i32⟩
  | .hbm, ⟨104, _⟩ => ⟨S_, .f32⟩
  | .hbm, ⟨105, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_3 : Ref sig .tc := ⟨.hbm, 76, rfl⟩
abbrev main_v58 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_6 : Ref sig .tc := ⟨.hbm, 91, rfl⟩
abbrev main_v70 : Ref sig .tc := ⟨.hbm, 92, rfl⟩
abbrev main_v71 : Ref sig .tc := ⟨.hbm, 93, rfl⟩
abbrev main_cst_7 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_8 : Ref sig .tc := ⟨.hbm, 103, rfl⟩
abbrev main_call2_v0 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== OutFox.lean ====
abbrev S16384x1024 : Shape := ⟨2, ![16384, 1024]⟩
abbrev S1x2048x2048 : Shape := ⟨3, ![1, 2048, 2048]⟩
abbrev S16384x2048 : Shape := ⟨2, ![16384, 2048]⟩
abbrev S1024x1024 : Shape := ⟨2, ![1024, 1024]⟩
abbrev S1x1024x1024 : Shape := ⟨3, ![1, 1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c1_i32 : BitVec 32 := 1#32
  let c0_i32_1 : BitVec 32 := 0#32
  ![c0_i32_0.toNat, c1_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutFoxReferenceIdeal.lean ====
abbrev S16384x1024 : Shape := ⟨2, ![16384, 1024]⟩
abbrev S1x2048x2048 : Shape := ⟨3, ![1, 2048, 2048]⟩
abbrev S16384x2048 : Shape := ⟨2, ![16384, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S16384x2048, .bf16⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Gates.lean ====
abbrev S16384x128 : Shape := ⟨2, ![16384, 128]⟩
abbrev S1x8 : Shape := ⟨2, ![1, 8]⟩
abbrev S8 : Shape := ⟨1, ![8]⟩
abbrev S_ : Shape := ⟨0, ![]⟩
abbrev S1x128 : Shape := ⟨2, ![1, 128]⟩
abbrev S2048x128 : Shape := ⟨2, ![2048, 128]⟩

abbrev nBuf : Space → Nat
  | .hbm => 8
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S1x8, .f32⟩
  | .hbm, ⟨2, _⟩ => ⟨S8, .f32⟩
  | .hbm, ⟨3, _⟩ => ⟨S1x8, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GatesReferenceIdeal.lean ====
abbrev S16384x128 : Shape := ⟨2, ![16384, 128]⟩
abbrev S1x8 : Shape := ⟨2, ![1, 8]⟩
abbrev S8 : Shape := ⟨1, ![8]⟩
abbrev S_ : Shape := ⟨0, ![]⟩
abbrev S128 : Shape := ⟨1, ![128]⟩
abbrev S1x128 : Shape := ⟨2, ![1, 128]⟩
abbrev S8x2048x128 : Shape := ⟨3, ![8, 2048, 128]⟩

abbrev nBuf : Space → Nat
  | .hbm => 30
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S_, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .i1⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S8x2048x128, .f32⟩
  | .hbm, ⟨26, _⟩ => ⟨S_, .f32⟩
  | .hbm, ⟨27, _⟩ => ⟨S_, .f32⟩
  | .hbm, ⟨28, _⟩ => ⟨S8x2048x128, .f32⟩
  | .hbm, ⟨29, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩
abbrev main_v8 : Ref sig .tc := ⟨.hbm, 29, rfl⟩

abbrev nD : Nat := 1
abbrev τ : Topo := Topo.v7x

variable {F : FTy → Type} [FloatOps F]
-- ==== GdnGates.lean ====
abbrev S16384x128 : Shape := ⟨2, ![16384, 128]⟩
abbrev S1x32 : Shape := ⟨2, ![1, 32]⟩
abbrev S32 : Shape := ⟨1, ![32]⟩
abbrev S_ : Shape := ⟨0, ![]⟩
abbrev S1x128 : Shape := ⟨2, ![1, 128]⟩
abbrev S1024x128 : Shape := ⟨2, ![1024, 128]⟩

abbrev nBuf : Space → Nat
  | .hbm => 14
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S1x32, .f32⟩
  | .hbm, ⟨2, _⟩ => ⟨S1x32, .f32⟩
  | .hbm, ⟨3, _⟩ => ⟨S32, .f32⟩
  | .hbm, ⟨4, _⟩ => ⟨S1x32, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S32, .f32⟩
  | .hbm, ⟨9, _⟩ => ⟨S1x32, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S16384x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GdnGatesReferenceIdeal.lean ====
abbrev S16384x128 : Shape := ⟨2, ![16384, 128]⟩
abbrev S1x32 : Shape := ⟨2, ![1, 32]⟩
abbrev S16384x32 : Shape := ⟨2, ![16384, 32]⟩
abbrev S_ : Shape := ⟨0, ![]⟩
abbrev S32 : Shape := ⟨1, ![32]⟩
abbrev S96 : Shape := ⟨1, ![96]⟩
abbrev S16384x96 : Shape := ⟨2, ![16384, 96]⟩
abbrev S1x96 : Shape := ⟨2, ![1, 96]⟩
abbrev S256x64x96 : Shape := ⟨3, ![256, 64, 96]⟩

abbrev nBuf : Space → Nat
  | .hbm => 49
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x32, .f32⟩
  | .hbm, ⟨2, _⟩ => ⟨S1x32, .f32⟩
  | .hbm, ⟨3, _⟩ => ⟨S16384x32, .f32⟩
  | .hbm, ⟨4, _⟩ => ⟨S16384x32, .f32⟩
  | .hbm, ⟨5, _⟩ => ⟨S16384x32, .f32⟩
  | .hbm, ⟨6, _⟩ => ⟨S_, .f32⟩
  | .hbm, ⟨7, _⟩ => ⟨S16384x32, .f32⟩
  | .hbm, ⟨8, _⟩ => ⟨S16384x32, .f32⟩
  | .hbm, ⟨9, _⟩ => ⟨S_, .f32⟩
  | .hbm, ⟨10, _⟩ => ⟨S16384x32, .f32⟩
  | .hbm, ⟨11, _⟩ => ⟨S16384x32, .f32⟩
  | .hbm, ⟨12, _⟩ => ⟨S32, .f32⟩
  | .hbm, ⟨13, _⟩ => ⟨S_, .i32⟩
  | .hbm, ⟨14, _⟩ => ⟨S_, .f32⟩
  | .hbm, ⟨15, _⟩ => ⟨S96, .f32⟩
  | .hbm, ⟨16, _⟩ => ⟨S32, .f32⟩
  | .hbm, ⟨17, _⟩ => ⟨S_, .i32⟩
  | .hbm, ⟨18, _⟩ => ⟨S_, .f32⟩
  | .hbm, ⟨19, _⟩ => ⟨S96, .f32⟩
  | .hbm, ⟨20, _⟩ => ⟨S96, .f32⟩
  | .hbm, ⟨21, _⟩ => ⟨S96, .f32⟩
  | .hbm, ⟨22, _⟩ => ⟨S16384x96, .f32⟩
  | .hbm, ⟨23, _⟩ => ⟨S1x96, .f32⟩
  | .hbm, ⟨24, _⟩ => ⟨S16384x96, .f32⟩
  | .hbm, ⟨25, _⟩ => ⟨S16384x96, .f32⟩
  | .hbm, ⟨26, _⟩ => ⟨S_, .f32⟩
  | .hbm, ⟨27, _⟩ => ⟨S16384x96, .f32⟩
  | .hbm, ⟨28, _⟩ => ⟨S16384x96, .f32⟩
  | .hbm, ⟨29, _⟩ => ⟨S16384x96, .f32⟩
  | .hbm, ⟨30, _⟩ => ⟨S16384x96, .f32⟩
  | .hbm, ⟨31, _⟩ => ⟨S16384x96, .i1⟩
  | .hbm, ⟨32, _⟩ => ⟨S16384x96, .f32⟩
  | .hbm, ⟨33, _⟩ => ⟨S16384x96, .f32⟩
  | .hbm, ⟨34, _⟩ => ⟨S16384x96, .f32⟩
  | .hbm, ⟨35, _⟩ => ⟨S16384x96, .f32⟩
  | .hbm, ⟨36, _⟩ => ⟨S16384x96, .f32⟩
  | .hbm, ⟨37, _⟩ => ⟨S16384x96, .f32⟩
  | .hbm, ⟨38, _⟩ => ⟨S16384x96, .f32⟩
  | .hbm, ⟨39, _⟩ => ⟨S16384x96, .f32⟩
  | .hbm, ⟨40, _⟩ => ⟨S1x96, .f32⟩
  | .hbm, ⟨41, _⟩ => ⟨S16384x96, .f32⟩
  | .hbm, ⟨42, _⟩ => ⟨S16384x96, .f32⟩
  | .hbm, ⟨43, _⟩ => ⟨S256x64x96, .f32⟩
  | .hbm, ⟨44, _⟩ => ⟨S_, .f32⟩
  | .hbm, ⟨45, _⟩ => ⟨S_, .f32⟩
  | .hbm, ⟨46, _⟩ => ⟨S256x64x96, .f32⟩
  | .hbm, ⟨47, _⟩ => ⟨S16384x96, .f32⟩
  | .hbm, ⟨48, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call2_cst : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call3_call0_cst : Ref sig .tc := ⟨.hbm, 44, rfl⟩
abbrev main_call3_call0_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]
-- ==== Proof.GdnInBody.lean ====
/- The input projection of a convolving layer, as compiled: it terminates and leaves its arguments as they were. -/
module

public import proofs.«01_k».proof.Proof.Gen.GdnIn.Frame
public import proofs.«01_k».proof.Proof.Gen.GdnIn.Skeleton
public import Idealize.ShloMosaic.Lib.Pipeline.Frame
public import Idealize.ShloMosaic.Lib.Tactic

@[expose] public section

set_option maxRecDepth 16384

noncomputable section

namespace Cert.GdnIn.Hand

open Cert.GdnIn Cert.GdnIn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

section

variable (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1x1024x2048 .bf16) (harg4 : arg4.IsWhole)
    (arg5 : Memref sig .tc .vmem S8x1024 .f32) (harg5 : arg5.IsWhole) (arg6 : Memref sig .tc .vmem S128x2048 .bf16) (harg6 : arg6.IsWhole)
    (arg7 : Memref sig .tc .vmem S1024x1024 .bf16) (harg7 : arg7.IsWhole) (arg8 : Memref sig .tc .vmem S1024x128 .f32) (harg8 : arg8.IsWhole)
    (arg9 : Memref sig .tc .vmem S1024x2048 .bf16) (harg9 : arg9.IsWhole) (arg10 : Memref sig .tc .vmem S1032x1024 .f32) (harg10 : arg10.IsWhole)
    (arg11 : Memref sig .tc .vmem S8x8x1024 .f32) (harg11 : arg11.IsWhole)
    (x0 : Vec F S1024x2048 .f32) (x1 : Vec F S1x2048 .f32) (x2 : Vec F S1x1024x2048 .bf16) (x3 : Vec F S8x1024 .f32) (x4 : Vec F S128x2048 .bf16)

/-- What a point's body is run from and what it leaves: the inputs as they were, and the outputs and the scratch of which nothing is said. -/
def held : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4
    ∗ (∃ d, owns (c : Thread nD τ) arg7 fullShare d) ∗ (∃ d, owns (c : Thread nD τ) arg8 fullShare d)
    ∗ (∃ d, owns (c : Thread nD τ) arg9 fullShare d) ∗ (∃ d, owns (c : Thread nD τ) arg10 fullShare d)
    ∗ (∃ d, owns (c : Thread nD τ) arg11 fullShare d))

/-- In each of its three cases the body hands the inputs back. -/
theorem body (h : (¬k0_cond3 i = 1#1 ∧ k0_cond4 i = 1#1 ∧ ¬k0_cond5 i = 1#1) ∨ (¬k0_cond3 i = 1#1 ∧ ¬k0_cond4 i = 1#1 ∧ k0_cond5 i = 1#1)
      ∨ (k0_cond3 i = 1#1 ∧ ¬k0_cond4 i = 1#1 ∧ ¬k0_cond5 i = 1#1)) (K : PUnit → sProp 𝕄) :
    iprop(held c arg2 arg3 arg4 arg5 arg6 arg7 arg8 arg9 arg10 arg11 x0 x1 x2 x3 x4
        ∗ (held c arg2 arg3 arg4 arg5 arg6 arg7 arg8 arg9 arg10 arg11 x0 x1 x2 x3 x4 -∗ K ⟨⟩))
      ⊢ wp frame (wpE (defs₀ (F := F)) Variants.none c none) Set.univ
          (cc0_gdn_in_proj i arg2 harg2 arg3 harg3 arg4 harg4 arg5 harg5 arg6 harg6 arg7 harg7 arg8 harg8 arg9 harg9 arg10 harg10 arg11 harg11) K := by
  simp only [cc0_gdn_in_proj_eq_skeleton]; unfold cc0_gdn_in_proj_skel
  unfold held owns
  rcases h with ⟨h3, h4, h5⟩ | ⟨h3, h4, h5⟩ | ⟨h3, h4, h5⟩
  all_goals
    iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩,
      ⟨%d7, %f7, -, H7⟩, ⟨%d8, %f8, -, H8⟩, ⟨%d9, %f9, -, H9⟩⟩, Hk⟩
    sl_exec (disch := first | sl_exact h4 | sl_exact h3 | sl_exact h5)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end

/-- Of the three conditions that choose the body's case one holds at every point. -/
theorem cases : ∀ t : Fin cfg0.N, let i := grid0.coords t
    (¬k0_cond3 i = 1#1 ∧ k0_cond4 i = 1#1 ∧ ¬k0_cond5 i = 1#1) ∨ (¬k0_cond3 i = 1#1 ∧ ¬k0_cond4 i = 1#1 ∧ k0_cond5 i = 1#1)
      ∨ (k0_cond3 i = 1#1 ∧ ¬k0_cond4 i = 1#1 ∧ ¬k0_cond5 i = 1#1) := (by decide +kernel : ∀ t : Fin grid0.N, _)

variable (m : (ℓ : Loc nD τ sig) → Buf (Elt F) ℓ) (ρ : Dev nD → PrngReg)

/-- Nothing is said of the projection and the logits. -/
def forgets0 : Fin 7 → Bool := ![false, false, false, false, false, true, true]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d)) ∗ (∃ r, prngReg c r)) := by
  unfold Pipeline.ΦA
  rw [scopedRest0_eq]
  simp only [owns_whole]
  try rfl

/-- A point's body, from the invariant and the windows to the same. -/
theorem point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare d)
        ∗ (∃ d, owns (c : Thread nD τ) (st0_6 t) fullShare d))
      ⊢ wp frame (wpE (defs₀ (F := F)) Variants.none c none) Set.univ (bodyAt0 t)
        (fun _ => iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t)
          ∗ owns (c : Thread nD τ) (st0_3 t) fullShare ((dats m 0 c).after 3 t)
          ∗ owns (c : Thread nD τ) (st0_4 t) fullShare ((dats m 0 c).after 4 t)
          ∗ (∃ d, owns (c : Thread nD τ) (st0_5 t) fullShare d)
          ∗ (∃ d, owns (c : Thread nD τ) (st0_6 t) fullShare d))) := by
  have hb0 := before0_0_of m (dats m 0 c) (A_eq m c 0) (after_0 m c) t
  have hb1 := before0_1_of m (dats m 0 c) (A_eq m c 1) (after_1 m c) t
  have hb2 := before0_2_of m (dats m 0 c) (A_eq m c 2) (after_2 m c) t
  have hb3 := before0_3_of m (dats m 0 c) (A_eq m c 3) (after_3 m c) t
  have hb4 := before0_4_of m (dats m 0 c) (A_eq m c 4) (after_4 m c) t
  unfold bodyAt0
  simp only [hb0, hb1, hb2, hb3, hb4]
  rw [show (dats m 0 c).owesAt () t.succ = (dats m 0 c).owesAt () t.castSucc from rfl, after_0, after_1, after_2, after_3, after_4,
    show (dats m 0 c).Φ t.castSucc = Pipeline.ΦA spec0 c from rfl, show (dats m 0 c).Φ t.succ = Pipeline.ΦA spec0 c from rfl, PhiA_eq]
  iintro ⟨⟨⟨HA, HB, HC⟩, Hg⟩, Ho, ⟨%d0, H0⟩, ⟨%d1, H1⟩, ⟨%d2, H2⟩, ⟨%d3, H3⟩, ⟨%d4, H4⟩, H5, H6⟩
  iapply (body c (grid0.coords t) _ _ _ _ _ _ _ _ _ _ _ _ _ _ _ _ _ _ _ _ (iblk m c 0 t) (iblk m c 1 t) (X0_2 m c t) (iblk m c 3 t) (iblk m c 4 t)
    (cases t) _)
  unfold held
  isplitl [H0 H1 H2 H3 H4 H5 H6 HA HB HC]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [HB]; · iexact HB
    iexact HC
  iintro ⟨H0, H1, H2, H3, H4, H5, H6, HA, HB, HC⟩
  isplitl [HA HB HC Hg]
  · isplitl [HA HB HC]
    · isplitl [HA]; · iexact HA
      isplitl [HB]; · iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ forgets0 := fun t => by
  rw [bigSep_W0, bigSep_W0, show defs₀ (F := F) .tc cfg0.body (cfg0.bodyArgs t (cfg0.slots t)) = bodyAt0 t by unfold defs₀; rw [Defs.onTc_tc]]
  exact triple_restated (point m c t) rfl .rfl fun _ => .rfl

set_option backward.isDefEq.respectTransparency.types false in
theorem run : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      (h.1.arr_in c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run m ρ)

end Cert.GdnIn.Hand

end
-- ==== Proof.GdnInConv.lean ====
/- The input projection of a convolving layer: what a grid point makes of its projected columns, and the pieces it stores as blocks of that. -/
module

public import proofs.«01_k».proof.Proof.Gen.GdnInIdeal.Skeleton
public import Idealize.ShloMosaic.Lib.Pipeline.ReadBack
public import Idealize.ShloMosaic.Lib.Pipeline.ValueKit
public import Idealize.ShloMosaic.Lib.Pointwise

@[expose] public section

set_option maxRecDepth 16384

noncomputable section

namespace Cert.GdnInIdeal.Hand

open Cert.GdnInIdeal Cert.GdnInIdeal.Gen
open Idealize.ShloMosaic Idealize.ShloMosaic.TcCoe Idealize.ShloMosaic.Tactic

variable {F : FTy → Type} [FloatOps F]

/-! ## A tile of the output -/

/-- The four taps over 136 rows of a head's columns: output row `r` reads rows `r + 5` to `r + 8`. -/
def taps (v : Vec F S136x128 .f32) (t0 t1 t2 t3 : Vec F S1x128 .f32) : FVec F S128x128 .f32 :=
  let row (t : Vec F S1x128 .f32) : FVec F S128x128 .f32 :=
    broadcastTo S128x128 (shapeCast S1x128 t shapeCasts_S1x128_S1x128) broadcasts_S1x128_S128x128
  let turned (k : BitVec 32) : FVec F S128x128 .f32 :=
    extractStridedSlice S128x128 ![0, 0] (dynamicRotate 0 k none v rotates_S136x128_d0) slices_S136x128_o0_0_S128x128
  addf (addf (addf (addf (broadcast S128x128 (Scalar.ofBits .f32 0x00000000#32)) (mulf (row t0) (turned 131#32))) (mulf (row t1) (turned 130#32)))
    (mulf (row t2) (turned 129#32))) (mulf (row t3) (extractStridedSlice S128x128 ![8, 0] v slices_S136x128_o8_0_S128x128))

/-- A tile times its logistic. -/
def gate (a : FVec F S128x128 .f32) : FVec F S128x128 .f32 :=
  mulf a (divf (broadcast S128x128 (Scalar.ofBits .f32 0x3F800000#32))
    (addf (broadcast S128x128 (Scalar.ofBits .f32 0x3F800000#32)) (exp (subf (broadcast S128x128 (Scalar.ofBits .f32 0x00000000#32)) a))))

/-- A tile's rows at length one, times `scale`. -/
def unitRows (scale : F .f32) (y : FVec F S128x128 .f32) : FVec F S128x128 .f32 :=
  mulf y (broadcastTo S128x128
    (mulf (rsqrt (addf (shapeCast S128x1 (multiReduction .add [1] S128 (mulf y y) 0x00000000#32 reduces_S128x128_S128 (.inl rfl) rfl) shapeCasts_S128_S128x1)
      (broadcast S128x1 (Scalar.ofBits .f32 0x358637BD#32)))) (broadcast S128x1 scale)) broadcasts_S128x1_S128x128)

/-- A tile as the point stores it: of the query and key columns with its rows at the length `scale`, of the value columns as it is. -/
def tileUnit (scale : F .f32) (v : Vec F S136x128 .f32) (t0 t1 t2 t3 : Vec F S1x128 .f32) : FVec F S128x128 .bf16 :=
  truncf .bf16 (unitRows scale (gate (taps v t0 t1 t2 t3))) bitsLt_bf16_f32
def tilePlain (v : Vec F S136x128 .f32) (t0 t1 t2 t3 : Vec F S1x128 .f32) : FVec F S128x128 .bf16 :=
  truncf .bf16 (gate (taps v t0 t1 t2 t3)) bitsLt_bf16_f32

/-! ## The rows the taps read -/

/-- The rows `8 + r` are the projection's, the eight before them the ones `halo` chosen at the point. -/
def hist (halo : Vec F S8x1024 .f32) (xn : Vec F S1024x2048 .bf16) (w : Vec F S1x1024x2048 .bf16) : Vec F S1032x1024 .f32 := fun y =>
  if h : (y 0).val < 8 then halo (ix2 ⟨(y 0).val, h⟩ (y 1))
  else k0_pay11 xn (fun j : S1x256x2048.Idx => w (ix3 0 ⟨256 * ((y 1).val / 256) + (j 1).val, by have := (y 1).isLt; have := (j 1).isLt; simp at *; omega⟩ (j 2)))
    (ix2 ⟨(y 0).val - 8, by have := (y 0).isLt; simp at *; omega⟩ ⟨(y 1).val % 256, Nat.mod_lt _ (by decide)⟩)

/-- A block of 1024 rows and columns, 128 by 128 at a time: `f` at the history's rows and the taps of the tile's columns. -/
def tiled (f : Vec F S136x128 .f32 → Vec F S1x128 .f32 → Vec F S1x128 .f32 → Vec F S1x128 .f32 → Vec F S1x128 .f32 → FVec F S128x128 .bf16)
    (H : Vec F S1032x1024 .f32) (k : Vec F S8x1024 .f32) : Vec F S1024x1024 .bf16 := fun y =>
  let col (j : Fin 128) : Fin 1024 := ⟨128 * ((y 1).val / 128) + j.val, by have := (y 1).isLt; simp at *; omega⟩
  let row (j : Fin 136) : Fin 1032 := ⟨128 * ((y 0).val / 128) + j.val, by have := (y 0).isLt; simp at *; omega⟩
  f (fun j => H (ix2 (row (j 0)) (col (j 1)))) (fun j => k (ix2 0 (col (j 1)))) (fun j => k (ix2 1 (col (j 1)))) (fun j => k (ix2 2 (col (j 1))))
    (fun j => k (ix2 3 (col (j 1)))) (ix2 ⟨(y 0).val % 128, Nat.mod_lt _ (by decide)⟩ ⟨(y 1).val % 128, Nat.mod_lt _ (by decide)⟩)

section

variable {arg4 : Memref sig .tc .vmem S1x1024x2048 .bf16} {arg5 : Memref sig .tc .vmem S8x1024 .f32} {arg10 : Memref sig .tc .vmem S1032x1024 .f32}

/-- A list of stores of `H`'s blocks that cover its first eight rows and the columns before `n`. -/
def Holds (H : Vec F S1032x1024 .f32) (n : ℕ) (L : List (View.Piece (Elt F) S1032x1024 .f32)) : Prop :=
  View.PiecesOf H L ∧ ∀ y : S1032x1024.Idx, (y 0).val < 8 ∨ (y 1).val < n → ∃ p ∈ L, y ∈ p.1.set

theorem Holds.mono {H : Vec F S1032x1024 .f32} {n m : ℕ} {L} (h : Holds H n L) (hm : m ≤ n) : Holds H m L :=
  ⟨h.1, fun y hy => h.2 y (by omega)⟩

theorem Holds.load {H : Vec F S1032x1024 .f32} {n : ℕ} {L} (h : Holds H n L) (B : LoadRect S1032x1024) (hB : ∀ j, (B.idx j 1).val < n) :
    arg10.view.readCov (Val := Elt F) L B = fun j => H (B.idx j) :=
  funext fun j => View.read_writes_apply_of_pieces _ _ H L h.1.mem _ (h.2 _ (Or.inr (hB j)))

theorem Holds.halo {H : Vec F S1032x1024 .f32} (inb : ∀ a, (![0, 0] : Fin 2 → ℕ) a + S8x1024.size a ≤ S1032x1024.size a) (w : Vec F S8x1024 .f32)
    (hw : ∀ x, w x = H ((Rect.unit (s := S1032x1024) ![0, 0] S8x1024.size inb).emb x)) :
    Holds H 0 [⟨Rect.unit (s := S1032x1024) ![0, 0] S8x1024.size inb, w⟩] := by
  refine ⟨⟨hw, trivial⟩, fun y hy => ⟨_, List.mem_singleton_self _, ?_⟩⟩
  have h1 := (y 1).isLt
  have h0 : (y 0).val < 8 := by omega
  exact (Rect.mem_set_unit (inb := inb)).mpr (Fin.forall_fin_two.mpr ⟨⟨Nat.zero_le _, by simpa using h0⟩, ⟨Nat.zero_le _, by simpa using h1⟩⟩)

theorem Holds.slab {H : Vec F S1032x1024 .f32} (s : ℕ) {L} (h : Holds H (256 * s) L)
    (inb : ∀ a, (![8, 256 * s] : Fin 2 → ℕ) a + S1024x256.size a ≤ S1032x1024.size a) (w : Vec F S1024x256 .f32)
    (hw : ∀ x, w x = H ((Rect.unit (s := S1032x1024) ![8, 256 * s] S1024x256.size inb).emb x)) :
    Holds H (256 * (s + 1)) (⟨Rect.unit (s := S1032x1024) ![8, 256 * s] S1024x256.size inb, w⟩ :: L) := by
  refine ⟨⟨hw, h.1⟩, fun y hy => ?_⟩
  by_cases hn : (y 0).val < 8 ∨ (y 1).val < 256 * s
  · obtain ⟨p, hp, hy⟩ := h.2 y hn
    exact ⟨p, List.mem_cons_of_mem _ hp, hy⟩
  · have h0 := (y 0).isLt
    refine ⟨_, List.mem_cons_self, (Rect.mem_set_unit (inb := inb)).mpr (Fin.forall_fin_two.mpr ⟨⟨?_, ?_⟩, ⟨?_, ?_⟩⟩)⟩
    · show 8 ≤ (y 0).val
      omega
    · show (y 0).val < 8 + 1024
      simpa using h0
    · show 256 * s ≤ (y 1).val
      omega
    · show (y 1).val < 256 * s + 256
      omega

/-- A slab's projection is a block of the history. -/
theorem slab_piece (s : ℕ) (halo : Vec F S8x1024 .f32) (xn xn' : Vec F S1024x2048 .bf16) (w : Vec F S1x1024x2048 .bf16) (hx : xn' = xn) (f2)
    (hf2 : arg4.view.read (Elt F) f2 = w)
    (inb : ∀ a, (![0, 256 * s, 0] : Fin 3 → ℕ) a + S1x256x2048.size a ≤ S1x1024x2048.size a)
    (inb' : ∀ a, (![8, 256 * s] : Fin 2 → ℕ) a + S1024x256.size a ≤ S1032x1024.size a) (x : S1024x256.Idx) :
    k0_pay11 xn' (arg4.view.readAt (Elt F) (Rect.unit (s := S1x1024x2048) ![0, 256 * s, 0] S1x256x2048.size inb).toLoadRect f2) x
      = hist halo xn w ((Rect.unit (s := S1032x1024) ![8, 256 * s] S1024x256.size inb').emb x) := by
  obtain ⟨r, q, rfl⟩ : ∃ r q, x = ix2 (n0 := 1024) (n1 := 256) r q := ⟨x 0, x 1, eq_ix2 x⟩
  have h0 : ((Rect.unit (s := S1032x1024) ![8, 256 * s] S1024x256.size inb').emb (ix2 r q) 0).val = 8 + r.val := ValueKit.rect_emb_unit_val _ _ _ _ _
  have h1 : ((Rect.unit (s := S1032x1024) ![8, 256 * s] S1024x256.size inb').emb (ix2 r q) 1).val = 256 * s + q.val := ValueKit.rect_emb_unit_val _ _ _ _ _
  have hs : (256 * s + q.val) / 256 = s := by omega
  have hq : (256 * s + q.val) % 256 = q.val := by omega
  subst hx
  unfold hist
  rw [dif_neg (by omega)]
  refine congr (congrArg (k0_pay11 xn') (funext fun j => ?_)) ?_
  · rw [View.readAt_apply, hf2]
    refine congrArg w ?_
    funext a
    fin_cases a <;> apply Fin.ext
    · have := (j 0).isLt
      show 0 + 1 * (j 0).val = 0
      simp at *
    · show 256 * s + 1 * (j 1).val = 256 * (_ / 256) + (j 1).val
      rw [h1, hs, one_mul]
    · show 0 + 1 * (j 2).val = (j 2).val
      omega
  · funext a
    fin_cases a <;> apply Fin.ext
    · show r.val = _ - 8
      rw [h0]; omega
    · show q.val = _ % 256
      rw [h1, hq]

/-- A tile from the history's rows is a block of the output. -/
theorem tile_piece (f : Vec F S136x128 .f32 → Vec F S1x128 .f32 → Vec F S1x128 .f32 → Vec F S1x128 .f32 → Vec F S1x128 .f32 → FVec F S128x128 .bf16)
    {H : Vec F S1032x1024 .f32} {n : ℕ} {L} (h : Holds H n L) (k : Vec F S8x1024 .f32) (f3) (hf3 : arg5.view.read (Elt F) f3 = k) (ro co : ℕ)
    (hn : co + 128 ≤ n) (hr : ro % 128 = 0) (hc : co % 128 = 0) (hr' : ro < 1024) (hc' : co < 1024)
    (i0 : ∀ z, (![ro, co] : Fin 2 → ℕ) z + S136x128.size z ≤ S1032x1024.size z)
    (i1 : ∀ z, (![0, co] : Fin 2 → ℕ) z + S1x128.size z ≤ S8x1024.size z)
    (i2 : ∀ z, (![1, co] : Fin 2 → ℕ) z + S1x128.size z ≤ S8x1024.size z)
    (i3 : ∀ z, (![2, co] : Fin 2 → ℕ) z + S1x128.size z ≤ S8x1024.size z)
    (i4 : ∀ z, (![3, co] : Fin 2 → ℕ) z + S1x128.size z ≤ S8x1024.size z)
    (i5 : ∀ z, (![ro, co] : Fin 2 → ℕ) z + S128x128.size z ≤ S1024x1024.size z) (x : S128x128.Idx) :
    f (arg10.view.readCov (Val := Elt F) L (Rect.unit (s := S1032x1024) ![ro, co] S136x128.size i0).toLoadRect)
        (arg5.view.readAt (Elt F) (Rect.unit (s := S8x1024) ![0, co] S1x128.size i1).toLoadRect f3)
        (arg5.view.readAt (Elt F) (Rect.unit (s := S8x1024) ![1, co] S1x128.size i2).toLoadRect f3)
        (arg5.view.readAt (Elt F) (Rect.unit (s := S8x1024) ![2, co] S1x128.size i3).toLoadRect f3)
        (arg5.view.readAt (Elt F) (Rect.unit (s := S8x1024) ![3, co] S1x128.size i4).toLoadRect f3) x
      = tiled f H k ((Rect.unit (s := S1024x1024) ![ro, co] S128x128.size i5).emb x) := by
  obtain ⟨r, q, rfl⟩ : ∃ r q, x = ix2 (n0 := 128) (n1 := 128) r q := ⟨x 0, x 1, eq_ix2 x⟩
  have h0 : ((Rect.unit (s := S1024x1024) ![ro, co] S128x128.size i5).emb (ix2 r q) 0).val = ro + r.val := ValueKit.rect_emb_unit_val _ _ _ _ _
  have h1 : ((Rect.unit (s := S1024x1024) ![ro, co] S128x128.size i5).emb (ix2 r q) 1).val = co + q.val := ValueKit.rect_emb_unit_val _ _ _ _ _
  have ea : 128 * ((ro + r.val) / 128) = ro := by omega
  have eb : 128 * ((co + q.val) / 128) = co := by omega
  have er : (ro + r.val) % 128 = r.val := by omega
  have eq : (co + q.val) % 128 = q.val := by omega
  have tap : ∀ (t : Fin 8) (i : ∀ z, (![t.val, co] : Fin 2 → ℕ) z + S1x128.size z ≤ S8x1024.size z),
      arg5.view.readAt (Elt F) (Rect.unit (s := S8x1024) ![t.val, co] S1x128.size i).toLoadRect f3
        = fun j : S1x128.Idx => k (ix2 t ⟨co + (j 1).val, by have := (j 1).isLt; simp at *; omega⟩) := fun t i => by
    funext j
    rw [View.readAt_apply, hf3]
    refine congrArg k (funext fun z => ?_)
    fin_cases z <;> apply Fin.ext
    · have := (j 0).isLt
      show t.val + 1 * (j 0).val = t.val
      simp at *
    · show co + 1 * (j 1).val = co + (j 1).val
      omega
  rw [h.load]
  · refine (congrFun (congr (congr (congr (congrArg (f _) (tap 0 i1)) (tap 1 i2)) (tap 2 i3)) (tap 3 i4)) _).trans ?_
    unfold tiled
    simp only [h0, h1, ea, eb, er, eq]
    refine congrFun (congrFun (congrFun (congrFun (congrFun (congrArg f (funext fun j => congrArg H (funext fun z => ?_))) _) _) _) _) _
    fin_cases z <;> apply Fin.ext
    · show ro + 1 * (j 0).val = ro + (j 0).val
      omega
    · show co + 1 * (j 1).val = co + (j 1).val
      omega
  · intro j
    have := (j 1).isLt
    show co + 1 * (j 1).val < n
    simp at *; omega

/-- The eight rows chosen at the point are a block of the history. -/
theorem halo_piece (halo : Vec F S8x1024 .f32) (xn : Vec F S1024x2048 .bf16) (w : Vec F S1x1024x2048 .bf16)
    (inb : ∀ a, (![0, 0] : Fin 2 → ℕ) a + S8x1024.size a ≤ S1032x1024.size a) (x : S8x1024.Idx) :
    halo x = hist halo xn w ((Rect.unit (s := S1032x1024) ![0, 0] S8x1024.size inb).emb x) := by
  have h0 : ((Rect.unit (s := S1032x1024) ![0, 0] S8x1024.size inb).emb x 0).val = 0 + (x 0).val := ValueKit.rect_emb_unit_val _ _ _ _ _
  have h1 : ((Rect.unit (s := S1032x1024) ![0, 0] S8x1024.size inb).emb x 1).val = 0 + (x 1).val := ValueKit.rect_emb_unit_val _ _ _ _ _
  have hx := (x 0).isLt
  unfold hist
  rw [dif_pos (by rw [h0]; simp at hx; omega)]
  refine congrArg halo (funext fun a => ?_)
  fin_cases a <;> apply Fin.ext
  · exact (h0.trans (zero_add _)).symm
  · exact (h1.trans (zero_add _)).symm

end

end Cert.GdnInIdeal.Hand

end
-- ==== Proof.Linear.lean ====
/- The linear layers with a addDot: the mathematics the down and output projections share. -/
module

public import Idealize.ShloMosaic.Lib.Pointwise
public import Idealize.ShloMosaic.PureOps.Ideal

@[expose] public section

noncomputable section

namespace Cert.Linear

open Idealize.ShloMosaic

theorem zeros2 : (![0, 0] : Fin 2 → ℕ) = fun _ => 0 := by decide
theorem zeros3 : (![0, 0, 0] : Fin 3 → ℕ) = fun _ => 0 := by decide

/-- The rows of `X` times layer `l`'s matrix, added to `H`. -/
def addDot {n k d L : ℕ} (l : Fin L) (X : (⟨2, ![n, k]⟩ : Shape).Idx → EReal) (W : (⟨3, ![L, k, d]⟩ : Shape).Idx → EReal)
    (H : (⟨2, ![n, d]⟩ : Shape).Idx → EReal) (r : Fin n) (x : Fin d) : EReal :=
  H (ix2 r x) + ∑ j : Fin k, X (ix2 r j) * W (ix3 l j x)

/-- One entry of a row after root-mean-square normalisation with gains `g`: the row over the root of its mean square, the mean's
    divisor 2048 and the 1e-6 under the root as the program's words for them. -/
def normed {k : ℕ} (x g : Fin k → EReal) (j : Fin k) : EReal :=
  x j * Ideal.rsqrt (Ideal.div (∑ i, x i * x i) (Ideal.ofBits .f32 0x45000000#32) + Ideal.ofBits .f32 0x358637BD#32) * g j

/-- `s` times its logistic, times `u`. -/
def swiglu (s u : EReal) : EReal := s * Ideal.div 1 (1 + Ideal.exp (-s)) * u

/-- The gated hidden layer: row `r` of `H` normalised with the gains of layer `l`, its products with column `x` of the gate's and of
    the up projection's matrix, the first through `swiglu`. -/
def gated {n k d L : ℕ} (l : Fin L) (H : (⟨2, ![n, k]⟩ : Shape).Idx → EReal) (G : (⟨2, ![L, k]⟩ : Shape).Idx → EReal)
    (Wg Wu : (⟨3, ![L, k, d]⟩ : Shape).Idx → EReal) (r : Fin n) (x : Fin d) : EReal :=
  swiglu (∑ j, normed (fun i => H (ix2 r i)) (fun i => G (ix2 l i)) j * Wg (ix3 l j x))
    (∑ j, normed (fun i => H (ix2 r i)) (fun i => G (ix2 l i)) j * Wu (ix3 l j x))

/-- Row `r` of `X` normalised with the gains `G`, its product with column `x` of `W`. -/
def mixed {n k d : ℕ} (X : (⟨2, ![n, k]⟩ : Shape).Idx → EReal) (G : (⟨2, ![1, k]⟩ : Shape).Idx → EReal)
    (W : (⟨3, ![1, k, d]⟩ : Shape).Idx → EReal) (r : Fin n) (x : Fin d) : EReal :=
  ∑ j, normed (fun i => X (ix2 r i)) (fun i => G (ix2 0 i)) j * W (ix3 0 j x)

/-- The columns of the input projection's matrix without the eight of the gates' logits. -/
def column (x : Fin 5120) : Fin 5128 := if h : x.val < 3072 then ⟨x.val, by omega⟩ else ⟨x.val + 8, by omega⟩

/-- The eight columns of the gates' logits, and zeros. -/
def gateLogits {n k : ℕ} (X : (⟨2, ![n, k]⟩ : Shape).Idx → EReal) (G : (⟨2, ![1, k]⟩ : Shape).Idx → EReal)
    (W : (⟨3, ![1, k, 5128]⟩ : Shape).Idx → EReal) (r : Fin n) (x : Fin 128) : EReal :=
  if h : x.val < 8 then mixed X G W r ⟨3072 + x.val, by omega⟩ else 0

end Cert.Linear

end
-- ==== Proof.GdnInIdealBody.lean ====
/- The input projection of a convolving layer: its body run once for each of its three cases, and the launch. -/
module

public import proofs.«01_k».proof.Proof.Gen.GdnInIdeal.Frame
public import proofs.«01_k».proof.Proof.Gen.GdnInIdeal.Skeleton
public import proofs.«01_k».proof.Proof.GdnInConv
public import proofs.«01_k».proof.Proof.Linear
public import Idealize.ShloMosaic.Lib.Claim
public import Idealize.ShloMosaic.Lib.Pipeline.Frame
public import Idealize.ShloMosaic.Lib.Pipeline.ReadBack
public import Idealize.ShloMosaic.Lib.Tactic
public import Idealize.ShloMosaic.Lib.VecWindow

@[expose] public section

set_option maxRecDepth 16384

noncomputable section

namespace Cert.GdnInIdeal.Hand

open Cert.GdnInIdeal Cert.GdnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## What a point's body leaves -/

/-- The condition of the body's first conditional: the grid's first point. -/
def opens (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The normalised rows that the point works with, and the logits' buffer after it. -/
def rowsAt (i : grid0.Coords) (x0 : Vec F S1024x2048 .f32) (x1 : Vec F S1x2048 .f32) (xn : Vec F S1024x2048 .bf16) : Vec F S1024x2048 .bf16 :=
  if k0_cond2 i = 1#1 then k0_pay2 x0 x1 else xn
def logitsAt (i : grid0.Coords) (x0 : Vec F S1024x2048 .f32) (x1 : Vec F S1x2048 .f32) (x4 : Vec F S128x2048 .bf16) (l : Vec F S1024x128 .f32) :
    Vec F S1024x128 .f32 :=
  if k0_cond2 i = 1#1 then k0_pay3 (k0_pay2 x0 x1) x4 else l

/-- The rows kept from the blocks before, as the point finds them. -/
def keptAt (i : grid0.Coords) (hl : Vec F S8x8x1024 .f32) : Vec F S8x8x1024 .f32 := if opens i = 1#1 then k0_pay1 else hl

/-- The column block's row of them. -/
def lane (i : grid0.Coords) : Fin 8 := ⟨(i 1).val % 8, Nat.mod_lt _ (by decide)⟩

/-- The point's history: its projection under the eight rows chosen. -/
def histAt (i : grid0.Coords) (x2 : Vec F S1x1024x2048 .bf16) (xn : Vec F S1024x2048 .bf16) (hl : Vec F S8x8x1024 .f32) : Vec F S1032x1024 .f32 :=
  hist (k0_pay9 (BitVec.ofNat 32 (i 0).val) fun j : S1x8x1024.Idx => hl (ix3 (lane i) (j 1) (j 2))) xn x2

/-- The kept rows after the point: the history's last eight in the column block's row. -/
def keptAfter (i : grid0.Coords) (H : Vec F S1032x1024 .f32) (hl : Vec F S8x8x1024 .f32) : Vec F S8x8x1024 .f32 := fun y =>
  if (y 0).val = (lane i).val then k0_pay6 (fun j : S8x1024.Idx => H (ix2 ⟨1024 + (j 0).val, by have := (j 0).isLt; simp at *; omega⟩ (j 1))) (ix3 0 (y 1) (y 2))
  else hl y

theorem off1 (i : grid0.Coords) (h : k0_cond4 i = 1#1) : k0_off1 i = ![(lane i).val, 0, 0] := by
  have : ∀ j : Fin 12, (Scalar.cmpi .ne (Scalar.extui (Scalar.cmpi .slt (BitVec.ofNat 32 j.val) 4#32) : BitVec 32) 0#32) = 1#1 →
    (Scalar.indexCast (BitVec.ofNat 32 j.val) : Index).toNat = j.val % 8 := by decide +kernel
  unfold k0_off1
  exact congrArg (fun n => ![n, 0, 0]) (this (i 1) h)

theorem off2 (i : grid0.Coords) (h : k0_cond5 i = 1#1) : k0_off2 i = ![(lane i).val, 0, 0] := by
  have : ∀ j : Fin 12, (Scalar.cmpi .ne (Scalar.extui (Scalar.andi (Scalar.cmpi .sge (BitVec.ofNat 32 j.val) 4#32)
      (Scalar.cmpi .slt (BitVec.ofNat 32 j.val) 8#32)) : BitVec 32) 0#32) = 1#1 →
    (Scalar.indexCast (BitVec.ofNat 32 j.val) : Index).toNat = j.val % 8 := by decide +kernel
  unfold k0_off2
  exact congrArg (fun n => ![n, 0, 0]) (this (i 1) h)

/-- The column block's row loaded, and stored. -/
theorem load_lane {arg11 : Memref sig .tc .vmem S8x8x1024 .f32} (i : grid0.Coords) {off : Fin 3 → ℕ} (ho : off = ![(lane i).val, 0, 0])
    (inb : ∀ a, off a + S1x8x1024.size a ≤ S8x8x1024.size a) (f) {hl : Vec F S8x8x1024 .f32} (hf : arg11.view.read (Elt F) f = hl) :
    arg11.view.readAt (Elt F) (Rect.unit (s := S8x8x1024) off S1x8x1024.size inb).toLoadRect f = fun j : S1x8x1024.Idx => hl (ix3 (lane i) (j 1) (j 2)) := by
  subst ho
  funext j
  rw [View.readAt_apply, hf]
  refine congrArg hl (funext fun z => ?_)
  fin_cases z <;> apply Fin.ext
  · have := (j 0).isLt
    show (lane i).val + 1 * (j 0).val = (lane i).val
    simp at *
  · show 0 + 1 * (j 1).val = (j 1).val
    omega
  · show 0 + 1 * (j 2).val = (j 2).val
    omega

theorem store_lane {arg11 : Memref sig .tc .vmem S8x8x1024 .f32} (i : grid0.Coords) {off : Fin 3 → ℕ} (ho : off = ![(lane i).val, 0, 0])
    (inb : ∀ a, off a + S1x8x1024.size a ≤ S8x8x1024.size a) (f) {hl : Vec F S8x8x1024 .f32} (hf : arg11.view.read (Elt F) f = hl)
    (w : Vec F S1x8x1024 .f32) :
    arg11.view.read (Elt F) (arg11.view.writes (Elt F) f [⟨Rect.unit (s := S8x8x1024) off S1x8x1024.size inb, w⟩])
      = fun y => if (y 0).val = (lane i).val then w (ix3 0 (y 1) (y 2)) else hl y := by
  subst ho hf
  funext y
  have h1 := (y 1).isLt
  have h2 := (y 2).isLt
  by_cases h : (y 0).val = (lane i).val
  · rw [if_pos h]
    have hy : (Rect.unit (s := S8x8x1024) ![(lane i).val, 0, 0] S1x8x1024.size inb).emb (ix3 0 (y 1) (y 2)) = y := by
      funext z
      fin_cases z <;> apply Fin.ext
      · show (lane i).val + 1 * 0 = (y 0).val
        rw [h]; omega
      · show 0 + 1 * (y 1).val = (y 1).val
        omega
      · show 0 + 1 * (y 2).val = (y 2).val
        omega
    conv_lhs => rw [← hy]
    exact View.read_writes_cons_emb _ _ _ _ _ _
  · rw [if_neg h]
    refine View.read_writes_apply_of_forall_not_mem _ _ y _ fun q hq hm => h ?_
    rw [List.mem_singleton.mp hq] at hm
    have := (Rect.mem_set_unit (inb := inb)).mp hm 0
    have h3 : (lane i).val ≤ (y 0).val ∧ (y 0).val < (lane i).val + 1 := this
    omega

section

variable (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1x1024x2048 .bf16) (harg4 : arg4.IsWhole)
    (arg5 : Memref sig .tc .vmem S8x1024 .f32) (harg5 : arg5.IsWhole) (arg6 : Memref sig .tc .vmem S128x2048 .bf16) (harg6 : arg6.IsWhole)
    (arg7 : Memref sig .tc .vmem S1024x1024 .bf16) (harg7 : arg7.IsWhole) (arg8 : Memref sig .tc .vmem S1024x128 .f32) (harg8 : arg8.IsWhole)
    (arg9 : Memref sig .tc .vmem S1024x2048 .bf16) (harg9 : arg9.IsWhole) (arg10 : Memref sig .tc .vmem S1032x1024 .f32) (harg10 : arg10.IsWhole)
    (arg11 : Memref sig .tc .vmem S8x8x1024 .f32) (harg11 : arg11.IsWhole)
    (x0 : Vec F S1024x2048 .f32) (x1 : Vec F S1x2048 .f32) (x2 : Vec F S1x1024x2048 .bf16) (x3 : Vec F S8x1024 .f32) (x4 : Vec F S128x2048 .bf16)

/-- A point's inputs, outputs and scratch. -/
def state (o : Vec F S1024x1024 .bf16) (l : Vec F S1024x128 .f32) (xn : Vec F S1024x2048 .bf16) (hl : Vec F S8x8x1024 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4
    ∗ owns (c : Thread nD τ) arg7 fullShare o ∗ owns (c : Thread nD τ) arg8 fullShare l
    ∗ owns (c : Thread nD τ) arg9 fullShare xn ∗ (∃ d, owns (c : Thread nD τ) arg10 fullShare d)
    ∗ owns (c : Thread nD τ) arg11 fullShare hl)

variable (o : Vec F S1024x1024 .bf16) (l : Vec F S1024x128 .f32) (xn : Vec F S1024x2048 .bf16) (hl : Vec F S8x8x1024 .f32)

theorem read_rows (inb) (inb0) (inb1) (f0 f1 f7) (hf0 : arg2.view.read (Elt F) f0 = x0) (hf1 : arg3.view.read (Elt F) f1 = x1)
    (hf7 : arg9.view.read (Elt F) f7 = xn) :
    arg9.view.read (Elt F) (if k0_cond2 i = 1#1 then arg9.view.writes (Elt F) f7 [⟨Rect.unit (s := S1024x2048) ![0, 0] S1024x2048.size inb,
        k0_pay2 (arg2.view.readAt (Elt F) (Rect.unit (s := S1024x2048) ![0, 0] S1024x2048.size inb0).toLoadRect f0)
          (arg3.view.readAt (Elt F) (Rect.unit (s := S1x2048) ![0, 0] S1x2048.size inb1).toLoadRect f1)⟩] else f7) = rowsAt i x0 x1 xn := by
  unfold rowsAt
  split
  · refine (View.read_writes_full _ _ _ _ _).trans ?_
    rw [View.readAt_full, View.readAt_full, hf0, hf1]
  · exact hf7

theorem read_logits (inb) (inb4) (v) (hv : v = k0_pay2 x0 x1) (f4 f6) (hf4 : arg6.view.read (Elt F) f4 = x4) (hf6 : arg8.view.read (Elt F) f6 = l) :
    arg8.view.read (Elt F) (if k0_cond2 i = 1#1 then arg8.view.writes (Elt F) f6 [⟨Rect.unit (s := S1024x128) ![0, 0] S1024x128.size inb,
        k0_pay3 v (arg6.view.readAt (Elt F) (Rect.unit (s := S128x2048) ![0, 0] S128x2048.size inb4).toLoadRect f4)⟩] else f6)
      = logitsAt i x0 x1 x4 l := by
  subst hv
  unfold logitsAt
  split
  · refine (View.read_writes_full _ _ _ _ _).trans ?_
    rw [View.readAt_full, hf4]
  · exact hf6

theorem read_kept (inb) (f9) (hf9 : arg11.view.read (Elt F) f9 = hl) :
    arg11.view.read (Elt F) (if opens i = 1#1 then arg11.view.writes (Elt F) f9 [⟨Rect.unit (s := S8x8x1024) ![0, 0, 0] S8x8x1024.size inb, k0_pay1⟩] else f9)
      = keptAt i hl := by
  unfold keptAt
  split
  · exact View.read_writes_full _ _ _ _ _
  · exact hf9

/-- The rows a point keeps. -/
theorem load_tail {H : Vec F S1032x1024 .f32} {L} (h : Holds H 1024 L) (inb) :
    arg10.view.readCov (Val := Elt F) L (Rect.unit (s := S1032x1024) ![1024, 0] S8x1024.size inb).toLoadRect
      = fun j : S8x1024.Idx => H (ix2 ⟨1024 + (j 0).val, by have := (j 0).isLt; simp at *; omega⟩ (j 1)) := by
  rw [h.load]
  · funext j
    refine congrArg H (funext fun z => ?_)
    fin_cases z <;> apply Fin.ext
    · show 1024 + 1 * (j 0).val = 1024 + (j 0).val
      omega
    · show 0 + 1 * (j 1).val = (j 1).val
      omega
  · intro j
    have := (j 1).isLt
    show 0 + 1 * (j 1).val < 1024
    simp at *; omega

theorem run_unit (h3 : ¬k0_cond3 i = 1#1) (h4 : k0_cond4 i = 1#1) (h5 : ¬k0_cond5 i = 1#1) (K : PUnit → sProp 𝕄) :
    iprop(state c arg2 arg3 arg4 arg5 arg6 arg7 arg8 arg9 arg10 arg11 x0 x1 x2 x3 x4 o l xn hl
        ∗ (state c arg2 arg3 arg4 arg5 arg6 arg7 arg8 arg9 arg10 arg11 x0 x1 x2 x3 x4
            (tiled (tileUnit (k0_pay10 (BitVec.ofNat 32 (i 1).val))) (histAt i x2 (rowsAt i x0 x1 xn) (keptAt i hl)) x3)
            (logitsAt i x0 x1 x4 l) (rowsAt i x0 x1 xn) (keptAfter i (histAt i x2 (rowsAt i x0 x1 xn) (keptAt i hl)) (keptAt i hl)) -∗ K ⟨⟩))
      ⊢ wp frame (wpE (defs₀ (F := F)) Variants.none c none) Set.univ
          (cc0_gdn_in_proj i arg2 harg2 arg3 harg3 arg4 harg4 arg5 harg5 arg6 harg6 arg7 harg7 arg8 harg8 arg9 harg9 arg10 harg10 arg11 harg11) K := by
  simp only [cc0_gdn_in_proj_eq_skeleton]; unfold cc0_gdn_in_proj_skel
  unfold state owns
  iintro ⟨⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩,
    ⟨%f7, %hf7, H7⟩, ⟨%d8, %f8, -, H8⟩, ⟨%f9, %hf9, H9⟩⟩, Hk⟩
  sl_exec (disch := first | sl_exact h4 | sl_exact h3 | sl_exact h5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  have hr := read_rows i arg2 arg3 arg9 x0 x1 xn inb_S1024x2048_S1024x2048_0_0 inb_S1024x2048_S1024x2048_0_0 inb_S1x2048_S1x2048_0_0 f0 f1 f7 hf0 hf1 hf7
  have hx : run_unit.sl.v40 c i arg2 arg3 arg9 f0 f1 f7 = rowsAt i x0 x1 xn := (View.readAt_full _ _ _).trans hr
  have hh := read_kept i arg11 hl inb_S8x8x1024_S8x8x1024_0_0_0 f9 hf9
  have hv : run_unit.sl.v31 c i arg11 h4 f9 = _ := load_lane i (off1 i h4) _ _ hh
  have hL2 : Holds (histAt i x2 (rowsAt i x0 x1 xn) (keptAt i hl)) 512 (run_unit.sl.H8_3 c i arg2 arg3 arg4 arg9 arg11 h4 f0 f1 f2 f7 f9) := by
    unfold run_unit.sl.H8_3
    rw [hv]
    exact ((Holds.halo _ _ (halo_piece _ _ _ _)).slab 0 _ _ (slab_piece 0 _ _ _ _ hx f2 hf2 _ _)).slab 1 _ _ (slab_piece 1 _ _ _ _ hx f2 hf2 _ _)
  have hL3 : Holds (histAt i x2 (rowsAt i x0 x1 xn) (keptAt i hl)) 768 (run_unit.sl.H8_4 c i arg2 arg3 arg4 arg9 arg11 h4 f0 f1 f2 f7 f9) :=
    hL2.slab 2 _ _ (slab_piece 2 _ _ _ _ hx f2 hf2 _ _)
  have hL4 : Holds (histAt i x2 (rowsAt i x0 x1 xn) (keptAt i hl)) 1024 (run_unit.sl.H8_5 c i arg2 arg3 arg4 arg9 arg11 h4 f0 f1 f2 f7 f9) :=
    hL3.slab 3 _ _ (slab_piece 3 _ _ _ _ hx f2 hf2 _ _)
  isplitl [H5]
  · iexists _; isplitr; swap; · iexact H5
    ipureintro
    funext y
    refine View.read_writes_apply_of_pieces _ _ _ _ ?_ y ?_
    · refine View.PiecesOf.mem ?_
      repeat' apply And.intro
      all_goals first
        | exact trivial
        | (intro x
           first
           | refine Eq.trans ?_ (tile_piece (arg10 := arg10) (tileUnit _) (hL2.mono (m := 256) (by decide)) x3 f3 hf3 _ _ (by decide) rfl rfl (by decide) (by decide)
               (by decide) (by decide) (by decide) (by decide) (by decide) (by decide) x)
           | refine Eq.trans ?_ (tile_piece (arg10 := arg10) (tileUnit _) (hL3.mono (m := 512) (by decide)) x3 f3 hf3 _ _ (by decide) rfl rfl (by decide) (by decide)
               (by decide) (by decide) (by decide) (by decide) (by decide) (by decide) x)
           | refine Eq.trans ?_ (tile_piece (arg10 := arg10) (tileUnit _) hL4 x3 f3 hf3 _ _ (by decide) rfl rfl (by decide) (by decide)
               (by decide) (by decide) (by decide) (by decide) (by decide) (by decide) x)
           exact congrFun rfl x)
    · exact View.cover_of_tiled _ ![128, 128] rfl y
  isplitl [H6]
  · iexists _; isplitr; swap; · iexact H6
    ipureintro
    refine read_logits i arg6 arg8 x0 x1 x4 l _ _ _ ?_ f4 f6 hf4 hf6
    refine (View.readCov_full _ _ _ _ _).trans ?_
    rw [View.readAt_full, View.readAt_full, hf0, hf1]
  isplitl [H7]
  · iexists _; isplitr; swap; · iexact H7
    ipureintro
    exact hr
  isplitl [H8]
  · iexists _, _; isplitr; swap; · iexact H8
    ipureintro; rfl
  iexists _; isplitr; swap; · iexact H9
  ipureintro
  refine (store_lane i (off1 i h4) _ _ hh _).trans ?_
  unfold keptAfter run_unit.sl.v3204
  rw [load_tail arg10 hL4]

theorem run_plain (h3 : ¬k0_cond3 i = 1#1) (h4 : ¬k0_cond4 i = 1#1) (h5 : k0_cond5 i = 1#1) (K : PUnit → sProp 𝕄) :
    iprop(state c arg2 arg3 arg4 arg5 arg6 arg7 arg8 arg9 arg10 arg11 x0 x1 x2 x3 x4 o l xn hl
        ∗ (state c arg2 arg3 arg4 arg5 arg6 arg7 arg8 arg9 arg10 arg11 x0 x1 x2 x3 x4
            (tiled tilePlain (histAt i x2 (rowsAt i x0 x1 xn) (keptAt i hl)) x3)
            (logitsAt i x0 x1 x4 l) (rowsAt i x0 x1 xn) (keptAfter i (histAt i x2 (rowsAt i x0 x1 xn) (keptAt i hl)) (keptAt i hl)) -∗ K ⟨⟩))
      ⊢ wp frame (wpE (defs₀ (F := F)) Variants.none c none) Set.univ
          (cc0_gdn_in_proj i arg2 harg2 arg3 harg3 arg4 harg4 arg5 harg5 arg6 harg6 arg7 harg7 arg8 harg8 arg9 harg9 arg10 harg10 arg11 harg11) K := by
  simp only [cc0_gdn_in_proj_eq_skeleton]; unfold cc0_gdn_in_proj_skel
  unfold state owns
  iintro ⟨⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩,
    ⟨%f7, %hf7, H7⟩, ⟨%d8, %f8, -, H8⟩, ⟨%f9, %hf9, H9⟩⟩, Hk⟩
  sl_exec (disch := first | sl_exact h4 | sl_exact h3 | sl_exact h5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  have hr := read_rows i arg2 arg3 arg9 x0 x1 xn inb_S1024x2048_S1024x2048_0_0 inb_S1024x2048_S1024x2048_0_0 inb_S1x2048_S1x2048_0_0 f0 f1 f7 hf0 hf1 hf7
  have hx : run_plain.sl.v38_1 c i arg2 arg3 arg9 f0 f1 f7 = rowsAt i x0 x1 xn := (View.readAt_full _ _ _).trans hr
  have hh := read_kept i arg11 hl inb_S8x8x1024_S8x8x1024_0_0_0 f9 hf9
  have hv : run_plain.sl.v31 c i arg11 h5 f9 = _ := load_lane i (off2 i h5) _ _ hh
  have hL2 : Holds (histAt i x2 (rowsAt i x0 x1 xn) (keptAt i hl)) 512 (run_plain.sl.H8_3 c i arg2 arg3 arg4 arg9 arg11 h5 f0 f1 f2 f7 f9) := by
    unfold run_plain.sl.H8_3
    rw [hv]
    exact ((Holds.halo _ _ (halo_piece _ _ _ _)).slab 0 _ _ (slab_piece 0 _ _ _ _ hx f2 hf2 _ _)).slab 1 _ _ (slab_piece 1 _ _ _ _ hx f2 hf2 _ _)
  have hL3 : Holds (histAt i x2 (rowsAt i x0 x1 xn) (keptAt i hl)) 768 (run_plain.sl.H8_4 c i arg2 arg3 arg4 arg9 arg11 h5 f0 f1 f2 f7 f9) :=
    hL2.slab 2 _ _ (slab_piece 2 _ _ _ _ hx f2 hf2 _ _)
  have hL4 : Holds (histAt i x2 (rowsAt i x0 x1 xn) (keptAt i hl)) 1024 (run_plain.sl.H8_5 c i arg2 arg3 arg4 arg9 arg11 h5 f0 f1 f2 f7 f9) :=
    hL3.slab 3 _ _ (slab_piece 3 _ _ _ _ hx f2 hf2 _ _)
  isplitl [H5]
  · iexists _; isplitr; swap; · iexact H5
    ipureintro
    funext y
    refine View.read_writes_apply_of_pieces _ _ _ _ ?_ y ?_
    · refine View.PiecesOf.mem ?_
      repeat' apply And.intro
      all_goals first
        | exact trivial
        | (intro x
           first
           | refine Eq.trans ?_ (tile_piece (arg10 := arg10) tilePlain (hL2.mono (m := 256) (by decide)) x3 f3 hf3 _ _ (by decide) rfl rfl (by decide) (by decide)
               (by decide) (by decide) (by decide) (by decide) (by decide) (by decide) x)
           | refine Eq.trans ?_ (tile_piece (arg10 := arg10) tilePlain (hL3.mono (m := 512) (by decide)) x3 f3 hf3 _ _ (by decide) rfl rfl (by decide) (by decide)
               (by decide) (by decide) (by decide) (by decide) (by decide) (by decide) x)
           | refine Eq.trans ?_ (tile_piece (arg10 := arg10) tilePlain hL4 x3 f3 hf3 _ _ (by decide) rfl rfl (by decide) (by decide)
               (by decide) (by decide) (by decide) (by decide) (by decide) (by decide) x)
           exact congrFun rfl x)
    · exact View.cover_of_tiled _ ![128, 128] rfl y
  isplitl [H6]
  · iexists _; isplitr; swap; · iexact H6
    ipureintro
    refine read_logits i arg6 arg8 x0 x1 x4 l _ _ _ ?_ f4 f6 hf4 hf6
    refine (View.readCov_full _ _ _ _ _).trans ?_
    rw [View.readAt_full, View.readAt_full, hf0, hf1]
  isplitl [H7]
  · iexists _; isplitr; swap; · iexact H7
    ipureintro
    exact hr
  isplitl [H8]
  · iexists _, _; isplitr; swap; · iexact H8
    ipureintro; rfl
  iexists _; isplitr; swap; · iexact H9
  ipureintro
  refine (store_lane i (off2 i h5) _ _ hh _).trans ?_
  unfold keptAfter run_plain.sl.v2562
  rw [load_tail arg10 hL4]
  rfl

theorem run_dense (h3 : k0_cond3 i = 1#1) (h4 : ¬k0_cond4 i = 1#1) (h5 : ¬k0_cond5 i = 1#1) (K : PUnit → sProp 𝕄) :
    iprop(state c arg2 arg3 arg4 arg5 arg6 arg7 arg8 arg9 arg10 arg11 x0 x1 x2 x3 x4 o l xn hl
        ∗ (state c arg2 arg3 arg4 arg5 arg6 arg7 arg8 arg9 arg10 arg11 x0 x1 x2 x3 x4
            (k0_pay4 (rowsAt i x0 x1 xn) x2) (logitsAt i x0 x1 x4 l) (rowsAt i x0 x1 xn) (keptAt i hl) -∗ K ⟨⟩))
      ⊢ wp frame (wpE (defs₀ (F := F)) Variants.none c none) Set.univ
          (cc0_gdn_in_proj i arg2 harg2 arg3 harg3 arg4 harg4 arg5 harg5 arg6 harg6 arg7 harg7 arg8 harg8 arg9 harg9 arg10 harg10 arg11 harg11) K := by
  simp only [cc0_gdn_in_proj_eq_skeleton]; unfold cc0_gdn_in_proj_skel
  unfold state owns
  iintro ⟨⟨⟨%f0, %hf0, H0⟩, ⟨%f1, %hf1, H1⟩, ⟨%f2, %hf2, H2⟩, ⟨%f3, %hf3, H3⟩, ⟨%f4, %hf4, H4⟩, ⟨%f5, -, H5⟩, ⟨%f6, %hf6, H6⟩,
    ⟨%f7, %hf7, H7⟩, ⟨%d8, %f8, -, H8⟩, ⟨%f9, %hf9, H9⟩⟩, Hk⟩
  sl_exec (disch := first | sl_exact h4 | sl_exact h3 | sl_exact h5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  have hr := read_rows i arg2 arg3 arg9 x0 x1 xn inb_S1024x2048_S1024x2048_0_0 inb_S1024x2048_S1024x2048_0_0 inb_S1x2048_S1x2048_0_0 f0 f1 f7 hf0 hf1 hf7
  isplitl [H5]
  · iexists _; isplitr; swap; · iexact H5
    ipureintro
    refine (View.read_writes_full _ _ _ _ _).trans ?_
    exact congrArg₂ k0_pay4 ((View.readAt_full _ _ _).trans hr) ((View.readAt_full _ _ _).trans hf2)
  isplitl [H6]
  · iexists _; isplitr; swap; · iexact H6
    ipureintro
    refine read_logits i arg6 arg8 x0 x1 x4 l _ _ _ ?_ f4 f6 hf4 hf6
    refine (View.readCov_full _ _ _ _ _).trans ?_
    rw [View.readAt_full, View.readAt_full, hf0, hf1]
  isplitl [H7]
  · iexists _; isplitr; swap; · iexact H7
    ipureintro
    exact hr
  isplitl [H8]
  · iexists _, _; isplitr; swap; · iexact H8
    ipureintro; rfl
  iexists _; isplitr; swap; · iexact H9
  ipureintro
  exact read_kept i arg11 hl inb_S8x8x1024_S8x8x1024_0_0_0 f9 hf9

end

end Cert.GdnInIdeal.Hand

end
-- ==== Proof.GdnInLaunch.lean ====
/- The input projection of a convolving layer: what each point leaves, and the launch. -/
module

public import proofs.«01_k».proof.Proof.GdnInIdealBody

@[expose] public section

set_option maxRecDepth 16384

noncomputable section

namespace Cert.GdnInIdeal.Hand

open Cert.GdnInIdeal Cert.GdnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The conditions at a point -/

theorem opens_iff : ∀ t : Fin cfg0.N, opens (grid0.coords t) = 1#1 ↔ t.val = 0 := (by decide +kernel : ∀ t : Fin grid0.N, _)
theorem cond2_iff : ∀ t : Fin cfg0.N, k0_cond2 (grid0.coords t) = 1#1 ↔ t.val % 12 = 0 := (by decide +kernel : ∀ t : Fin grid0.N, _)
theorem cond3_iff : ∀ t : Fin cfg0.N, k0_cond3 (grid0.coords t) = 1#1 ↔ 8 ≤ t.val % 12 := (by decide +kernel : ∀ t : Fin grid0.N, _)
theorem cond4_iff : ∀ t : Fin cfg0.N, k0_cond4 (grid0.coords t) = 1#1 ↔ t.val % 12 < 4 := (by decide +kernel : ∀ t : Fin grid0.N, _)
theorem cond5_iff : ∀ t : Fin cfg0.N, k0_cond5 (grid0.coords t) = 1#1 ↔ 4 ≤ t.val % 12 ∧ t.val % 12 < 8 := (by decide +kernel : ∀ t : Fin grid0.N, _)
theorem idle_5 : ∀ t : Fin cfg0.N, idle0 5 (grid0.coords t) = false := (by decide +kernel : ∀ t : Fin grid0.N, _)
theorem idle_6 : ∀ t : Fin cfg0.N, cfg0.idle 6 (cfg0.grid.coords t) = true ↔ t.val % 12 ≠ 0 := (by decide +kernel : ∀ t : Fin grid0.N, _)

/-! ## What each point leaves -/

abbrev scratch0 : Memref sig .tc .vmem S1024x2048 .bf16 := Memref.whole cc0_scratch0
abbrev scratch1 : Memref sig .tc .vmem S1032x1024 .f32 := Memref.whole cc0_scratch1
abbrev scratch2 : Memref sig .tc .vmem S8x8x1024 .f32 := Memref.whole cc0_scratch2

/-- The first point of point `t`'s row block. -/
def first (t : Fin cfg0.N) : Fin cfg0.N := ⟨12 * (t.val / 12), Nat.lt_of_le_of_lt (Nat.mul_div_le _ _) t.isLt⟩

/-- The point before `t`. -/
def prev (t : Fin cfg0.N) : Fin cfg0.N := ⟨t.val - 1, Nat.lt_of_le_of_lt (Nat.sub_le _ _) t.isLt⟩

theorem first_of (t : Fin cfg0.N) (h : t.val % 12 = 0) : first t = t := Fin.ext (show 12 * (t.val / 12) = t.val by omega)

theorem first_prev (t : Fin cfg0.N) (h : t.val % 12 ≠ 0) : first (prev t) = first t :=
  Fin.ext (show 12 * ((t.val - 1) / 12) = 12 * (t.val / 12) by omega)

/-- The normalised rows of point `t`'s row block. -/
def rowsOf (c : Dev nD) (t : Fin cfg0.N) : Vec F S1024x2048 .bf16 := k0_pay2 (iblk m c 0 (first t)) (iblk m c 1 (first t))

/-- The logits of point `t`'s row block. -/
def logits (c : Dev nD) (t : Fin cfg0.N) : Vec F S1024x128 .f32 := k0_pay3 (rowsOf m c t) (iblk m c 4 (first t))

theorem rowsOf_prev (c : Dev nD) (t : Fin cfg0.N) (h : t.val % 12 ≠ 0) : rowsOf m c (prev t) = rowsOf m c t := by
  unfold rowsOf
  rw [first_prev t h]

theorem logits_prev (c : Dev nD) (t : Fin cfg0.N) (h : t.val % 12 ≠ 0) : logits m c (prev t) = logits m c t := by
  unfold logits
  rw [rowsOf_prev m c t h, first_prev t h]

/-- Point `t`'s history over the kept rows `hl`. -/
def histOf (c : Dev nD) (t : Fin cfg0.N) (hl : Vec F S8x8x1024 .f32) : Vec F S1032x1024 .f32 :=
  histAt (grid0.coords t) (X0_2 m c t) (rowsOf m c t) hl

/-- The rows kept before point `n`. -/
def keptOf (c : Dev nD) : ℕ → Vec F S8x8x1024 .f32
  | 0 => k0_pay1
  | n + 1 => if h : n < cfg0.N then
      (if n % 12 < 8 then keptAfter (grid0.coords ⟨n, h⟩) (histOf m c ⟨n, h⟩ (keptOf c n)) (keptOf c n) else keptOf c n)
    else keptOf c n

theorem keptOf_conv (c : Dev nD) (t : Fin cfg0.N) (h : t.val % 12 < 8) :
    keptOf m c (t.val + 1) = keptAfter (grid0.coords t) (histOf m c t (keptOf m c t.val)) (keptOf m c t.val) := by
  rw [keptOf, dif_pos t.isLt, if_pos h]

theorem keptOf_dense (c : Dev nD) (t : Fin cfg0.N) (h : 8 ≤ t.val % 12) : keptOf m c (t.val + 1) = keptOf m c t.val := by
  rw [keptOf, dif_pos t.isLt, if_neg (by omega)]

/-- The block that point `t` stores. -/
def outOf (c : Dev nD) (t : Fin cfg0.N) : Vec F S1024x1024 .bf16 :=
  if t.val % 12 < 4 then tiled (tileUnit (k0_pay10 (BitVec.ofNat 32 (grid0.coords t 1).val))) (histOf m c t (keptOf m c t.val)) (iblk m c 3 t)
  else if t.val % 12 < 8 then tiled tilePlain (histOf m c t (keptOf m c t.val)) (iblk m c 3 t)
  else k0_pay4 (rowsOf m c t) (X0_2 m c t)

/-- After a point the scratch holds its row block's normalised rows and the rows kept. -/
def Phi (c : Dev nD) (t : Fin (cfg0.N + 1)) : sProp 𝕄 :=
  iprop(((∃ d : Vec F S1024x2048 .bf16, ⌜∀ s : Fin cfg0.N, t.val = s.val + 1 → d = rowsOf m c s⌝ ∗ owns (c : Thread nD τ) scratch0 fullShare d)
      ∗ (∃ d, owns (c : Thread nD τ) scratch1 fullShare d)
      ∗ (∃ d : Vec F S8x8x1024 .f32, ⌜t.val ≠ 0 → d = keptOf m c t.val⌝ ∗ owns (c : Thread nD τ) scratch2 fullShare d))
    ∗ (∃ r, prngReg c r))

theorem PhiA_eq (c : Dev nD) : (Pipeline.ΦA spec0 c : sProp 𝕄)
    = iprop(((∃ d, owns (c : Thread nD τ) scratch0 fullShare d) ∗ (∃ d, owns (c : Thread nD τ) scratch1 fullShare d)
      ∗ (∃ d, owns (c : Thread nD τ) scratch2 fullShare d)) ∗ (∃ r, prngReg c r)) := by
  unfold Pipeline.ΦA
  rw [scopedRest0_eq]
  simp only [scratch0, scratch1, scratch2, owns_whole]
  try rfl

/-- The arrays as the region finds them; after each point the inputs' blocks, the point's block of the projection, and the row block's logits. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => outOf m c t
    | ⟨6, _⟩ => logits m c t
  Φ t := Phi m c t
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outOf m c t := by dsimp only [dats]
theorem after_6 (c : Dev nD) (t : Fin cfg0.N) : (dats m 0 c).after 6 t = logits m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The logits' buffer between a row block's points -/

/-- Past a row block's first point the buffer holds the row block's logits. -/
theorem held (c : Dev nD) (d) : ∀ (n : ℕ) (t : Fin cfg0.N), t.val = n → t.val % 12 ≠ 0 → (dats m 0 c).before 6 t d = logits m c t := by
  intro n
  induction n with
  | zero =>
    intro t ht h
    omega
  | succ n ih =>
    intro t ht h
    have hf : (cfg0.win 6).flush (prev t) = false := Bool.eq_false_iff.mpr fun h' => by
      have := (flush0_6 (prev t)).mp h'
      have hp : (prev t).val = t.val - 1 := rfl
      omega
    refine ((dats m 0 c).before_of_pos 6 t (by omega) ((cfg0.win 6).fetch_out rfl t) d).trans ?_
    rw [show (cfg0.win 6).flush ⟨t.val - 1, Nat.lt_of_le_of_lt (Nat.sub_le _ _) t.isLt⟩ = false from hf, if_neg Bool.false_ne_true]
    rw [← logits_prev m c t h]
    have hp : (prev t).val = n := by
      show t.val - 1 = n
      omega
    unfold Dat.left
    by_cases h0 : (prev t).val % 12 = 0
    · have hi : cfg0.idle 6 (cfg0.grid.coords (prev t)) = false := Bool.eq_false_iff.mpr fun h' => (idle_6 _).mp h' h0
      rw [show cfg0.idle 6 (cfg0.grid.coords ⟨t.val - 1, Nat.lt_of_le_of_lt (Nat.sub_le _ _) t.isLt⟩) = false from hi]
      show (dats m 0 c).kept 6 (prev t) d = _
      unfold Dat.kept
      rw [Pipeline.fill_of_clip_none 6 _ (fun _ => rfl) d ((dats m 0 c).after 6 _), Pipeline.Window.fill_cut, after_6]
    · have hi : cfg0.idle 6 (cfg0.grid.coords (prev t)) = true := (idle_6 _).mpr h0
      rw [show cfg0.idle 6 (cfg0.grid.coords ⟨t.val - 1, Nat.lt_of_le_of_lt (Nat.sub_le _ _) t.isLt⟩) = true from hi]
      exact ih (prev t) hp h0

/-! ## The body at a point -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def post (c : Dev nD) (t : Fin cfg0.N) (Q : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t) ∗ Q)

/-- The body at point `t` leaves the point's block, the row block's logits and rows, and the rows kept after the point. -/
theorem step (c : Dev nD) (t : Fin cfg0.N) (o l) (xn : Vec F S1024x2048 .bf16) (hl : Vec F S8x8x1024 .f32)
    (hx : rowsAt (grid0.coords t) (iblk m c 0 t) (iblk m c 1 t) xn = rowsOf m c t)
    (hg : logitsAt (grid0.coords t) (iblk m c 0 t) (iblk m c 1 t) (iblk m c 4 t) l = logits m c t)
    (hk : keptAt (grid0.coords t) hl = keptOf m c t.val) (K : PUnit → sProp 𝕄) :
    iprop(state c (st0_0 t) (st0_1 t) (st0_2 t) (st0_3 t) (st0_4 t) (st0_5 t) (st0_6 t) scratch0 scratch1 scratch2
          (iblk m c 0 t) (iblk m c 1 t) (X0_2 m c t) (iblk m c 3 t) (iblk m c 4 t) o l xn hl
        ∗ (state c (st0_0 t) (st0_1 t) (st0_2 t) (st0_3 t) (st0_4 t) (st0_5 t) (st0_6 t) scratch0 scratch1 scratch2
          (iblk m c 0 t) (iblk m c 1 t) (X0_2 m c t) (iblk m c 3 t) (iblk m c 4 t) (outOf m c t) (logits m c t) (rowsOf m c t) (keptOf m c (t.val + 1)) -∗ K ⟨⟩))
      ⊢ wp frame (wpE (defs₀ (F := F)) Variants.none c none) Set.univ (bodyAt0 t) K := by
  unfold bodyAt0
  by_cases h4 : t.val % 12 < 4
  · have h := run_unit c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5)) (st0_6 t) (hstage0_6 ((cfg0.slots t 6).cast nbuf0_6)) scratch0 (Memref.isWhole_whole _) scratch1 (Memref.isWhole_whole _)
      scratch2 (Memref.isWhole_whole _) (iblk m c 0 t) (iblk m c 1 t) (X0_2 m c t) (iblk m c 3 t) (iblk m c 4 t) o l xn hl
      (fun h => by have := (cond3_iff t).mp h; omega) ((cond4_iff t).mpr h4) (fun h => by have := (cond5_iff t).mp h; omega) K
    rw [hx, hg, hk] at h
    rw [show outOf m c t = _ from if_pos h4, keptOf_conv m c t (by omega)]
    exact h
  · by_cases h5 : t.val % 12 < 8
    · have h := run_plain c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5)) (st0_6 t) (hstage0_6 ((cfg0.slots t 6).cast nbuf0_6)) scratch0 (Memref.isWhole_whole _) scratch1 (Memref.isWhole_whole _)
        scratch2 (Memref.isWhole_whole _) (iblk m c 0 t) (iblk m c 1 t) (X0_2 m c t) (iblk m c 3 t) (iblk m c 4 t) o l xn hl
        (fun h => by have := (cond3_iff t).mp h; omega) (fun h => h4 ((cond4_iff t).mp h)) ((cond5_iff t).mpr ⟨by omega, h5⟩) K
      rw [hx, hg, hk] at h
      rw [show outOf m c t = _ from (if_neg h4).trans (if_pos h5), keptOf_conv m c t (by omega)]
      exact h
    · have h := run_dense c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3))
        (st0_4 t) (hstage0_4 ((cfg0.slots t 4).cast nbuf0_4)) (st0_5 t) (hstage0_5 ((cfg0.slots t 5).cast nbuf0_5)) (st0_6 t) (hstage0_6 ((cfg0.slots t 6).cast nbuf0_6)) scratch0 (Memref.isWhole_whole _) scratch1 (Memref.isWhole_whole _)
        scratch2 (Memref.isWhole_whole _) (iblk m c 0 t) (iblk m c 1 t) (X0_2 m c t) (iblk m c 3 t) (iblk m c 4 t) o l xn hl
        ((cond3_iff t).mpr (by omega)) (fun h => h4 ((cond4_iff t).mp h)) (fun h => by have := (cond5_iff t).mp h; omega) K
      rw [hx, hg, hk] at h
      rw [show outOf m c t = _ from (if_neg h4).trans (if_neg h5), keptOf_dense m c t (by omega)]
      exact h

/-- At every point the logits' buffer is left with the row block's logits. -/
theorem body_all (c : Dev nD) (t : Fin cfg0.N) :
    pre m c t ⊢ wp frame (wpE (defs₀ (F := F)) Variants.none c none) Set.univ (bodyAt0 t)
      (fun _ => post m c t (owns (c : Thread nD τ) (st0_6 t) fullShare (logits m c t))) := by
  unfold pre post
  simp only [before_0, before_1, before_2, before_3, before_4]
  rw [show (dats m 0 c).owesAt () t.succ = (dats m 0 c).owesAt () t.castSucc from rfl, after_0, after_1, after_2, after_3, after_4, after_5,
    show (dats m 0 c).Φ t.castSucc = Phi m c t.castSucc from rfl, show (dats m 0 c).Φ t.succ = Phi m c t.succ from rfl]
  unfold Phi
  iintro ⟨⟨⟨⟨%xn, %hx, HA⟩, HB, ⟨%hl, %hh, HC⟩⟩, Hg⟩, Ho, ⟨%d0, H0⟩, ⟨%d1, H1⟩, ⟨%d2, H2⟩, ⟨%d3, H3⟩, ⟨%d4, H4⟩, ⟨%d5, H5⟩, ⟨%d6, H6⟩⟩
  have hx' : rowsAt (grid0.coords t) (iblk m c 0 t) (iblk m c 1 t) xn = rowsOf m c t := by
    unfold rowsAt
    by_cases h : t.val % 12 = 0
    · rw [if_pos ((cond2_iff t).mpr h)]
      unfold rowsOf
      rw [first_of t h]
    · rw [if_neg fun h' => h ((cond2_iff t).mp h')]
      exact (hx (prev t) (by
        show t.val = t.val - 1 + 1
        omega)).trans (rowsOf_prev m c t h)
  have hg : logitsAt (grid0.coords t) (iblk m c 0 t) (iblk m c 1 t) (iblk m c 4 t) ((dats m 0 c).before 6 t d6) = logits m c t := by
    unfold logitsAt
    by_cases h : t.val % 12 = 0
    · rw [if_pos ((cond2_iff t).mpr h)]
      unfold logits rowsOf
      rw [first_of t h]
    · rw [if_neg fun h' => h ((cond2_iff t).mp h')]
      exact held m c d6 t.val t rfl h
  have hk : keptAt (grid0.coords t) hl = keptOf m c t.val := by
    unfold keptAt
    by_cases h : t.val = 0
    · rw [if_pos ((opens_iff t).mpr h), h]
      rfl
    · rw [if_neg fun h' => h ((opens_iff t).mp h')]
      exact hh h
  iapply (step m c t ((dats m 0 c).before 5 t d5) ((dats m 0 c).before 6 t d6) xn hl hx' hg hk _)
  unfold state
  isplitl [H0 H1 H2 H3 H4 H5 H6 HA HB HC]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [HB]; · iexact HB
    iexact HC
  iintro ⟨H0, H1, H2, H3, H4, H5, H6, HA, HB, HC⟩
  isplitl [HA HB HC Hg]
  · isplitl [HA HB HC]
    · isplitl [HA]
      · iexists _; isplitr; swap; · iexact HA
        ipureintro
        intro s hst
        rw [show s = t from Fin.ext (by simp at hst; omega)]
      isplitl [HB]; · iexact HB
      iexists _; isplitr; swap; · iexact HC
      ipureintro
      intro _
      rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The same with the logits' buffer said to be as it was. -/
theorem body_kept (c : Dev nD) (t : Fin cfg0.N) (h : t.val % 12 ≠ 0) :
    pre m c t ⊢ wp frame (wpE (defs₀ (F := F)) Variants.none c none) Set.univ (bodyAt0 t)
      (fun _ => post m c t iprop(∃ d, owns (c : Thread nD τ) (st0_6 t) fullShare ((dats m 0 c).before 6 t d))) := by
  refine (body_all m c t).trans (wp_mono _ _ _ fun _ => ?_)
  unfold post
  iintro ⟨HP, Ho, H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists (logits m c t)
  rw [held m c _ t.val t rfl h]
  iexact H6

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  by_cases hi : idle0 6 (grid0.coords t) = true
  · by_cases hf : (cfg0.win 6).flush t = true
    · simp only [idle_5 t, hi, hf]
      refine triple_restated (body_all m c t) rfl .rfl fun _ => ?_
      exact .rfl
    · simp only [idle_5 t, hi, Bool.eq_false_iff.mpr hf]
      exact triple_restated (body_kept m c t ((idle_6 t).mp hi)) rfl .rfl fun _ => .rfl
  · simp only [idle_5 t, Bool.eq_false_iff.mpr hi]
    exact triple_restated (body_all m c t) rfl .rfl fun _ => .rfl

/-! ## The launch -/

theorem hin (c : Dev nD) : Pipeline.ΦA spec0 c ⊢ (dats m 0 c).Φ 0 := by
  rw [show (dats m 0 c).Φ 0 = Phi m c 0 from rfl, PhiA_eq]
  unfold Phi
  iintro ⟨⟨⟨%d, HA⟩, HB, ⟨%e, HC⟩⟩, Hg⟩
  isplitl [HA HB HC]
  · isplitl [HA]
    · iexists d; isplitr
      · ipureintro
        intro s hs
        exact absurd hs (Nat.succ_ne_zero _).symm
      iexact HA
    isplitl [HB]; · iexact HB
    iexists e; isplitr
    · ipureintro
      intro h
      exact absurd rfl h
    iexact HC
  iexact Hg

theorem hout (c : Dev nD) : (dats m 0 c).Φ (Fin.last cfg0.N) ⊢ Pipeline.ΦA spec0 c := by
  rw [show (dats m 0 c).Φ (Fin.last cfg0.N) = Phi m c (Fin.last cfg0.N) from rfl, PhiA_eq]
  unfold Phi
  iintro ⟨⟨⟨%d, -, HA⟩, HB, ⟨%e, -, HC⟩⟩, Hg⟩
  isplitl [HA HB HC]
  · isplitl [HA]
    · iexists d; iexact HA
    isplitl [HB]; · iexact HB
    iexists e; iexact HC
  iexact Hg

set_option backward.isDefEq.respectTransparency.types false in
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The run with the two outputs' arrays named. -/
theorem value : θ_run defs (onTc (τ := τ) (main (F := F))) ⟨m, fun _ => 0, ρ⟩ (fun r => ∀ c : Dev nD,
      r.2.mem ((c.tc : Thread nD τ).loc main_v9_0) = (dats m 0 c).arrAt 5 cfg0.N
      ∧ r.2.mem ((c.tc : Thread nD τ).loc main_v9_1) = (dats m 0 c).arrAt 6 cfg0.N) :=
  (θ_run defs _ _).mono (fun _ h c => ⟨(h.1 c).1 5, (h.1 c).1 6⟩) (run m ρ)

end Cert.GdnInIdeal.Hand

end
-- ==== Proof.Convolved.lean ====
/- The input projection of a convolving layer, as a formula: the projected columns, their causal convolution along a sequence, and the
   query and key heads at unit length. -/
module

public import proofs.«01_k».proof.Proof.Linear

@[expose] public section

noncomputable section

namespace Cert.Convolved

open Idealize.ShloMosaic Cert.Linear

/-- A number times its logistic. -/
def silu (a : EReal) : EReal := a * Ideal.div 1 (1 + Ideal.exp (-a))

/-- What a head's row is multiplied by to have length one, the 1e-6 under the root as the program's word for it. -/
def perLength (y : Fin 128 → EReal) : EReal := Ideal.rsqrt (∑ j, y j * y j + Ideal.ofBits .f32 0x358637BD#32)

variable (X : (⟨2, ![16384, 2048]⟩ : Shape).Idx → EReal) (G : (⟨2, ![1, 2048]⟩ : Shape).Idx → EReal)
  (W : (⟨3, ![1, 2048, 12352]⟩ : Shape).Idx → EReal) (K : (⟨3, ![1, 4, 8192]⟩ : Shape).Idx → EReal)

/-- What tap `j` reads for row `r`: the projection `3 - j` rows before, and zero before the row's sequence of 2048. -/
def past (r : Fin 16384) (x : Fin 8192) (j : Fin 4) : EReal :=
  if 3 ≤ r.val % 2048 + j.val then mixed X G W ⟨r.val + j.val - 3, by omega⟩ ⟨x.val, by omega⟩ else 0

/-- The convolution through its activation. -/
def active (r : Fin 16384) (x : Fin 8192) : EReal :=
  silu (K (ix3 0 0 x) * past X G W r x 0 + K (ix3 0 1 x) * past X G W r x 1 + K (ix3 0 2 x) * past X G W r x 2 + K (ix3 0 3 x) * past X G W r x 3)

/-- The columns of the head that column `x` is of. -/
def head (x : Fin 8192) (j : Fin 128) : Fin 8192 := ⟨128 * (x.val / 128) + j.val, by omega⟩

/-- The query columns at the length 128^(-1/2), as the program's word for it, the key columns at length one, the value columns, and the
    columns that are not convolved. -/
def convolved (r : Fin 16384) (x : Fin 12288) : EReal :=
  if h : x.val < 8192 then
    if x.val < 2048 then active X G W K r ⟨x.val, h⟩ * (perLength (fun j => active X G W K r (head ⟨x.val, h⟩ j)) * Ideal.ofBits .f32 0x3DB504F3#32)
    else if x.val < 4096 then active X G W K r ⟨x.val, h⟩ * perLength (fun j => active X G W K r (head ⟨x.val, h⟩ j))
    else active X G W K r ⟨x.val, h⟩
  else mixed X G W r ⟨x.val, by omega⟩

/-- The 64 columns of the gates' logits, and zeros. -/
def rates (r : Fin 16384) (x : Fin 128) : EReal := if h : x.val < 64 then mixed X G W r ⟨12288 + x.val, by omega⟩ else 0

end Cert.Convolved

end
-- ==== Proof.GdnInValue.lean ====
/- The input projection of a convolving layer: what the call leaves. -/
module

public import proofs.«01_k».proof.Proof.GdnInLaunch
public import proofs.«01_k».proof.Proof.Convolved
public import Idealize.ShloMosaic.Lib.Pipeline.ValueKit
public import Idealize.ShloMosaic.Lib.Pointwise
public import Idealize.ShloMosaic.Lib.KernelVsHost

@[expose] public section

set_option maxRecDepth 16384

noncomputable section

namespace Cert.GdnInValue

open Idealize.ShloMosaic Idealize.ShloMosaic.TcCoe Idealize.ShloMosaic.Tactic
open Cert.GdnInIdeal Cert.GdnInIdeal.Gen Cert.GdnInIdeal.Facts Cert.GdnInIdeal.Hand Cert.Linear Cert.Convolved

/-! ## What a point computes, entry by entry -/

/-- A block's rows normalised. -/
theorem norm_apply (x0 : Vec Ideal S1024x2048 .f32) (g : Vec Ideal S1x2048 .f32) (r : Fin 1024) (k : Fin 2048) :
    k0_pay2 x0 g (ix2 r k) = normed (fun i => x0 (ix2 r i)) (fun i => g (ix2 0 i)) k := by
  unfold normed
  pointwise [k0_pay2]

/-- The rows times the rows of a block of the transposed matrix. -/
theorem logits_apply (xn : Vec Ideal S1024x2048 .bf16) (w : Vec Ideal S128x2048 .bf16) (r : Fin 1024) (x : Fin 128) :
    k0_pay3 xn w (ix2 r x) = ∑ j : Fin 2048, xn (ix2 r j) * w (ix2 x j) := by
  pointwise [k0_pay3]

theorem dense_apply (xn : Vec Ideal S1024x2048 .bf16) (w : Vec Ideal S1x1024x2048 .bf16) (r : Fin 1024) (x : Fin 1024) :
    k0_pay4 xn w (ix2 r x) = ∑ j : Fin 2048, xn (ix2 r j) * w (ix3 0 x j) := by
  pointwise [k0_pay4]

theorem slab_apply (xn : Vec Ideal S1024x2048 .bf16) (w : Vec Ideal S1x256x2048 .bf16) (r : Fin 1024) (x : Fin 256) :
    k0_pay11 xn w (ix2 r x) = ∑ j : Fin 2048, xn (ix2 r j) * w (ix3 0 x j) := by
  pointwise [k0_pay11]

/-- The rows kept, as stored. -/
theorem kept_apply (v : Vec Ideal S8x1024 .f32) (a : Fin 8) (b : Fin 1024) : k0_pay6 v (ix3 0 a b) = v (ix2 a b) := by
  pointwise [k0_pay6]

/-- The rows chosen: zeros at a sequence's first row block, else those kept. -/
theorem halo_apply (i : Fin 16) (v : Vec Ideal S1x8x1024 .f32) (a : Fin 8) (b : Fin 1024) :
    k0_pay9 (BitVec.ofNat 32 i.val) v (ix2 a b) = if i.val % 2 = 0 then 0 else v (ix3 0 a b) := by
  pointwise [k0_pay9]
  refine (congrArg (fun b => Scalar.select b _ _) (show _ = if i.val % 2 = 0 then 1#1 else 0#1 from ?_)).trans ?_
  · clear v a b
    revert i
    decide +kernel
  · split <;> rfl

/-- The scale of a column block's heads. -/
theorem scale_apply (i : Fin 12) : k0_pay10 (F := Ideal) (BitVec.ofNat 32 i.val) = if i.val < 2 then Ideal.ofBits .f32 0x3DB504F3#32 else 1 := by
  pointwise [k0_pay10]
  revert i
  refine Fin.forall_iff.mpr fun i hi => ?_
  interval_cases i <;> rfl

/-- The four taps. -/
theorem taps_apply (v : Vec Ideal S136x128 .f32) (t0 t1 t2 t3 : Vec Ideal S1x128 .f32) (r q : Fin 128) :
    taps v t0 t1 t2 t3 (ix2 r q) = t0 (ix2 0 q) * v (ix2 ⟨r.val + 5, by omega⟩ q) + t1 (ix2 0 q) * v (ix2 ⟨r.val + 6, by omega⟩ q)
      + t2 (ix2 0 q) * v (ix2 ⟨r.val + 7, by omega⟩ q) + t3 (ix2 0 q) * v (ix2 ⟨r.val + 8, by omega⟩ q) := by
  have turn (n : ℕ) (h : n < 136) (h' : n = (r.val + 136 - (136 - (n - r.val))) % 136) (k : ℕ) (hk : k = 136 - (n - r.val)) :
      (⟨(r.val + 136 - k) % 136, Nat.mod_lt _ (by decide)⟩ : Fin 136) = ⟨n, h⟩ := Fin.ext (by subst hk; exact h'.symm)
  pointwise [taps]
  rw [turn (r.val + 5) (by omega) (by omega) 131 (by omega), turn (r.val + 6) (by omega) (by omega) 130 (by omega),
    turn (r.val + 7) (by omega) (by omega) 129 (by omega)]
  simp only [Nat.add_comm 8]

theorem gate_apply (a : FVec Ideal S128x128 .f32) (r q : Fin 128) : gate a (ix2 r q) = silu (a (ix2 r q)) := by
  unfold silu
  pointwise [gate]
  rw [zero_sub]

theorem unit_apply (s : EReal) (y : FVec Ideal S128x128 .f32) (r q : Fin 128) :
    unitRows (F := Ideal) s y (ix2 r q) = y (ix2 r q) * (perLength (fun j => y (ix2 r j)) * s) := by
  unfold perLength
  pointwise [unitRows]

variable (m : (ℓ : Loc nD τ sig) → Buf (Elt Ideal) ℓ) (c : Dev nD)

abbrev stream : (⟨2, ![16384, 2048]⟩ : Shape).Idx → EReal := m ((c : Thread nD τ).loc main_arg0)
abbrev gains : (⟨2, ![1, 2048]⟩ : Shape).Idx → EReal := m ((c : Thread nD τ).loc main_arg1)
abbrev weights : (⟨3, ![1, 2048, 12352]⟩ : Shape).Idx → EReal := m ((c : Thread nD τ).loc main_arg2)
abbrev filters : (⟨3, ![1, 4, 8192]⟩ : Shape).Idx → EReal := m ((c : Thread nD τ).loc main_arg3)

/-! ## What the launch stages -/

/-- The matrix transposed. -/
abbrev turned : FVec Ideal S1x12352x2048 .bf16 :=
  truncf .bf16 (transpose S1x12352x2048 [0, 2, 1] (weights m c : FVec Ideal S1x2048x12352 .f32) transposes_S1x2048x12352_S1x12352x2048_0_2_1) bitsLt_bf16_f32

theorem V_main_v1 : V m c main_v1 = turned m c := by
  unfold V
  simp only [List.flatten_cons, List.flatten_nil, List.append_nil, List.cons_append, List.nil_append]
  after_results_simp <;> rfl

theorem V_main_v3 : V m c main_v3 = shapeCast S1x2048 (shapeCast S2048 (gains m c) shapeCasts_S1x2048_S2048) shapeCasts_S2048_S1x2048 := by
  unfold V
  simp only [List.flatten_cons, List.flatten_nil, List.append_nil, List.cons_append, List.nil_append]
  after_results_simp <;> rfl

theorem V_main_v5 : V m c main_v5 = pad S8x8192 ![0, 0] ![4, 0] ![0, 0] (shapeCast S4x8192 (filters m c) shapeCasts_S1x4x8192_S4x8192)
    (sitofp (F := Ideal) .f32 (constantI S_ 32 0#32)) pads_S4x8192_S8x8192_040_000 h_S_ := by
  unfold V
  simp only [List.flatten_cons, List.flatten_nil, List.append_nil, List.cons_append, List.nil_append]
  after_results_simp <;> rfl

theorem V_main_v8 : V m c main_v8 = pad S128x2048 ![0, 0] ![64, 0] ![0, 0]
    (shapeCast S64x2048 (extractStridedSlice S1x64x2048 ![0, 12288, 0] (turned m c) slices_S1x12352x2048_S1x64x2048_0_12288_0) shapeCasts_S1x64x2048_S64x2048)
    (sitofp .bf16 (constantI S_ 32 0#32)) pads_S64x2048_S128x2048_0640_000 h_S_ := by
  unfold V
  simp only [List.flatten_cons, List.flatten_nil, List.append_nil, List.cons_append, List.nil_append]
  after_results_simp <;> rfl

theorem gains_apply (i : Fin 2048) : V m c main_v3 (ix2 0 i) = gains m c (ix2 0 i) := by
  rw [V_main_v3]
  pointwise

theorem matrix_apply (x : Fin 12352) (j : Fin 2048) : V m c main_v1 (ix3 0 x j) = weights m c (ix3 0 j x) := by
  rw [V_main_v1]
  unfold turned
  pointwise

theorem filters_apply (j : Fin 8) (hj : j.val < 4) (x : Fin 8192) : V m c main_v5 (ix2 j x) = filters m c (ix3 0 ⟨j.val, hj⟩ x) := by
  rw [V_main_v5]
  pointwise
  exact dif_pos hj

/-- Row `x` of the logits' matrix staged is column `12288 + x` of the weights, and zero from the 65th on. -/
theorem rates_apply (x : Fin 128) (j : Fin 2048) : V m c main_v8 (ix2 x j)
    = if h : x.val < 64 then weights m c (ix3 0 j ⟨12288 + x.val, by omega⟩) else 0 := by
  rw [V_main_v8]
  unfold turned
  pointwise
  refine congrArg (dite (x.val < 64) _) (funext fun _ => ?_)
  show (((0#32 : BitVec 32).toInt : ℝ) : EReal) = 0
  simp

theorem e0 : ∀ t : Fin cfg0.N, win0_0.index t = ![t.val / 12, 0] :=
  (by decide +kernel : ∀ t : Fin grid0.N, _)
theorem e1 : ∀ t : Fin cfg0.N, win0_1.index t = ![0, 0] :=
  (by decide +kernel : ∀ t : Fin grid0.N, _)
theorem e2 : ∀ t : Fin cfg0.N, win0_2.index t = ![0, t.val % 12, 0] :=
  (by decide +kernel : ∀ t : Fin grid0.N, _)
theorem e3 : ∀ t : Fin cfg0.N, win0_3.index t = ![0, min (t.val % 12) 7] :=
  (by decide +kernel : ∀ t : Fin grid0.N, _)
theorem e4 : ∀ t : Fin cfg0.N, win0_4.index t = ![0, 0] :=
  (by decide +kernel : ∀ t : Fin grid0.N, _)
theorem e5 : ∀ t : Fin cfg0.N, win0_5.index t = ![t.val / 12, t.val % 12] :=
  (by decide +kernel : ∀ t : Fin grid0.N, _)
theorem e6 : ∀ t : Fin cfg0.N, win0_6.index t = ![t.val / 12, 0] :=
  (by decide +kernel : ∀ t : Fin grid0.N, _)
theorem coord0 : ∀ t : Fin cfg0.N, (grid0.coords t 0).val = t.val / 12 := (by decide +kernel : ∀ t : Fin grid0.N, _)
theorem coord1 : ∀ t : Fin cfg0.N, (grid0.coords t 1).val = t.val % 12 := (by decide +kernel : ∀ t : Fin grid0.N, _)

/-- The normalised rows of point `t`'s row block. -/
theorem rowsOf_apply (t : Fin cfg0.N) (r : Fin 1024) (k : Fin 2048) (R : Fin 16384) (hR : R.val = 1024 * (t.val / 12) + r.val) :
    rowsOf m c t (ix2 r k) = normed (fun i => stream m c (ix2 R i)) (fun i => gains m c (ix2 0 i)) k := by
  have hf : (first t).val = 12 * (t.val / 12) := rfl
  unfold rowsOf
  refine (norm_apply _ _ r k).trans ?_
  refine congrArg₂ (fun f g => normed f g k) (funext fun i => ?_) (funext fun i => ?_)
  · blk_simp [iblk]
    rw [V_main_arg0]
    refine congrArg (stream m c) ?_
    blk_ext [e0]
  · refine Eq.trans ?_ (gains_apply m c i)
    blk_simp [iblk]
    refine congrArg (V m c main_v3) ?_
    blk_ext [e1]

/-- The block of the matrix at point `t`. -/
theorem block_apply (t : Fin cfg0.N) (x : Fin 1024) (j : Fin 2048) (C : Fin 12352) (hC : C.val = 1024 * (t.val % 12) + x.val) :
    X0_2 m c t (ix3 0 x j) = weights m c (ix3 0 j C) := by
  refine Eq.trans ?_ (matrix_apply m c C j)
  unfold X0_2 Pipeline.Window.fill
  rw [dif_pos (moved0_2 t _)]
  blk_simp [iblk]
  refine congrArg (V m c main_v1) ?_
  blk_ext [e2]

/-- The taps of point `t`'s columns. -/
theorem filter_apply (t : Fin cfg0.N) (h : t.val % 12 < 8) (j : Fin 4) (x : Fin 1024) (C : Fin 8192) (hC : C.val = 1024 * (t.val % 12) + x.val) :
    iblk m c 3 t (ix2 ⟨j.val, by omega⟩ x) = filters m c (ix3 0 j C) := by
  refine Eq.trans ?_ (filters_apply m c ⟨j.val, by omega⟩ j.isLt C)
  blk_simp [iblk]
  refine congrArg (V m c main_v5) ?_
  blk_ext [e3]

/-! ## The history at a point -/

theorem lane_val : ∀ t : Fin cfg0.N, (lane (grid0.coords t)).val = t.val % 12 % 8 := (by decide +kernel : ∀ t : Fin grid0.N, _)

/-- From its ninth row on the history is the projection of the point's rows and columns, whatever was kept. -/
theorem hist_low (t : Fin cfg0.N) (hl) (ρ : Fin 1032) (hρ : 8 ≤ ρ.val) (x : Fin 1024) (R : Fin 16384) (hR : R.val + 8 = 1024 * (t.val / 12) + ρ.val)
    (C : Fin 12352) (hC : C.val = 1024 * (t.val % 12) + x.val) :
    histOf m c t hl (ix2 ρ x) = mixed (stream m c) (gains m c) (weights m c) R C := by
  unfold histOf histAt hist
  refine (dif_neg (show ¬ρ.val < 8 by omega)).trans ((slab_apply _ _ _ _).trans (Finset.sum_congr rfl fun j _ => congrArg₂ (· * ·) ?_ ?_))
  · exact rowsOf_apply m c t _ j R (show R.val = 1024 * (t.val / 12) + (ρ.val - 8) by omega)
  · refine (congrArg (X0_2 m c t) (congrArg (fun y => ix3 0 y j) (Fin.ext ?_))).trans (block_apply m c t x j C hC)
    show 256 * (x.val / 256) + x.val % 256 = x.val
    omega

/-- Before point `n` a column block's row of those kept is the last eight of its history at the block's last point. -/
theorem kept_of (q : Fin cfg0.N) (hq : q.val % 12 < 8) (a : Fin 8) (b : Fin 1024) : ∀ n, q.val < n → n ≤ q.val + 12 →
    keptOf m c n (ix3 ⟨q.val % 12, hq⟩ a b) = histOf m c q (keptOf m c q.val) (ix2 ⟨1024 + a.val, by omega⟩ b) := by
  intro n
  induction n with
  | zero => intro h; omega
  | succ n ih =>
    intro h h'
    by_cases hn : n = q.val
    · subst hn
      rw [keptOf_conv m c q hq]
      unfold keptAfter
      exact (if_pos (show q.val % 12 = (lane (grid0.coords q)).val by rw [lane_val]; omega)).trans (kept_apply _ a b)
    · have hi := ih (by omega) (by omega)
      rw [← hi]
      by_cases hN : n < cfg0.N
      · by_cases h8 : n % 12 < 8
        · rw [show keptOf m c (n + 1) = _ from keptOf_conv m c ⟨n, hN⟩ h8]
          unfold keptAfter
          exact if_neg (show ¬q.val % 12 = (lane (grid0.coords ⟨n, hN⟩)).val by
            rw [lane_val]
            show ¬q.val % 12 = n % 12 % 8
            omega)
        · rw [show keptOf m c (n + 1) = _ from keptOf_dense m c ⟨n, hN⟩ (by show 8 ≤ n % 12; omega)]
      · rw [keptOf, dif_neg hN]

/-- What tap `j` reads at row `r` of point `t`'s block. -/
theorem hist_apply (t : Fin cfg0.N) (h : t.val % 12 < 8) (r : Fin 1024) (x : Fin 1024) (j : Fin 4) (R : Fin 16384) (hR : R.val = 1024 * (t.val / 12) + r.val)
    (C : Fin 8192) (hC : C.val = 1024 * (t.val % 12) + x.val) (ρ : Fin 1032) (hρ : ρ.val = r.val + 5 + j.val) :
    histOf m c t (keptOf m c t.val) (ix2 ρ x) = past (stream m c) (gains m c) (weights m c) R C j := by
  unfold past
  by_cases h8 : 8 ≤ ρ.val
  · rw [if_pos (by omega)]
    exact hist_low m c t _ ρ h8 x _ (show R.val + j.val - 3 + 8 = _ by omega) _ hC
  · have hh : histOf m c t (keptOf m c t.val) (ix2 ρ x)
        = if (grid0.coords t 0).val % 2 = 0 then 0 else keptOf m c t.val (ix3 (lane (grid0.coords t)) ⟨ρ.val, by omega⟩ x) := by
      unfold histOf histAt hist
      exact (dif_pos (show ρ.val < 8 by omega)).trans (halo_apply (grid0.coords t 0) _ _ _)
    rw [hh, coord0]
    by_cases he : t.val / 12 % 2 = 0
    · rw [if_pos he, if_neg (by omega)]
    · rw [if_neg he, if_pos (by omega)]
      have ht := t.isLt
      have hq : (⟨t.val - 12, by omega⟩ : Fin cfg0.N).val % 12 < 8 := by
        show (t.val - 12) % 12 < 8
        omega
      refine Eq.trans ?_ ((kept_of m c ⟨t.val - 12, by omega⟩ hq ⟨ρ.val, by omega⟩ x t.val (by show t.val - 12 < t.val; omega)
        (by show t.val ≤ t.val - 12 + 12; omega)).trans (hist_low m c _ _ _ (by show 8 ≤ 1024 + ρ.val; omega) x _ ?_ _ ?_))
      · refine congrArg (keptOf m c t.val) (congrArg (fun l => ix3 l _ x) (Fin.ext ?_))
        rw [lane_val]
        show t.val % 12 % 8 = (t.val - 12) % 12
        omega
      · show R.val + j.val - 3 + 8 = 1024 * ((t.val - 12) / 12) + (1024 + ρ.val)
        omega
      · show C.val = 1024 * ((t.val - 12) % 12) + x.val
        omega

/-! ## What the points store -/

/-- A tile's gated convolution. -/
theorem active_apply (t : Fin cfg0.N) (h : t.val % 12 < 8) (r : Fin 1024) (x : Fin 1024) (R : Fin 16384) (hR : R.val = 1024 * (t.val / 12) + r.val)
    (C : Fin 8192) (hC : C.val = 1024 * (t.val % 12) + x.val) (j : Fin 128)
    (row : Fin 136 → Fin 1032) (hrow : ∀ i, (row i).val = 128 * (r.val / 128) + i.val)
    (col : Fin 128 → Fin 1024) (hcol : ∀ i, (col i).val = 128 * (x.val / 128) + i.val) :
    gate (taps (fun i : S136x128.Idx => histOf m c t (keptOf m c t.val) (ix2 (row (i 0)) (col (i 1)))) (fun i : S1x128.Idx => iblk m c 3 t (ix2 0 (col (i 1))))
        (fun i : S1x128.Idx => iblk m c 3 t (ix2 1 (col (i 1)))) (fun i : S1x128.Idx => iblk m c 3 t (ix2 2 (col (i 1))))
        (fun i : S1x128.Idx => iblk m c 3 t (ix2 3 (col (i 1))))) (ix2 ⟨r.val % 128, Nat.mod_lt _ (by decide)⟩ j)
      = active (stream m c) (gains m c) (weights m c) (filters m c) R (head C j) := by
  have hc : (head C j).val = 1024 * (t.val % 12) + (col j).val := by
    rw [hcol]
    show 128 * (C.val / 128) + j.val = _
    omega
  have tap (k : Fin 4) (ρ : Fin 136) (hρ : ρ.val = r.val % 128 + 5 + k.val) :
      @HMul.hMul EReal EReal EReal _ (iblk m c 3 t (ix2 ⟨k.val, by omega⟩ (col j))) (histOf m c t (keptOf m c t.val) (ix2 (row ρ) (col j)))
        = filters m c (ix3 0 k (head C j)) * past (stream m c) (gains m c) (weights m c) R (head C j) k := congrArg₂ (fun a b : EReal => a * b) (filter_apply m c t h k (col j) (head C j) hc)
    (hist_apply m c t h r (col j) k R hR (head C j) hc (row ρ) (by rw [hrow]; omega))
  refine (gate_apply _ _ _).trans (congrArg silu ((taps_apply _ _ _ _ _ _ _).trans ?_))
  exact congrArg₂ (· + ·) (congrArg₂ (· + ·) (congrArg₂ (· + ·) (tap 0 _ (by rfl)) (tap 1 _ (by rfl))) (tap 2 _ (by rfl))) (tap 3 _ (by rfl))

theorem out_apply (t : Fin cfg0.N) (r : Fin 1024) (x : Fin 1024) (R : Fin 16384) (hR : R.val = 1024 * (t.val / 12) + r.val)
    (C : Fin 12288) (hC : C.val = 1024 * (t.val % 12) + x.val) :
    outOf m c t (ix2 r x) = convolved (stream m c) (gains m c) (weights m c) (filters m c) R C := by
  unfold outOf convolved
  by_cases h8 : t.val % 12 < 8
  · have hCC : (⟨C.val, by omega⟩ : Fin 8192).val = 1024 * (t.val % 12) + x.val := hC
    have ha := fun j => active_apply m c t h8 r x R hR ⟨C.val, by omega⟩ hCC j
      (fun i => ⟨128 * (r.val / 128) + i.val, by omega⟩) (fun _ => rfl) (fun i => ⟨128 * (x.val / 128) + i.val, by omega⟩) (fun _ => rfl)
    have hs : head ⟨C.val, by omega⟩ ⟨x.val % 128, Nat.mod_lt _ (by decide)⟩ = ⟨C.val, by omega⟩ := Fin.ext (by
      show 128 * (C.val / 128) + x.val % 128 = C.val
      omega)
    rw [dif_pos (show C.val < 8192 by omega)]
    by_cases h4 : t.val % 12 < 4
    · rw [if_pos h4]
      refine (unit_apply _ _ _ _).trans ?_
      refine (congrArg₂ (fun a b : EReal => a * b) ((ha _).trans (congrArg (active _ _ _ _ R) hs)) (congrArg₂ (fun a b : EReal => a * b)
        (congrArg perLength (funext ha)) (scale_apply (grid0.coords t 1)))).trans ?_
      rw [coord1]
      by_cases h2 : t.val % 12 < 2
      · rw [if_pos h2, if_pos (show C.val < 2048 by omega)]
      · rw [if_neg h2, if_neg (show ¬C.val < 2048 by omega), if_pos (show C.val < 4096 by omega), mul_one]
    · rw [if_neg h4, if_pos h8, if_neg (show ¬C.val < 2048 by omega), if_neg (show ¬C.val < 4096 by omega)]
      exact (ha _).trans (congrArg (active _ _ _ _ R) hs)
  · rw [if_neg (by omega), if_neg h8, dif_neg (show ¬C.val < 8192 by omega)]
    exact (dense_apply _ _ r x).trans (Finset.sum_congr rfl fun j _ => congrArg₂ (· * ·) (rowsOf_apply m c t r j R hR) (block_apply m c t x j _ hC))

/-- The first array the call leaves: the projected columns, convolved. -/
theorem projection : (dats m 0 c).arrAt 5 cfg0.N = fun y => convolved (stream m c) (gains m c) (weights m c) (filters m c) (y 0) (y 1) := by
  refine (dats m 0 c).arrAt_eq_of_covers 5 _ (by decide +kernel) fun t hf y => ?_
  blk_simp
  rw [after_5]
  obtain ⟨r, x, rfl⟩ : ∃ r x, y = ix2 (n0 := 1024) (n1 := 1024) r x := ⟨y 0, y 1, eq_ix2 y⟩
  refine out_apply m c t r x _ ?_ _ ?_
  · blk_simp [e5]
    omega
  · blk_simp [e5]
    omega

/-- The second: the logits, with zeros from the 65th column on. -/
theorem logits : (dats m 0 c).arrAt 6 cfg0.N = fun y => rates (stream m c) (gains m c) (weights m c) (y 0) (y 1) := by
  refine (dats m 0 c).arrAt_eq_of_covers 6 _ (by decide +kernel) fun t hf y => ?_
  blk_simp
  rw [after_6]
  obtain ⟨r, x, rfl⟩ : ∃ r x, y = ix2 (n0 := 1024) (n1 := 128) r x := ⟨y 0, y 1, eq_ix2 y⟩
  have hr : ((win0_6.blk t).view.emb (ix2 r x) 0).val = 1024 * (t.val / 12) + r.val := by
    blk_simp [e6]
    omega
  have hx : (win0_6.blk t).view.emb (ix2 r x) 1 = x := by
    apply Fin.ext
    blk_simp [e6]
  have hw : ∀ j : Fin 2048, iblk m c 4 (first t) (ix2 x j) = V m c main_v8 (ix2 x j) := fun j => by
    blk_simp [iblk]
    refine congrArg (V m c main_v8) ?_
    blk_ext [e4]
  refine (logits_apply _ _ r x).trans ?_
  rw [hx]
  refine (Finset.sum_congr rfl fun j _ => congrArg₂ (· * ·) (rowsOf_apply m c t r j _ hr) ((hw j).trans (rates_apply m c x j))).trans ?_
  unfold rates
  by_cases h : x.val < 64
  · simp only [dif_pos h]
    rfl
  · simp only [dif_neg h, mul_zero, Finset.sum_const_zero]

end Cert.GdnInValue

end
-- ==== Proof.GdnInRef.lean ====
/- What the reference of a convolving layer's input projection returns. -/
module

public import proofs.«01_k».proof.Proof.Gen.GdnInReferenceIdeal.Read
public import proofs.«01_k».proof.Proof.Convolved

@[expose] public section

set_option maxRecDepth 16384

noncomputable section

namespace Cert.GdnInRef

open Idealize.ShloMosaic Cert.GdnInReferenceIdeal Cert.GdnInReferenceIdeal.Gen Cert.GdnInReferenceIdeal.Read Cert.Linear Cert.Convolved

variable (X : (⟨2, ![16384, 2048]⟩ : Shape).Idx → EReal) (G : (⟨2, ![1, 2048]⟩ : Shape).Idx → EReal)
  (W : (⟨3, ![1, 2048, 12352]⟩ : Shape).Idx → EReal) (K : (⟨3, ![1, 4, 8192]⟩ : Shape).Idx → EReal)

/-- The normalised rows. -/
theorem norm_apply (r : Fin 16384) (k : Fin 2048) :
    val_main_v13 (F := Ideal) X G (ix2 r k) = normed (fun i => X (ix2 r i)) (fun i => G (ix2 0 i)) k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The product with the whole matrix. -/
theorem product_apply (r : Fin 16384) (x : Fin 12352) : val_main_v15 (F := Ideal) X G W (ix2 r x) = mixed X G W r x := by
  pointwise [val_main_v15, val_main_v14]
  exact Finset.sum_congr rfl fun j _ => congrArg (· * _) (norm_apply X G r j)

/-- The padding: the integer zero as a float. -/
theorem zero_of_int : (((0#32 : BitVec 32).toInt : ℝ) : EReal) = 0 := by simp

/-- A sequence's columns with three rows of zeros before them. -/
theorem padded_apply (b : Fin 8) (p : Fin 2051) (x : Fin 8192) : val_main_v21 (F := Ideal) X G W (ix3 b p x)
    = if h : 3 ≤ p.val then mixed X G W ⟨2048 * b.val + (p.val - 3), by omega⟩ ⟨x.val, by omega⟩ else 0 := by
  simp only [← product_apply]
  pointwise [val_main_v21, val_main_v19, val_main_v16, val_main_call0_v0, val_main_c]
  by_cases h : 3 ≤ p.val
  · rw [dif_pos ⟨h, by omega⟩, dif_pos h]
    exact congrArg (fun r => val_main_v15 (F := Ideal) X G W (ix2 r _)) (Fin.ext (by show b.val * 2048 + (p.val - 3) = 2048 * b.val + (p.val - 3); omega))
  · rw [dif_neg fun h' => h h'.1, dif_neg h]
    exact zero_of_int

/-- The shifted products summed. -/
theorem conv_apply (b : Fin 8) (p : Fin 2048) (x : Fin 8192) : val_main_v50 (F := Ideal) X G W K (ix3 b p x)
    = K (ix3 0 0 x) * val_main_v21 (F := Ideal) X G W (ix3 b ⟨p.val, by omega⟩ x) + K (ix3 0 1 x) * val_main_v21 (F := Ideal) X G W (ix3 b ⟨1 + p.val, by omega⟩ x)
      + K (ix3 0 2 x) * val_main_v21 (F := Ideal) X G W (ix3 b ⟨2 + p.val, by omega⟩ x) + K (ix3 0 3 x) * val_main_v21 (F := Ideal) X G W (ix3 b ⟨3 + p.val, by omega⟩ x) := by
  pointwise [val_main_v50, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v20, val_main_cst_2]

theorem silu_apply (b : Fin 8) (p : Fin 2048) (x : Fin 8192) :
    val_main_v51 (F := Ideal) X G W K (ix3 b p x) = silu (val_main_v50 (F := Ideal) X G W K (ix3 b p x)) := by
  unfold silu
  pointwise [val_main_v51, val_main_call1_v5, val_main_call1_v4, val_main_call1_v3, val_main_call1_v2, val_main_call1_v1, val_main_call1_v0,
    val_main_call1_cst, val_main_call1_cst_0]

/-- The convolution through its activation, row by row. -/
theorem active_apply (r : Fin 16384) (x : Fin 8192) : val_main_v52 (F := Ideal) X G W K (ix2 r x) = active X G W K r x := by
  have h : val_main_v52 (F := Ideal) X G W K (ix2 r x)
      = val_main_v51 (F := Ideal) X G W K (ix3 (⟨r.val / 2048, by omega⟩ : Fin 8) (⟨r.val % 2048, by omega⟩ : Fin 2048) x) := by
    pointwise [val_main_v52]
  have tap (j : Fin 4) (p : Fin 2051) (hp : p.val = j.val + r.val % 2048) :
      val_main_v21 (F := Ideal) X G W (ix3 (⟨r.val / 2048, by omega⟩ : Fin 8) p x) = past X G W r x j := by
    rw [padded_apply]
    unfold past
    by_cases h : 3 ≤ p.val
    · rw [dif_pos h, if_pos (by omega)]
      exact congrArg (fun r => mixed X G W r _) (Fin.ext (by show 2048 * (r.val / 2048) + (p.val - 3) = r.val + j.val - 3; omega))
    · rw [dif_neg h, if_neg (by omega)]
  rw [h, silu_apply, conv_apply, tap 0 _ (by simp), tap 1 _ rfl, tap 2 _ rfl, tap 3 _ rfl]
  rfl

/-- The query heads. -/
theorem query_apply (r : Fin 16384) (x : Fin 2048) : val_main_v67 (F := Ideal) X G W K (ix2 r x)
    = active X G W K r ⟨x.val, by omega⟩ * (perLength (fun j => active X G W K r (head ⟨x.val, by omega⟩ j)) * Ideal.ofBits .f32 0x3DB504F3#32) := by
  unfold perLength
  simp only [← active_apply]
  pointwise [val_main_v67, val_main_v66, val_main_v65, val_main_v64, val_main_v63, val_main_v62, val_main_v61, val_main_v60, val_main_v59, val_main_v58,
    val_main_v57, val_main_v56, val_main_v53, val_main_cst_3, val_main_cst_4, val_main_cst_5]
  have hd (j : Fin 128) : (⟨x.val / 128 * 128 + j.val, by omega⟩ : Fin 8192) = head ⟨x.val, by omega⟩ j :=
    Fin.ext (by show x.val / 128 * 128 + j.val = 128 * (x.val / 128) + j.val; omega)
  simp only [hd]
  exact mul_assoc _ _ _

/-- The key heads. -/
theorem key_apply (r : Fin 16384) (x : Fin 2048) : val_main_v77 (F := Ideal) X G W K (ix2 r x)
    = active X G W K r ⟨2048 + x.val, by omega⟩ * perLength (fun j => active X G W K r (head ⟨2048 + x.val, by omega⟩ j)) := by
  unfold perLength
  simp only [← active_apply]
  pointwise [val_main_v77, val_main_v76, val_main_v75, val_main_v74, val_main_v73, val_main_v72, val_main_v71, val_main_v70,
    val_main_v69, val_main_v68, val_main_v54, val_main_cst_6, val_main_cst_7]
  have hd (j : Fin 128) : (⟨2048 + (x.val / 128 * 128 + j.val), by omega⟩ : Fin 8192) = head ⟨2048 + x.val, by omega⟩ j :=
    Fin.ext (by show 2048 + (x.val / 128 * 128 + j.val) = 128 * ((2048 + x.val) / 128) + j.val; omega)
  simp only [hd]

/-- The value heads. -/
theorem value_apply (r : Fin 16384) (x : Fin 4096) :
    val_main_v55 (F := Ideal) X G W K (ix2 r x) = active X G W K r ⟨4096 + x.val, by omega⟩ := by
  rw [← active_apply]
  pointwise [val_main_v55]

/-- The columns past the convolution. -/
theorem gate_apply (r : Fin 16384) (x : Fin 4096) :
    val_main_v17 (F := Ideal) X G W (ix2 r x) = mixed X G W r ⟨8192 + x.val, by omega⟩ := by
  rw [← product_apply]
  pointwise [val_main_v17]

/-- The four column ranges side by side. -/
theorem projection : val_main_v79 (F := Ideal) X G W K = fun y => convolved X G W K (y 0) (y 1) := by
  funext y
  obtain ⟨r, x, rfl⟩ : ∃ r x, y = ix2 (n0 := 16384) (n1 := 12288) r x := ⟨y 0, y 1, eq_ix2 y⟩
  show _ = convolved X G W K r x
  unfold convolved
  pointwise [val_main_v79, val_main_v78]
  by_cases h₀ : x.val < 2048
  · rw [dif_pos h₀, dif_pos (show x.val < 8192 by omega), if_pos h₀]
    exact query_apply X G W K r ⟨x.val, h₀⟩
  by_cases h₁ : x.val < 4096
  · rw [dif_neg h₀, dif_pos (show x.val - 2048 < 2048 by omega), dif_pos (show x.val < 8192 by omega), if_neg h₀, if_pos h₁, key_apply]
    have e : (⟨2048 + (x.val - 2048), by omega⟩ : Fin 8192) = ⟨x.val, by omega⟩ := Fin.ext (by show 2048 + (x.val - 2048) = x.val; omega)
    exact congrArg (fun z => active X G W K r z * perLength (fun j => active X G W K r (head z j))) e
  rw [dif_neg h₀, dif_neg (show ¬ x.val - 2048 < 2048 by omega)]
  by_cases h₂ : x.val < 8192
  · rw [dif_pos (show x.val - 2048 - 2048 < 4096 by omega), dif_pos h₂, if_neg h₀, if_neg h₁, value_apply]
    exact congrArg (active X G W K r) (Fin.ext (by show 4096 + (x.val - 2048 - 2048) = x.val; omega))
  · rw [dif_neg (show ¬ x.val - 2048 - 2048 < 4096 by omega), dif_neg h₂, gate_apply]
    exact congrArg (mixed X G W r) (Fin.ext (by show 8192 + (x.val - 2048 - 2048 - 4096) = x.val; omega))

/-- The logits, with zeros from the 65th column on. -/
theorem logits : val_main_v80 (F := Ideal) X G W = fun y => rates X G W (y 0) (y 1) := by
  funext y
  obtain ⟨r, x, rfl⟩ : ∃ r x, y = ix2 (n0 := 16384) (n1 := 128) r x := ⟨y 0, y 1, eq_ix2 y⟩
  show _ = rates X G W r x
  unfold rates
  simp only [← product_apply]
  pointwise [val_main_v80, val_main_v18, val_main_call2_v0, val_main_c_8]
  refine congrArg (dite (x.val < 64) _) (funext fun _ => ?_)
  exact zero_of_int

end Cert.GdnInRef

end
-- ==== Proof.InBody.lean ====
/- The input projection of the first layer, as compiled: it terminates and leaves its arguments as they were. -/
module

public import proofs.«01_k».proof.Proof.Gen.In.Frame
public import proofs.«01_k».proof.Proof.Gen.In.Skeleton
public import Idealize.ShloMosaic.Lib.Pipeline.Frame
public import Idealize.ShloMosaic.Lib.Tactic

@[expose] public section

set_option maxRecDepth 16384

noncomputable section

namespace Cert.In.Hand

open Cert.In Cert.In.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

/-- In either case the body hands the stream, the gains and the matrices back; of what it writes nothing is said. -/
theorem body (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1024x2048 .bf16) (harg4 : arg4.IsWhole)
    (arg5 : Memref sig .tc .vmem S128x2048 .bf16) (harg5 : arg5.IsWhole) (arg6 : Memref sig .tc .vmem S1024x1024 .bf16) (harg6 : arg6.IsWhole)
    (arg7 : Memref sig .tc .vmem S1024x128 .f32) (harg7 : arg7.IsWhole) (arg8 : Memref sig .tc .vmem S1024x2048 .bf16) (harg8 : arg8.IsWhole)
    (x0 : Vec F S1024x2048 .f32) (x1 : Vec F S1x2048 .f32) (x2 : Vec F S1024x2048 .bf16) (x3 : Vec F S128x2048 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) Set.univ
          (cc0_norm_matmul i arg2 harg2 arg3 harg3 arg4 harg4 arg5 harg5 arg6 harg6 arg7 harg7 arg8 harg8) K := by
  simp only [cc0_norm_matmul_eq_skeleton]; unfold cc0_norm_matmul_skel
  unfold owns
  by_cases hc : k0_cond1 i = 1#1
  all_goals
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _, _; isplitr; swap; · iexact H4
      ipureintro; rfl
    isplitl [H5]
    · iexists _, _; isplitr; swap; · iexact H5
      ipureintro; rfl
    iexists _, _; isplitr; swap; · iexact HS
    ipureintro; rfl

variable (m : (ℓ : Loc nD τ sig) → Buf (Elt F) ℓ) (ρ : Dev nD → PrngReg)

/-- Nothing is said of the projection and the logits. -/
def forgets0 : Fin 6 → Bool := ![false, false, false, false, true, true]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- A point's body, from the invariant and the windows to the same. -/
theorem point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare d)
        ∗ (∃ d, owns (c : Thread nD τ) (st0_5 t) fullShare d))
      ⊢ wp frame (wpE (defs₀ (F := F)) Variants.none c none) Set.univ (bodyAt0 t)
        (fun _ => iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t)
          ∗ owns (c : Thread nD τ) (st0_3 t) fullShare ((dats m 0 c).after 3 t)
          ∗ (∃ d, owns (c : Thread nD τ) (st0_4 t) fullShare d)
          ∗ (∃ d, owns (c : Thread nD τ) (st0_5 t) fullShare d))) := by
  have hb0 := before0_0_of m (dats m 0 c) (A_eq m c 0) (after_0 m c) t
  have hb1 := before0_1_of m (dats m 0 c) (A_eq m c 1) (after_1 m c) t
  have hb2 := before0_2_of m (dats m 0 c) (A_eq m c 2) (after_2 m c) t
  have hb3 := before0_3_of m (dats m 0 c) (A_eq m c 3) (after_3 m c) t
  have hΦ : (Pipeline.ΦA spec0 c : sProp 𝕄) = iprop((∃ d, owns (c : Thread nD τ) (Memref.whole cc0_scratch0) fullShare d) ∗ (∃ r, prngReg c r)) := by
    unfold Pipeline.ΦA
    rw [scopedRest0_eq]
    simp only [owns_whole]
    try rfl
  unfold bodyAt0
  simp only [hb0, hb1, hb2, hb3]
  rw [show (dats m 0 c).owesAt () t.succ = (dats m 0 c).owesAt () t.castSucc from rfl, after_0, after_1, after_2, after_3,
    show (dats m 0 c).Φ t.castSucc = Pipeline.ΦA spec0 c from rfl, show (dats m 0 c).Φ t.succ = Pipeline.ΦA spec0 c from rfl, hΦ]
  iintro ⟨⟨HS, Hg⟩, Ho, ⟨%d0, H0⟩, ⟨%d1, H1⟩, ⟨%d2, H2⟩, ⟨%d3, H3⟩, H4, H5⟩
  iapply (body c (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ forgets0 := fun t => by
  rw [bigSep_W0, bigSep_W0, show defs₀ (F := F) .tc cfg0.body (cfg0.bodyArgs t (cfg0.slots t)) = bodyAt0 t by unfold defs₀; rw [Defs.onTc_tc]]
  exact triple_restated (point m c t) rfl .rfl fun _ => .rfl

set_option backward.isDefEq.respectTransparency.types false in
theorem run : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
      (h.1.arr_in c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.In.Hand

end
-- ==== Proof.InIdealBody.lean ====
/- The input projection of the first layer: its body run once for each of its two cases, and the launch. -/
module

public import proofs.«01_k».proof.Proof.Gen.InIdeal.Frame
public import proofs.«01_k».proof.Proof.Gen.InIdeal.Skeleton
public import proofs.«01_k».proof.Proof.Linear
public import Idealize.ShloMosaic.Lib.Claim
public import Idealize.ShloMosaic.Lib.Pipeline.Frame
public import Idealize.ShloMosaic.Lib.Pipeline.ReadBack
public import Idealize.ShloMosaic.Lib.Tactic
public import Idealize.ShloMosaic.Lib.VecWindow

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

section

variable (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1024x2048 .bf16) (harg4 : arg4.IsWhole)
    (arg5 : Memref sig .tc .vmem S128x2048 .bf16) (harg5 : arg5.IsWhole) (arg6 : Memref sig .tc .vmem S1024x1024 .bf16) (harg6 : arg6.IsWhole)
    (arg7 : Memref sig .tc .vmem S1024x128 .f32) (harg7 : arg7.IsWhole) (arg8 : Memref sig .tc .vmem S1024x2048 .bf16) (harg8 : arg8.IsWhole)
    (x0 : Vec F S1024x2048 .f32) (x1 : Vec F S1x2048 .f32) (x2 : Vec F S1024x2048 .bf16) (x3 : Vec F S128x2048 .bf16)
    (x5 : Vec F S1024x128 .f32) (xn : Vec F S1024x2048 .bf16)

/-- At a row block's first point the body normalises the rows into the scratch and stores the logits. -/
theorem run_first (hc : k0_cond1 i = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 (k0_pay1 x0 x1) x2)
            ∗ owns (c : Thread nD τ) arg7 fullShare (k0_pay2 (k0_pay1 x0 x1) x3)
            ∗ owns (c : Thread nD τ) arg8 fullShare (k0_pay1 x0 x1)) -∗ K ⟨⟩))
      ⊢ wp frame (wpE (defs₀ (F := F)) Variants.none c none) Set.univ
          (cc0_norm_matmul i arg2 harg2 arg3 harg3 arg4 harg4 arg5 harg5 arg6 harg6 arg7 harg7 arg8 harg8) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  have hs : run_first.sl.v28 c arg2 arg3 arg8 f0 f1 = k0_pay1 x0 x1 := by
    unfold run_first.sl.v28 run_first.sl.HS_1
    refine (View.readAt_writes_full _ _ _ _ _ _).trans ?_
    rw [View.readAt_full, View.readAt_full, hf0, hf1]
  isplitl [H4]
  · iexists _; isplitr; swap; · iexact H4
    ipureintro
    refine (View.read_writes_full _ _ _ _ _).trans ?_
    rw [hs, View.readAt_full, hf2]
  isplitl [H5]
  · iexists _; isplitr; swap; · iexact H5
    ipureintro
    refine (View.read_writes_full _ _ _ _ _).trans ?_
    rw [hs, View.readAt_full, hf3]
  iexists _; isplitr; swap; · iexact HS
  ipureintro
  unfold run_first.sl.HS_1
  refine (View.read_writes_full _ _ _ _ _).trans ?_
  rw [View.readAt_full, View.readAt_full, hf0, hf1]

/-- At its other points it multiplies the rows that the scratch holds and leaves the logits as they were. -/
theorem run_rest (hc : ¬k0_cond1 i = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare x5
        ∗ owns (c : Thread nD τ) arg8 fullShare xn
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 xn x2)
            ∗ owns (c : Thread nD τ) arg7 fullShare x5 ∗ owns (c : Thread nD τ) arg8 fullShare xn) -∗ K ⟨⟩))
      ⊢ wp frame (wpE (defs₀ (F := F)) Variants.none c none) Set.univ
          (cc0_norm_matmul i arg2 harg2 arg3 harg3 arg4 harg4 arg5 harg5 arg6 harg6 arg7 harg7 arg8 harg8) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    refine (View.read_writes_full _ _ _ _ _).trans ?_
    rw [View.readAt_full, View.readAt_full, hfs, hf2]
  isplitl [H5]
  · iexists _; isplitr; · ipureintro; exact hf5
    iexact H5
  iexists _; isplitr; · ipureintro; exact hfs
  iexact HS

end

variable (m : (ℓ : Loc nD τ sig) → Buf (Elt F) ℓ) (ρ : Dev nD → PrngReg)

/-! ## The proof data -/

abbrev scratch0 : Memref sig .tc .vmem S1024x2048 .bf16 := Memref.whole cc0_scratch0

/-- The first point of point `t`'s row block. -/
def first (t : Fin cfg0.N) : Fin cfg0.N := ⟨5 * (t.val / 5), Nat.lt_of_le_of_lt (Nat.mul_div_le _ _) t.isLt⟩

/-- The point before `t`. -/
def prev (t : Fin cfg0.N) : Fin cfg0.N := ⟨t.val - 1, Nat.lt_of_le_of_lt (Nat.sub_le _ _) t.isLt⟩

theorem first_of (t : Fin cfg0.N) (h : t.val % 5 = 0) : first t = t := Fin.ext (show 5 * (t.val / 5) = t.val by omega)

theorem first_prev (t : Fin cfg0.N) (h : t.val % 5 ≠ 0) : first (prev t) = first t :=
  Fin.ext (show 5 * ((t.val - 1) / 5) = 5 * (t.val / 5) by omega)

/-- The normalised rows of point `t`'s row block. -/
def rowsOf (c : Dev nD) (t : Fin cfg0.N) : Vec F S1024x2048 .bf16 := k0_pay1 (iblk m c 0 (first t)) (iblk m c 1 (first t))

/-- The logits of point `t`'s row block. -/
def logits (c : Dev nD) (t : Fin cfg0.N) : Vec F S1024x128 .f32 := k0_pay2 (rowsOf m c t) (iblk m c 3 (first t))

theorem rowsOf_prev (c : Dev nD) (t : Fin cfg0.N) (h : t.val % 5 ≠ 0) : rowsOf m c (prev t) = rowsOf m c t := by
  unfold rowsOf
  rw [first_prev t h]

theorem logits_prev (c : Dev nD) (t : Fin cfg0.N) (h : t.val % 5 ≠ 0) : logits m c (prev t) = logits m c t := by
  unfold logits
  rw [rowsOf_prev m c t h, first_prev t h]

/-- After its first point the scratch holds the last row block's normalised rows. -/
def Phi (c : Dev nD) (t : Fin (cfg0.N + 1)) : sProp 𝕄 :=
  iprop((∃ d : Vec F S1024x2048 .bf16, ⌜∀ s : Fin cfg0.N, t.val = s.val + 1 → d = rowsOf m c s⌝ ∗ owns (c : Thread nD τ) scratch0 fullShare d)
    ∗ (∃ r, prngReg c r))

theorem PhiA_eq (c : Dev nD) :
    (Pipeline.ΦA spec0 c : sProp 𝕄) = iprop((∃ d, owns (c : Thread nD τ) scratch0 fullShare d) ∗ (∃ r, prngReg c r)) := by
  unfold Pipeline.ΦA
  rw [scopedRest0_eq]
  simp only [scratch0, owns_whole]
  try rfl

/-- The arrays as the region finds them; after each point the inputs' blocks, the row block's product with the point's matrix, and the
    row block's logits. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (rowsOf m c t) (iblk m c 2 t)
    | ⟨5, _⟩ => logits m c t
  Φ t := Phi m c t
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay3 (rowsOf m c t) (iblk m c 2 t) := by dsimp only [dats]
theorem after_5 (c : Dev nD) (t : Fin cfg0.N) : (dats m 0 c).after 5 t = logits m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The logits' buffer between a row block's points -/

/-- The condition of the body's conditional holds at a row block's first point. -/
theorem cond : ∀ t : Fin cfg0.N, k0_cond1 (grid0.coords t) = 1#1 ↔ t.val % 5 = 0 := (by decide +kernel : ∀ t : Fin grid0.N, _)

theorem idle_5 : ∀ t : Fin cfg0.N, cfg0.idle 5 (cfg0.grid.coords t) = true ↔ t.val % 5 ≠ 0 := (by decide +kernel : ∀ t : Fin grid0.N, _)

/-- Past a row block's first point the buffer holds the row block's logits. -/
theorem held (c : Dev nD) (d) : ∀ (n : ℕ) (t : Fin cfg0.N), t.val = n → t.val % 5 ≠ 0 → (dats m 0 c).before 5 t d = logits m c t := by
  intro n
  induction n with
  | zero =>
    intro t ht h
    omega
  | succ n ih =>
    intro t ht h
    have hf : (cfg0.win 5).flush (prev t) = false := Bool.eq_false_iff.mpr fun h' => by
      have := (flush0_5 (prev t)).mp h'
      have hp : (prev t).val = t.val - 1 := rfl
      omega
    refine ((dats m 0 c).before_of_pos 5 t (by omega) ((cfg0.win 5).fetch_out rfl t) d).trans ?_
    rw [show (cfg0.win 5).flush ⟨t.val - 1, Nat.lt_of_le_of_lt (Nat.sub_le _ _) t.isLt⟩ = false from hf, if_neg Bool.false_ne_true]
    rw [← logits_prev m c t h]
    have hp : (prev t).val = n := by
      show t.val - 1 = n
      omega
    unfold Dat.left
    by_cases h0 : (prev t).val % 5 = 0
    · have hi : cfg0.idle 5 (cfg0.grid.coords (prev t)) = false := Bool.eq_false_iff.mpr fun h' => (idle_5 _).mp h' h0
      rw [show cfg0.idle 5 (cfg0.grid.coords ⟨t.val - 1, Nat.lt_of_le_of_lt (Nat.sub_le _ _) t.isLt⟩) = false from hi]
      show (dats m 0 c).kept 5 (prev t) d = _
      unfold Dat.kept
      rw [Pipeline.fill_of_clip_none 5 _ (fun _ => rfl) d ((dats m 0 c).after 5 _), Pipeline.Window.fill_cut, after_5]
    · have hi : cfg0.idle 5 (cfg0.grid.coords (prev t)) = true := (idle_5 _).mpr h0
      rw [show cfg0.idle 5 (cfg0.grid.coords ⟨t.val - 1, Nat.lt_of_le_of_lt (Nat.sub_le _ _) t.isLt⟩) = true from hi]
      exact ih (prev t) hp h0

/-! ## The body at a point -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def post (c : Dev nD) (t : Fin cfg0.N) (Q : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t) ∗ Q)

/-- At every point the logits' buffer is left with the row block's logits. -/
theorem body_all (c : Dev nD) (t : Fin cfg0.N) :
    pre m c t ⊢ wp frame (wpE (defs₀ (F := F)) Variants.none c none) Set.univ (bodyAt0 t)
      (fun _ => post m c t (owns (c : Thread nD τ) (st0_5 t) fullShare (logits m c t))) := by
  unfold pre post bodyAt0
  simp only [before_0, before_1, before_2, before_3]
  rw [show (dats m 0 c).owesAt () t.succ = (dats m 0 c).owesAt () t.castSucc from rfl, after_0, after_1, after_2, after_3, after_4,
    show (dats m 0 c).Φ t.castSucc = Phi m c t.castSucc from rfl, show (dats m 0 c).Φ t.succ = Phi m c t.succ from rfl]
  unfold Phi
  iintro ⟨⟨⟨%ds, %hs, HS⟩, Hg⟩, Ho, ⟨%d0, H0⟩, ⟨%d1, H1⟩, ⟨%d2, H2⟩, ⟨%d3, H3⟩, ⟨%d4, H4⟩, ⟨%d5, H5⟩⟩
  by_cases h : t.val % 5 = 0
  · have hr : rowsOf m c t = k0_pay1 (iblk m c 0 t) (iblk m c 1 t) := by unfold rowsOf; rw [first_of t h]
    have hl : logits m c t = k0_pay2 (k0_pay1 (iblk m c 0 t) (iblk m c 1 t)) (iblk m c 3 t) := by unfold logits; rw [hr, first_of t h]
    rw [hl, hr]
    iapply (run_first c (grid0.coords t) _ _ _ _ _ _ _ _ _ _ _ _ _ _ (iblk m c 0 t) (iblk m c 1 t) (iblk m c 2 t) (iblk m c 3 t) ((cond t).mpr h) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, H4, H5, HS⟩
    isplitl [HS Hg]
    · isplitl [HS]
      · iexists _; isplitr; swap; · iexact HS
        ipureintro
        intro s hst
        rw [← hr, show s = t from Fin.ext (by simp at hst; omega)]
      iexact Hg
    isplitl [Ho]; · iexact Ho
    isplitl [H0]; · iexact H0
    isplitl [H1]; · iexact H1
    isplitl [H2]; · iexact H2
    isplitl [H3]; · iexact H3
    isplitl [H4]; · iexact H4
    iexact H5
  · have hd : ds = rowsOf m c t := (hs (prev t) (by
      show t.val = t.val - 1 + 1
      omega)).trans (rowsOf_prev m c t h)
    rw [held m c d5 t.val t rfl h, hd]
    iapply (run_rest c (grid0.coords t) _ _ _ _ _ _ _ _ _ _ _ _ _ _ (iblk m c 0 t) (iblk m c 1 t) (iblk m c 2 t) (iblk m c 3 t) (logits m c t)
      (rowsOf m c t) (fun h' => h ((cond t).mp h')) _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexists _; isplitr; swap; · iexact HS
        ipureintro
        intro s hst
        rw [show s = t from Fin.ext (by simp at hst; omega)]
      iexact Hg
    isplitl [Ho]; · iexact Ho
    isplitl [H0]; · iexact H0
    isplitl [H1]; · iexact H1
    isplitl [H2]; · iexact H2
    isplitl [H3]; · iexact H3
    isplitl [H4]; · iexact H4
    iexact H5

/-- The same with the logits' buffer said to be as it was. -/
theorem body_kept (c : Dev nD) (t : Fin cfg0.N) (h : t.val % 5 ≠ 0) :
    pre m c t ⊢ wp frame (wpE (defs₀ (F := F)) Variants.none c none) Set.univ (bodyAt0 t)
      (fun _ => post m c t iprop(∃ d, owns (c : Thread nD τ) (st0_5 t) fullShare ((dats m 0 c).before 5 t d))) := by
  refine (body_all m c t).trans (wp_mono _ _ _ fun _ => ?_)
  unfold post
  iintro ⟨HP, Ho, H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexists (logits m c t)
  rw [held m c _ t.val t rfl h]
  iexact H5

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  by_cases hi : idle0 5 (grid0.coords t) = true
  · by_cases hf : (cfg0.win 5).flush t = true
    · simp only [hi, hf]
      refine triple_restated (body_all m c t) rfl .rfl fun _ => ?_
      exact .rfl
    · simp only [hi, Bool.eq_false_iff.mpr hf]
      exact triple_restated (body_kept m c t ((idle_5 t).mp hi)) rfl .rfl fun _ => .rfl
  · simp only [Bool.eq_false_iff.mpr hi]
    exact triple_restated (body_all m c t) rfl .rfl fun _ => .rfl

/-! ## The launch -/

theorem hin (c : Dev nD) : Pipeline.ΦA spec0 c ⊢ (dats m 0 c).Φ 0 := by
  rw [show (dats m 0 c).Φ 0 = Phi m c 0 from rfl, PhiA_eq]
  unfold Phi
  iintro ⟨⟨%d, HS⟩, Hg⟩
  isplitl [HS]
  · iexists d; isplitr
    · ipureintro
      intro s hs
      exact absurd hs (Nat.succ_ne_zero _).symm
    iexact HS
  iexact Hg

theorem hout (c : Dev nD) : (dats m 0 c).Φ (Fin.last cfg0.N) ⊢ Pipeline.ΦA spec0 c := by
  rw [show (dats m 0 c).Φ (Fin.last cfg0.N) = Phi m c (Fin.last cfg0.N) from rfl, PhiA_eq]
  unfold Phi
  iintro ⟨⟨%d, -, HS⟩, Hg⟩
  isplitl [HS]
  · iexists d; iexact HS
  iexact Hg

set_option backward.isDefEq.respectTransparency.types false in
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The run with the two outputs' arrays named. -/
theorem value : θ_run defs (onTc (τ := τ) (main (F := F))) ⟨m, fun _ => 0, ρ⟩ (fun r => ∀ c : Dev nD,
      r.2.mem ((c.tc : Thread nD τ).loc main_v12_0) = (dats m 0 c).arrAt 4 cfg0.N
      ∧ r.2.mem ((c.tc : Thread nD τ).loc main_v12_1) = (dats m 0 c).arrAt 5 cfg0.N) :=
  (θ_run defs _ _).mono (fun _ h c => ⟨(h.1 c).1 4, (h.1 c).1 5⟩) (run m ρ)

end Cert.InIdeal.Hand

end
-- ==== Proof.InValue.lean ====
/- The input projection of the first layer: what the call leaves. -/
module

public import proofs.«01_k».proof.Proof.InIdealBody
public import proofs.«01_k».proof.Proof.Linear
public import Idealize.ShloMosaic.Lib.Pipeline.ValueKit
public import Idealize.ShloMosaic.Lib.Pointwise

@[expose] public section

set_option maxRecDepth 16384

noncomputable section

namespace Cert.InValue

open Idealize.ShloMosaic Idealize.ShloMosaic.TcCoe Idealize.ShloMosaic.Tactic
open Cert.InIdeal Cert.InIdeal.Gen Cert.InIdeal.Facts Cert.InIdeal.Hand Cert.Linear

/-- A block's rows normalised. -/
theorem norm_apply (x0 : Vec Ideal S1024x2048 .f32) (g : Vec Ideal S1x2048 .f32) (r : Fin 1024) (k : Fin 2048) :
    k0_pay1 x0 g (ix2 r k) = normed (fun i => x0 (ix2 r i)) (fun i => g (ix2 0 i)) k := by
  unfold normed
  pointwise [k0_pay1]

/-- The rows times the rows of a block of the transposed matrix. -/
theorem product_apply (xn : Vec Ideal S1024x2048 .bf16) (w : Vec Ideal S1024x2048 .bf16) (r : Fin 1024) (x : Fin 1024) :
    k0_pay3 xn w (ix2 r x) = ∑ j : Fin 2048, xn (ix2 r j) * w (ix2 x j) := by
  pointwise [k0_pay3]

theorem logits_apply (xn : Vec Ideal S1024x2048 .bf16) (w : Vec Ideal S128x2048 .bf16) (r : Fin 1024) (x : Fin 128) :
    k0_pay2 xn w (ix2 r x) = ∑ j : Fin 2048, xn (ix2 r j) * w (ix2 x j) := by
  pointwise [k0_pay2]

variable (m : (ℓ : Loc nD τ sig) → Buf (Elt Ideal) ℓ) (c : Dev nD)

abbrev stream : (⟨2, ![16384, 2048]⟩ : Shape).Idx → EReal := m ((c : Thread nD τ).loc main_arg0)
abbrev gains : (⟨2, ![1, 2048]⟩ : Shape).Idx → EReal := m ((c : Thread nD τ).loc main_arg1)
abbrev weights : (⟨3, ![1, 2048, 5128]⟩ : Shape).Idx → EReal := m ((c : Thread nD τ).loc main_arg2)

/-! ## What the launch stages -/

/-- The matrix transposed. -/
abbrev turned : FVec Ideal S1x5128x2048 .bf16 :=
  truncf .bf16 (transpose S1x5128x2048 [0, 2, 1] (weights m c : FVec Ideal S1x2048x5128 .f32) transposes_S1x2048x5128_S1x5128x2048_0_2_1) bitsLt_bf16_f32

theorem V_main_v8 : V m c main_v8 = shapeCast S1x2048 (shapeCast S2048 (gains m c) shapeCasts_S1x2048_S2048) shapeCasts_S2048_S1x2048 := by
  unfold V
  simp only [List.flatten_cons, List.flatten_nil, List.append_nil, List.cons_append, List.nil_append]
  after_results_simp <;> rfl

theorem V_main_v6 : V m c main_v6 = concatenate S5120x2048 0
    [⟨S3072x2048, shapeCast S3072x2048 (extractStridedSlice S1x3072x2048 ![0, 0, 0] (turned m c) slices_S1x5128x2048_S1x3072x2048_0_0_0) shapeCasts_S1x3072x2048_S3072x2048⟩,
      ⟨S2048x2048, shapeCast S2048x2048 (extractStridedSlice S1x2048x2048 ![0, 3080, 0] (turned m c) slices_S1x5128x2048_S1x2048x2048_0_3080_0) shapeCasts_S1x2048x2048_S2048x2048⟩]
    concatenates_S3072x2048_S2048x2048_S5120x2048_d0 := by
  unfold V
  simp only [List.flatten_cons, List.flatten_nil, List.append_nil, List.cons_append, List.nil_append]
  after_results_simp <;> rfl

theorem gains_apply (i : Fin 2048) : V m c main_v8 (ix2 0 i) = gains m c (ix2 0 i) := by
  rw [V_main_v8]
  pointwise

/-- Row `x` of the matrix staged is column `x` of the weights, eight further from the 3073rd on. -/
theorem matrix_apply (x : Fin 5120) (j : Fin 2048) : V m c main_v6 (ix2 x j)
    = weights m c (ix3 0 j (column x)) := by
  rw [V_main_v6]
  unfold turned column
  pointwise
  split
  · rfl
  · exact congrArg (weights m c) (congrArg (ix3 0 j) (Fin.ext (by show 3080 + (x.val - 3072) = x.val + 8; omega)))

theorem V_main_v11 : V m c main_v11 = pad S128x2048 ![0, 0] ![120, 0] ![0, 0]
    (shapeCast S8x2048 (extractStridedSlice S1x8x2048 ![0, 3072, 0] (turned m c) slices_S1x5128x2048_S1x8x2048_0_3072_0) shapeCasts_S1x8x2048_S8x2048)
    (sitofp .bf16 (constantI S_ 32 0#32)) pads_S8x2048_S128x2048_01200_000 h_S_ := by
  unfold V
  simp only [List.flatten_cons, List.flatten_nil, List.append_nil, List.cons_append, List.nil_append]
  after_results_simp <;> rfl

/-- Row `x` of the logits' matrix staged is column `3072 + x` of the weights, and zero from the ninth on. -/
theorem head_apply (x : Fin 128) (j : Fin 2048) : V m c main_v11 (ix2 x j)
    = if h : x.val < 8 then weights m c (ix3 0 j ⟨3072 + x.val, by omega⟩) else 0 := by
  rw [V_main_v11]
  unfold turned
  pointwise
  refine congrArg (dite (x.val < 8) _) (funext fun _ => ?_)
  show (((0#32 : BitVec 32).toInt : ℝ) : EReal) = 0
  simp

/-! ## What the points store -/

theorem e0 : ∀ t : Fin cfg0.N, win0_0.index t = ![t.val / 5, 0] :=
  (by decide +kernel : ∀ t : Fin grid0.N, _)
theorem e1 : ∀ t : Fin cfg0.N, win0_1.index t = ![0, 0] :=
  (by decide +kernel : ∀ t : Fin grid0.N, _)
theorem e2 : ∀ t : Fin cfg0.N, win0_2.index t = ![t.val % 5, 0] :=
  (by decide +kernel : ∀ t : Fin grid0.N, _)
theorem e3 : ∀ t : Fin cfg0.N, win0_3.index t = ![0, 0] :=
  (by decide +kernel : ∀ t : Fin grid0.N, _)
theorem e4 : ∀ t : Fin cfg0.N, win0_4.index t = ![t.val / 5, t.val % 5] :=
  (by decide +kernel : ∀ t : Fin grid0.N, _)
theorem e5 : ∀ t : Fin cfg0.N, win0_5.index t = ![t.val / 5, 0] :=
  (by decide +kernel : ∀ t : Fin grid0.N, _)

/-- The normalised rows of point `t`'s row block. -/
theorem rowsOf_apply (t : Fin cfg0.N) (r : Fin 1024) (k : Fin 2048) (R : Fin 16384) (hR : R.val = 1024 * (t.val / 5) + r.val) :
    rowsOf m c t (ix2 r k) = normed (fun i => stream m c (ix2 R i)) (fun i => gains m c (ix2 0 i)) k := by
  have hf : (first t).val = 5 * (t.val / 5) := rfl
  unfold rowsOf
  refine (norm_apply _ _ r k).trans ?_
  refine congrArg₂ (fun f g => normed f g k) (funext fun i => ?_) (funext fun i => ?_)
  · blk_simp [iblk]
    rw [V_main_arg0]
    refine congrArg (stream m c) ?_
    blk_ext [e0]
  · refine Eq.trans ?_ (gains_apply m c i)
    blk_simp [iblk]
    refine congrArg (V m c main_v8) ?_
    blk_ext [e1]

/-- The first array the call leaves: the product without its eight columns of logits. -/
theorem projection : (dats m 0 c).arrAt 4 cfg0.N = fun y => mixed (stream m c) (gains m c) (weights m c) (y 0) (column (y 1)) := by
  refine (dats m 0 c).arrAt_eq_of_covers 4 _ (by decide +kernel) fun t hf y => ?_
  blk_simp
  rw [after_4]
  obtain ⟨r, x, rfl⟩ : ∃ r x, y = ix2 (n0 := 1024) (n1 := 1024) r x := ⟨y 0, y 1, eq_ix2 y⟩
  have hr : ((win0_4.blk t).view.emb (ix2 r x) 0).val = 1024 * (t.val / 5) + r.val := by
    blk_simp [e4]
    omega
  refine (product_apply _ _ r x).trans (Finset.sum_congr rfl fun j _ => congrArg₂ (· * ·) (rowsOf_apply m c t r j _ hr) ?_)
  refine Eq.trans ?_ (matrix_apply m c ((win0_4.blk t).view.emb (ix2 r x) 1) j)
  blk_simp [iblk]
  refine congrArg (V m c main_v6) ?_
  blk_ext [e2, e4]

/-- The second: the logits, with zeros from the ninth column on. -/
theorem logits : (dats m 0 c).arrAt 5 cfg0.N = fun y => gateLogits (stream m c) (gains m c) (weights m c) (y 0) (y 1) := by
  refine (dats m 0 c).arrAt_eq_of_covers 5 _ (by decide +kernel) fun t hf y => ?_
  blk_simp
  rw [after_5]
  obtain ⟨r, x, rfl⟩ : ∃ r x, y = ix2 (n0 := 1024) (n1 := 128) r x := ⟨y 0, y 1, eq_ix2 y⟩
  have hr : ((win0_5.blk t).view.emb (ix2 r x) 0).val = 1024 * (t.val / 5) + r.val := by
    blk_simp [e5]
    omega
  have hx : (win0_5.blk t).view.emb (ix2 r x) 1 = x := by
    apply Fin.ext
    blk_simp [e5]
  have hw : ∀ j : Fin 2048, iblk m c 3 (first t) (ix2 x j) = V m c main_v11 (ix2 x j) := fun j => by
    blk_simp [iblk]
    refine congrArg (V m c main_v11) ?_
    blk_ext [e3]
  refine (logits_apply _ _ r x).trans ?_
  rw [hx]
  refine (Finset.sum_congr rfl fun j _ => congrArg₂ (· * ·) (rowsOf_apply m c t r j _ hr) ((hw j).trans (head_apply m c x j))).trans ?_
  unfold gateLogits
  by_cases h : x.val < 8
  · simp only [dif_pos h]
    rfl
  · simp only [dif_neg h, mul_zero, Finset.sum_const_zero]

end Cert.InValue

end
-- ==== Proof.InRef.lean ====
/- What the reference of the first layer's input projection returns. -/
module

public import proofs.«01_k».proof.Proof.Gen.InReferenceIdeal.Read
public import proofs.«01_k».proof.Proof.Linear

@[expose] public section

set_option maxRecDepth 16384

noncomputable section

namespace Cert.InRef

open Idealize.ShloMosaic Cert.InReferenceIdeal Cert.InReferenceIdeal.Gen Cert.InReferenceIdeal.Read Cert.Linear

variable (X : (⟨2, ![16384, 2048]⟩ : Shape).Idx → EReal) (G : (⟨2, ![1, 2048]⟩ : Shape).Idx → EReal)
  (W : (⟨3, ![1, 2048, 5128]⟩ : Shape).Idx → EReal)

/-- The normalised rows. -/
theorem norm_apply (r : Fin 16384) (k : Fin 2048) :
    val_main_v13 (F := Ideal) X G (ix2 r k) = normed (fun i => X (ix2 r i)) (fun i => G (ix2 0 i)) k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The product with the whole matrix. -/
theorem product_apply (r : Fin 16384) (x : Fin 5128) : val_main_v15 (F := Ideal) X G W (ix2 r x) = mixed X G W r x := by
  pointwise [val_main_v15, val_main_v14]
  exact Finset.sum_congr rfl fun j _ => congrArg (· * _) (norm_apply X G r j)

/-- The projection: the product without its eight columns of logits. -/
theorem projection : val_main_v20 (F := Ideal) X G W = fun y => mixed X G W (y 0) (column (y 1)) := by
  funext y
  obtain ⟨r, x, rfl⟩ : ∃ r x, y = ix2 (n0 := 16384) (n1 := 5120) r x := ⟨y 0, y 1, eq_ix2 y⟩
  show _ = mixed X G W r (column x)
  unfold column
  rw [← product_apply]
  pointwise [val_main_v20, val_main_v19, val_main_v18, val_main_v16]
  split
  · rfl
  · exact congrArg (val_main_v15 (F := Ideal) X G W) (congrArg (ix2 r) (Fin.ext (by show 3080 + (x.val - 3072) = x.val + 8; omega)))

/-- The padding: the integer zero as a float. -/
theorem zero_of_int : FloatOps.sitofp (F := Ideal) .f32 (val_main_c (F := Ideal) (Shape.Idx.first h_S_)) = (0 : EReal) := by
  show (((0#32 : BitVec 32).toInt : ℝ) : EReal) = 0
  simp

/-- The logits, with zeros from the ninth column on. -/
theorem logits : val_main_v21 (F := Ideal) X G W = fun y => gateLogits X G W (y 0) (y 1) := by
  funext y
  obtain ⟨r, x, rfl⟩ : ∃ r x, y = ix2 (n0 := 16384) (n1 := 128) r x := ⟨y 0, y 1, eq_ix2 y⟩
  show _ = gateLogits X G W r x
  unfold gateLogits
  simp only [← product_apply]
  pointwise [val_main_v21, val_main_v17, val_main_call0_v0]
  refine congrArg (dite (x.val < 8) _) (funext fun _ => ?_)
  exact zero_of_int

end Cert.InRef

end
-- ==== Proof.LastIdealBody.lean ====
/- The closing call of the layer: its body run once for each of its two cases, and the launch. -/
module

public import proofs.«01_k».proof.Proof.Gen.LastIdeal.Frame
public import proofs.«01_k».proof.Proof.Gen.LastIdeal.Skeleton
public import Idealize.ShloMosaic.Lib.Pipeline.Frame
public import Idealize.ShloMosaic.Lib.Claim
public import Idealize.ShloMosaic.Lib.Tactic
public import Idealize.ShloMosaic.Lib.Pointwise
public import Idealize.ShloMosaic.Lib.VecWindow
public import Idealize.ShloMosaic.Lib.WritesUnit

@[expose] public section

set_option maxRecDepth 16384

noncomputable section

namespace Cert.LastIdeal.Hand

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The condition of the body's conditional holds at the second column half. -/
theorem second : ∀ i : grid0.Coords, k0_cond1 i = 1#1 ↔ (i 1).val = 1 := by decide +kernel

/-- The two halves of a block's normalised rows, joined: `p` and `q` the halves before the normalisation, `g` the gains. -/
def joined (p q : Vec F S1x512x1024 .f32) (g : Vec F S1x2048 .f32) : Vec F S512x2048 .f32 := fun y =>
  if h : (y 1).val < 1024 then k0_pay5 p q (fun z => g (ix2 0 ⟨(z 1).val, by have := (z 1).isLt; simp at this ⊢; omega⟩)) (ix2 (y 0) ⟨(y 1).val, h⟩)
  else k0_pay6 p q (fun z => g (ix2 0 ⟨1024 + (z 1).val, by have := (z 1).isLt; simp at this ⊢; omega⟩)) (ix2 (y 0) ⟨(y 1).val - 1024, by have := (y 1).isLt; simp at this ⊢; omega⟩)

/-- A load of the scratch's slice `k`, from its entries. -/
theorem slice_load {sig : RefSig} {κ : Kind} {sp : Space} (v : View sig κ sp S2x512x1024 .f32) (g : v.ty.Contents (Elt F)) (k : Fin 2)
    (inb : ∀ a, (![k.val, 0, 0] : Fin 3 → ℕ) a + S1x512x1024.size a ≤ S2x512x1024.size a) (p : Vec F S1x512x1024 .f32)
    (h : ∀ (r : Fin 512) (x : Fin 1024), v.read (Elt F) g (ix3 k r x) = p (ix3 0 r x)) :
    v.readAt (Elt F) (Rect.unit (s := S2x512x1024) ![k.val, 0, 0] S1x512x1024.size inb).toLoadRect g = p := by
  funext z
  obtain ⟨b, r, x, rfl⟩ : ∃ b r x, z = ix3 (n0 := 1) (n1 := 512) (n2 := 1024) b r x := ⟨z 0, z 1, z 2, eq_ix3 z⟩
  obtain rfl : b = 0 := Subsingleton.elim _ _
  rw [← h]
  refine congrArg (v.read (Elt F) g) (funext fun a => Fin.ext ?_)
  show (![k.val, 0, 0] : Fin 3 → ℕ) a + 1 * (ix3 (n0 := 1) (n1 := 512) (n2 := 1024) 0 r x a).val = _
  fin_cases a <;> simp

/-- A load of 1024 gains from column `o` on. -/
theorem gain_load {sig : RefSig} {κ : Kind} {sp : Space} (v : View sig κ sp S1x2048 .f32) (g : v.ty.Contents (Elt F)) (o : ℕ)
    (inb : ∀ a, (![0, o] : Fin 2 → ℕ) a + S1x1024.size a ≤ S1x2048.size a) {x : Vec F S1x2048 .f32} (k : S1x1024.Idx → Fin 2048)
    (hg : v.read (Elt F) g = x) (hk : ∀ z, (k z).val = o + (z 1).val) :
    v.readAt (Elt F) (Rect.unit (s := S1x2048) ![0, o] S1x1024.size inb).toLoadRect g = fun z => x (ix2 0 (k z)) := by
  funext z
  subst hg
  refine congrArg (v.read (Elt F) g) (funext fun a => Fin.ext ?_)
  show (![0, o] : Fin 2 → ℕ) a + 1 * (z a).val = _
  have h0 : (z 0).val < 1 := (z 0).isLt
  fin_cases a
  · show 0 + 1 * (z 0).val = 0
    omega
  · show o + 1 * (z 1).val = (k z).val
    rw [hk]
    omega

section

variable (c : Dev nD) (i : grid0.Coords) (arg2 : Memref sig .tc .vmem S512x5632 .bf16) (harg2 : arg2.IsWhole)
  (arg3 : Memref sig .tc .vmem S1x5632x1024 .bf16) (harg3 : arg3.IsWhole) (arg4 : Memref sig .tc .vmem S512x1024 .f32) (harg4 : arg4.IsWhole)
  (arg5 : Memref sig .tc .vmem S1x2048 .f32) (harg5 : arg5.IsWhole) (arg6 : Memref sig .tc .vmem S512x2048 .f32) (harg6 : arg6.IsWhole)
  (arg7 : Memref sig .tc .vmem S2x512x1024 .f32) (harg7 : arg7.IsWhole)
  (x0 : Vec F S512x5632 .bf16) (x1 : Vec F S1x5632x1024 .bf16) (x2 : Vec F S512x1024 .f32) (x3 : Vec F S1x2048 .f32)
  (x4 : Vec F S512x2048 .f32) (xs : Vec F S2x512x1024 .f32)

/-- At the first half the body leaves the half's sum in the scratch's first slice and the output as it was. -/
theorem run_first (hc : ¬k0_cond1 i = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d : Vec F S2x512x1024 .f32, ⌜∀ (r : Fin 512) (x : Fin 1024), d (ix3 0 r x) = k0_pay1 x2 x0 x1 (ix3 0 r x)⌝ ∗ owns (c : Thread nD τ) arg7 fullShare d)) -∗ K ⟨⟩))
      ⊢ wp frame (wpE (defs₀ (F := F)) Variants.none c none) Set.univ
          (cc0_matmul_residual_rmsnorm i arg2 harg2 arg3 harg3 arg4 harg4 arg5 harg5 arg6 harg6 arg7 harg7) K := by
  simp only [cc0_matmul_residual_rmsnorm_eq_skeleton]; unfold cc0_matmul_residual_rmsnorm_skel
  have ho : k0_off1 i = ![0, 0, 0] := by
    have h := (second i).not.mp hc
    have hl : (i 1).val < 2 := (i 1).isLt
    rw [k0_off1_eq, show (i 1).val = 0 by omega]
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap
  · iexists _; isplitr; swap; · iexact HS
    ipureintro; rfl
  ipureintro
  intro r x
  refine (View.read_writes_cons_unit_of_mem arg7.view fs (size := S1x512x1024.size) (off' := ![0, 0, 0]) _ _ [] (ix3 0 r x)
    (ix3 (n0 := 1) (n1 := 512) (n2 := 1024) 0 r x) ho (by intro a; fin_cases a <;> simp)).trans ?_
  rw [View.readAt_full, View.readAt_full, View.readAt_full, hf0, hf1, hf2]

/-- At the second half the body joins the first half, kept in the scratch, and its own. -/
theorem run_second (hc : k0_cond1 i = 1#1) (p : Vec F S1x512x1024 .f32) (hp : ∀ (r : Fin 512) (x : Fin 1024), xs (ix3 0 r x) = p (ix3 0 r x)) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (joined p (k0_pay1 x2 x0 x1) x3)
            ∗ (∃ d, owns (c : Thread nD τ) arg7 fullShare d)) -∗ K ⟨⟩))
      ⊢ wp frame (wpE (defs₀ (F := F)) Variants.none c none) Set.univ
          (cc0_matmul_residual_rmsnorm i arg2 harg2 arg3 harg3 arg4 harg4 arg5 harg5 arg6 harg6 arg7 harg7) K := by
  simp only [cc0_matmul_residual_rmsnorm_eq_skeleton]; unfold cc0_matmul_residual_rmsnorm_skel
  have ho : k0_off1 i = ![1, 0, 0] := by rw [k0_off1_eq, (second i).mp hc]
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    have hw0 : ∀ (r : Fin 512) (x : Fin 1024), arg7.view.read (Elt F) (arg7.view.writes (Elt F) fs [⟨Rect.unit (s := S2x512x1024) (k0_off1 i) S1x512x1024.size
        (k0_off1_inb i), k0_pay1 x2 x0 x1⟩]) (ix3 0 r x) = p (ix3 0 r x) := by
      intro r x
      refine (View.read_writes_cons_unit_of_not_mem arg7.view fs (size := S1x512x1024.size) (off' := ![1, 0, 0]) _ _ [] (ix3 0 r x) ho 0
        (Or.inl (by simp))).trans ?_
      rw [← hp, ← hfs]
      rfl
    have hw1 : ∀ (r : Fin 512) (x : Fin 1024), arg7.view.read (Elt F) (arg7.view.writes (Elt F) fs [⟨Rect.unit (s := S2x512x1024) (k0_off1 i) S1x512x1024.size
        (k0_off1_inb i), k0_pay1 x2 x0 x1⟩]) (ix3 1 r x) = k0_pay1 x2 x0 x1 (ix3 0 r x) := by
      intro r x
      exact View.read_writes_cons_unit_of_mem arg7.view fs (size := S1x512x1024.size) (off' := ![1, 0, 0]) _ _ [] (ix3 1 r x)
        (ix3 (n0 := 1) (n1 := 512) (n2 := 1024) 0 r x) ho (by intro a; fin_cases a <;> simp)
    have hL : run_second.sl.HS_1 c i arg2 arg3 arg4 f0 f1 f2 = [⟨Rect.unit (s := S2x512x1024) (k0_off1 i) S1x512x1024.size (k0_off1_inb i), k0_pay1 x2 x0 x1⟩] := by
      unfold run_second.sl.HS_1
      rw [View.readAt_full, View.readAt_full, View.readAt_full, hf0, hf1, hf2]
    rw [hL]
    funext y
    unfold joined
    split
    · rename_i h
      refine (View.read_writes_cons_unit_of_not_mem arg6.view f4 (size := S512x1024.size) (off' := ![0, 1024]) _ _ _ y rfl 1 (Or.inl h)).trans ?_
      refine (View.read_writes_cons_unit_of_mem arg6.view f4 (size := S512x1024.size) (off' := ![0, 0]) _ _ _ y
        (ix2 (n0 := 512) (n1 := 1024) (y 0) ⟨(y 1).val, h⟩) rfl (by intro a; fin_cases a <;> simp)).trans ?_
      refine congrFun (congr (congrArg₂ k0_pay5 (slice_load _ _ 0 _ _ ?_) (slice_load _ _ 1 _ _ ?_)) ?_) _
      · exact hw0
      · exact hw1
      · exact gain_load _ _ 0 _ _ hf3 (fun z => by simp)
    · rename_i h
      refine (View.read_writes_cons_unit_of_mem arg6.view f4 (size := S512x1024.size) (off' := ![0, 1024]) _ _ _ y
        (ix2 (n0 := 512) (n1 := 1024) (y 0) ⟨(y 1).val - 1024, by have := (y 1).isLt; simp at this; omega⟩) rfl (by intro a; fin_cases a <;> simp; omega)).trans ?_
      refine congrFun (congr (congrArg₂ k0_pay6 (slice_load _ _ 0 _ _ ?_) (slice_load _ _ 1 _ _ ?_)) ?_) _
      · exact hw0
      · exact hw1
      · exact gain_load _ _ 1024 _ _ hf3 (fun z => rfl)
  iexists _, _; isplitr; swap; · iexact HS
  ipureintro; rfl

end

variable (m : (ℓ : Loc nD τ sig) → Buf (Elt F) ℓ) (ρ : Dev nD → PrngReg)

/-! ## The proof data -/

abbrev scratch0 : Memref sig .tc .vmem S2x512x1024 .f32 := Memref.whole cc0_scratch0

/-- The column half of point `t`: the point's block of the stream plus its rows times its matrix. -/
def part (c : Dev nD) (t : Fin cfg0.N) : Vec F S1x512x1024 .f32 := k0_pay1 (iblk m c 2 t) (iblk m c 0 t) (iblk m c 1 t)

def before (t : Fin cfg0.N) : Fin cfg0.N := ⟨t.val - 1, Nat.lt_of_le_of_lt (Nat.sub_le _ _) t.isLt⟩

/-- Between a row block's two points the scratch's first slice holds the first half. -/
def Phi (c : Dev nD) (t : Fin (cfg0.N + 1)) : sProp 𝕄 :=
  if h : t.val % 2 = 1 then
    iprop((∃ d : Vec F S2x512x1024 .f32, ⌜∀ (r : Fin 512) (x : Fin 1024), d (ix3 0 r x) = part m c ⟨t.val - 1, by have := t.isLt; omega⟩ (ix3 0 r x)⌝
      ∗ owns (c : Thread nD τ) scratch0 fullShare d) ∗ (∃ r, prngReg c r))
  else iprop((∃ d, owns (c : Thread nD τ) scratch0 fullShare d) ∗ (∃ r, prngReg c r))

theorem PhiA_eq (c : Dev nD) :
    (Pipeline.ΦA spec0 c : sProp 𝕄) = iprop((∃ d, owns (c : Thread nD τ) scratch0 fullShare d) ∗ (∃ r, prngReg c r)) := by
  unfold Pipeline.ΦA
  rw [scopedRest0_eq]
  simp only [scratch0, owns_whole]
  try rfl

theorem Phi_even (c : Dev nD) (t : Fin (cfg0.N + 1)) (h : t.val % 2 = 0) :
    Phi m c t = iprop((∃ d, owns (c : Thread nD τ) scratch0 fullShare d) ∗ (∃ r, prngReg c r)) := by
  unfold Phi
  rw [dif_neg (by omega)]

theorem Phi_odd (c : Dev nD) (t : Fin (cfg0.N + 1)) (h : t.val % 2 = 1) (s : Fin cfg0.N) (hs : s.val = t.val - 1) :
    Phi m c t = iprop((∃ d : Vec F S2x512x1024 .f32, ⌜∀ (r : Fin 512) (x : Fin 1024), d (ix3 0 r x) = part m c s (ix3 0 r x)⌝
      ∗ owns (c : Thread nD τ) scratch0 fullShare d) ∗ (∃ r, prngReg c r)) := by
  unfold Phi
  rw [dif_pos h]
  rw [show s = ⟨t.val - 1, by have := t.isLt; omega⟩ from Fin.ext hs]

/-- The arrays as the region finds them; after each point the inputs' blocks, and the rows joined of the point's half and the one before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => joined (part m c (before t)) (part m c t) (iblk m c 3 t)
  Φ t := Phi m c t
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = joined (part m c (before t)) (part m c t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point -/

theorem half : ∀ t : Fin cfg0.N, (grid0.coords t 1).val = t.val % 2 := (by decide +kernel : ∀ t : Fin grid0.N, _)

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def post (c : Dev nD) (t : Fin cfg0.N) (Q : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t) ∗ Q)

/-- At a row block's first point the output's buffer stays as it was. -/
theorem body_first (c : Dev nD) (t : Fin cfg0.N) (h : t.val % 2 = 0) :
    pre m c t ⊢ wp frame (wpE (defs₀ (F := F)) Variants.none c none) Set.univ (bodyAt0 t)
      (fun _ => post m c t iprop(∃ d, owns (c : Thread nD τ) (st0_4 t) fullShare ((dats m 0 c).before 4 t d))) := by
  have hc : ¬k0_cond1 (grid0.coords t) = 1#1 := fun h' => by
    have := (second _).mp h'
    rw [half] at this
    omega
  unfold pre post bodyAt0
  simp only [before_0, before_1, before_2, before_3]
  rw [show (dats m 0 c).owesAt () t.succ = (dats m 0 c).owesAt () t.castSucc from rfl, after_0, after_1, after_2, after_3,
    show (dats m 0 c).Φ t.castSucc = Phi m c t.castSucc from rfl, show (dats m 0 c).Φ t.succ = Phi m c t.succ from rfl,
    Phi_even m c t.castSucc h, Phi_odd m c t.succ (by simp; omega) t (by simp)]
  iintro ⟨⟨HS, Hg⟩, Ho, ⟨%d0, H0⟩, ⟨%d1, H1⟩, ⟨%d2, H2⟩, ⟨%d3, H3⟩, ⟨%d4, H4⟩⟩
  iapply (run_first c (grid0.coords t) _ _ _ _ _ _ _ _ _ _ _ _ (iblk m c 0 t) (iblk m c 1 t) (iblk m c 2 t) (iblk m c 3 t) _ hc _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexists _; iexact H4

/-- At its second point the output's buffer takes the joined rows. -/
theorem body_second (c : Dev nD) (t : Fin cfg0.N) (h : t.val % 2 = 1) :
    pre m c t ⊢ wp frame (wpE (defs₀ (F := F)) Variants.none c none) Set.univ (bodyAt0 t)
      (fun _ => post m c t (owns (c : Thread nD τ) (st0_4 t) fullShare ((dats m 0 c).after 4 t))) := by
  have hc : k0_cond1 (grid0.coords t) = 1#1 := (second _).mpr ((half t).trans h)
  unfold pre post bodyAt0
  simp only [before_0, before_1, before_2, before_3]
  rw [show (dats m 0 c).owesAt () t.succ = (dats m 0 c).owesAt () t.castSucc from rfl, after_0, after_1, after_2, after_3, after_4,
    show (dats m 0 c).Φ t.castSucc = Phi m c t.castSucc from rfl, show (dats m 0 c).Φ t.succ = Phi m c t.succ from rfl,
    Phi_odd m c t.castSucc h (before t) rfl, Phi_even m c t.succ (by simp; omega)]
  iintro ⟨⟨⟨%d, %hd, HS⟩, Hg⟩, Ho, ⟨%d0, H0⟩, ⟨%d1, H1⟩, ⟨%d2, H2⟩, ⟨%d3, H3⟩, ⟨%d4, H4⟩⟩
  iapply (run_second c (grid0.coords t) _ _ _ _ _ _ _ _ _ _ _ _ (iblk m c 0 t) (iblk m c 1 t) (iblk m c 2 t) (iblk m c 3 t) d hc
    (part m c (before t)) hd _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

theorem idle_4 : ∀ t : Fin cfg0.N, cfg0.idle 4 (cfg0.grid.coords t) = true ↔ t.val % 2 = 0 := (by decide +kernel : ∀ t : Fin grid0.N, _)

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  by_cases h : t.val % 2 = 0
  · have hi : idle0 4 (grid0.coords t) = true := (idle_4 t).mpr h
    have hf : (cfg0.win 4).flush t = false := Bool.eq_false_iff.mpr fun h' => by
      have := (flush0_4 t).mp h'
      omega
    simp only [hi, hf]
    exact triple_restated (body_first m c t h) rfl .rfl fun _ => .rfl
  · have hi : idle0 4 (grid0.coords t) = false := Bool.eq_false_iff.mpr fun h' => h ((idle_4 t).mp h')
    simp only [hi]
    exact triple_restated (body_second m c t (by omega)) rfl .rfl fun _ => .rfl

/-! ## The launch -/

theorem hin (c : Dev nD) : Pipeline.ΦA spec0 c ⊢ (dats m 0 c).Φ 0 := by
  rw [show (dats m 0 c).Φ 0 = Phi m c 0 from rfl, Phi_even m c 0 rfl, PhiA_eq]

theorem hout (c : Dev nD) : (dats m 0 c).Φ (Fin.last cfg0.N) ⊢ Pipeline.ΦA spec0 c := by
  rw [show (dats m 0 c).Φ (Fin.last cfg0.N) = Phi m c (Fin.last cfg0.N) from rfl,
    Phi_even m c _ (by rw [Fin.val_last, show cfg0.N = 64 from N_0]), PhiA_eq]

set_option backward.isDefEq.respectTransparency.types false in
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The run with the output's array named. -/
theorem value : θ_run defs (onTc (τ := τ) (main (F := F))) ⟨m, fun _ => 0, ρ⟩ (fun r => ∀ c : Dev nD,
      r.2.mem ((c.tc : Thread nD τ).loc main_v2) = (dats m 0 c).arrAt 4 cfg0.N) :=
  (θ_run defs _ _).mono (fun _ h c => (h.1 c).1 4) (run m ρ)

end Cert.LastIdeal.Hand

end
-- ==== Proof.LastBody.lean ====
/- The closing call of the layer, as compiled: it terminates and leaves its arguments as they were. -/
module

public import proofs.«01_k».proof.Proof.Gen.Last.Frame
public import proofs.«01_k».proof.Proof.Gen.Last.Skeleton
public import Idealize.ShloMosaic.Lib.Pipeline.Frame
public import Idealize.ShloMosaic.Lib.Tactic

@[expose] public section

set_option maxRecDepth 16384

noncomputable section

namespace Cert.Last.Hand

open Cert.Last Cert.Last.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

/-- In either case of its conditional the body hands every input back as it was; of the output and the scratch nothing is said. -/
theorem body (c : Dev nD) (i : grid0.Coords) (arg2 : Memref sig .tc .vmem S512x5632 .bf16) (harg2 : arg2.IsWhole)
    (arg3 : Memref sig .tc .vmem S1x5632x1024 .bf16) (harg3 : arg3.IsWhole) (arg4 : Memref sig .tc .vmem S512x1024 .f32) (harg4 : arg4.IsWhole)
    (arg5 : Memref sig .tc .vmem S1x2048 .f32) (harg5 : arg5.IsWhole) (arg6 : Memref sig .tc .vmem S512x2048 .f32) (harg6 : arg6.IsWhole)
    (arg7 : Memref sig .tc .vmem S2x512x1024 .f32) (harg7 : arg7.IsWhole)
    (x0 : Vec F S512x5632 .bf16) (x1 : Vec F S1x5632x1024 .bf16) (x2 : Vec F S512x1024 .f32) (x3 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (∃ d, owns (c : Thread nD τ) arg7 fullShare d)) -∗ K ⟨⟩))
      ⊢ wp frame (wpE (defs₀ (F := F)) Variants.none c none) Set.univ
          (cc0_matmul_residual_rmsnorm i arg2 harg2 arg3 harg3 arg4 harg4 arg5 harg5 arg6 harg6 arg7 harg7) K := by
  simp only [cc0_matmul_residual_rmsnorm_eq_skeleton]; unfold cc0_matmul_residual_rmsnorm_skel
  unfold owns
  by_cases hc : k0_cond1 i = 1#1
  all_goals
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _, _; isplitr; swap; · iexact H4
      ipureintro; rfl
    iexists _, _; isplitr; swap; · iexact HS
    ipureintro; rfl

variable (m : (ℓ : Loc nD τ sig) → Buf (Elt F) ℓ) (ρ : Dev nD → PrngReg)

/-- Nothing is said of the output. -/
def forgets0 : Fin 5 → Bool := ![false, false, false, false, true]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- A point's body, from the invariant and the windows to the same. -/
theorem point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare d))
      ⊢ wp frame (wpE (defs₀ (F := F)) Variants.none c none) Set.univ (bodyAt0 t)
        (fun _ => iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t)
          ∗ owns (c : Thread nD τ) (st0_3 t) fullShare ((dats m 0 c).after 3 t)
          ∗ (∃ d, owns (c : Thread nD τ) (st0_4 t) fullShare d))) := by
  have hb0 := before0_0_of m (dats m 0 c) (A_eq m c 0) (after_0 m c) t
  have hb1 := before0_1_of m (dats m 0 c) (A_eq m c 1) (after_1 m c) t
  have hb2 := before0_2_of m (dats m 0 c) (A_eq m c 2) (after_2 m c) t
  have hb3 := before0_3_of m (dats m 0 c) (A_eq m c 3) (after_3 m c) t
  have hΦ : (Pipeline.ΦA spec0 c : sProp 𝕄) = iprop((∃ d, owns (c : Thread nD τ) (Memref.whole cc0_scratch0) fullShare d) ∗ (∃ r, prngReg c r)) := by
    unfold Pipeline.ΦA
    rw [scopedRest0_eq]
    simp only [owns_whole]
    try rfl
  unfold bodyAt0
  simp only [hb0, hb1, hb2, hb3]
  rw [show (dats m 0 c).owesAt () t.succ = (dats m 0 c).owesAt () t.castSucc from rfl, after_0, after_1, after_2, after_3,
    show (dats m 0 c).Φ t.castSucc = Pipeline.ΦA spec0 c from rfl, show (dats m 0 c).Φ t.succ = Pipeline.ΦA spec0 c from rfl, hΦ]
  iintro ⟨⟨HS, Hg⟩, Ho, ⟨%d0, H0⟩, ⟨%d1, H1⟩, ⟨%d2, H2⟩, ⟨%d3, H3⟩, H4⟩
  iapply (body c (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ forgets0 := fun t => by
  rw [bigSep_W0, bigSep_W0, show defs₀ (F := F) .tc cfg0.body (cfg0.bodyArgs t (cfg0.slots t)) = bodyAt0 t by unfold defs₀; rw [Defs.onTc_tc]]
  exact triple_restated (point m c t) rfl .rfl fun _ => .rfl

set_option backward.isDefEq.respectTransparency.types false in
theorem run : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      (h.1.arr_in c 0 rfl).trans (V_main_arg0 m c),
      ((h.1 c).2 main_arg1 (Pipeline.mem_restRefs_of main_arg1 (by decide) (by decide))).trans (V_main_arg1 m c),
      (h.1.arr_in c 2 rfl).trans (V_main_arg2 m c),
      ((h.1 c).2 main_arg3 (Pipeline.mem_restRefs_of main_arg3 (by decide) (by decide))).trans (V_main_arg3 m c)⟩, h.2⟩) (run m ρ)

end Cert.Last.Hand

end
-- ==== Proof.LastValue.lean ====
/- The closing call of the layer, the second layer's down projection and the final normalisation: what the call leaves. -/
module

public import proofs.«01_k».proof.Proof.LastIdealBody
public import proofs.«01_k».proof.Proof.Linear
public import Idealize.ShloMosaic.Lib.Pipeline.ValueKit
public import Idealize.ShloMosaic.Lib.Pointwise

@[expose] public section

set_option maxRecDepth 16384

noncomputable section

namespace Cert.LastValue

open Idealize.ShloMosaic Idealize.ShloMosaic.TcCoe Idealize.ShloMosaic.Tactic
open Cert.LastIdeal Cert.LastIdeal.Gen Cert.LastIdeal.Facts Cert.LastIdeal.Hand Cert.Linear

/-- A column half: the block of the stream plus the block of rows times the block of columns. -/
theorem half_apply (x0 : Vec Ideal S512x1024 .f32) (x1 : Vec Ideal S512x5632 .bf16) (x2 : Vec Ideal S1x5632x1024 .bf16) (r : Fin 512) (x : Fin 1024) :
    k0_pay1 x0 x1 x2 (ix3 0 r x) = x0 (ix2 r x) + ∑ j : Fin 5632, x1 (ix2 r j) * x2 (ix3 0 j x) := by
  pointwise [k0_pay1]

/-- The root's reciprocal, from the two halves' sums of squares. -/
theorem root_apply (p q : Vec Ideal S1x512x1024 .f32) (r : Fin 512) :
    k0_pay4 p q (ix2 r 0) = Ideal.rsqrt (Ideal.div (∑ i : Fin 1024, p (ix3 0 r i) * p (ix3 0 r i) + ∑ i : Fin 1024, q (ix3 0 r i) * q (ix3 0 r i))
      (Ideal.ofBits .f32 0x45000000#32) + Ideal.ofBits .f32 0x358637BD#32) := by
  pointwise [k0_pay4, k0_pay2, k0_pay3]

theorem left_apply (p q : Vec Ideal S1x512x1024 .f32) (g : Vec Ideal S1x1024 .f32) (r : Fin 512) (x : Fin 1024) :
    k0_pay5 p q g (ix2 r x) = p (ix3 0 r x) * k0_pay4 p q (ix2 r 0) * g (ix2 0 x) := by
  pointwise [k0_pay5, k0_pay2]

theorem right_apply (p q : Vec Ideal S1x512x1024 .f32) (g : Vec Ideal S1x1024 .f32) (r : Fin 512) (x : Fin 1024) :
    k0_pay6 p q g (ix2 r x) = q (ix3 0 r x) * k0_pay4 p q (ix2 r 0) * g (ix2 0 x) := by
  pointwise [k0_pay6, k0_pay3]

/-- The two halves joined are the whole row normalised. -/
theorem joined_apply (p q : Vec Ideal S1x512x1024 .f32) (g : Vec Ideal S1x2048 .f32) (r : Fin 512) (f : Fin 2048 → EReal)
    (hp : ∀ x : Fin 1024, p (ix3 0 r x) = f ⟨x.val, by omega⟩) (hq : ∀ x : Fin 1024, q (ix3 0 r x) = f ⟨1024 + x.val, by omega⟩) (j : Fin 2048) :
    joined p q g (ix2 r j) = normed f (fun i => g (ix2 0 i)) j := by
  have hs : ∑ i, f i * f i = ∑ i : Fin 1024, p (ix3 0 r i) * p (ix3 0 r i) + ∑ i : Fin 1024, q (ix3 0 r i) * q (ix3 0 r i) := by
    refine (Fin.sum_univ_add (a := 1024) (b := 1024) (fun i : Fin (1024 + 1024) => f i * f i)).trans ?_
    refine congrArg₂ (· + ·) (Finset.sum_congr rfl fun i _ => ?_) (Finset.sum_congr rfl fun i _ => ?_)
    · rw [hp]; rfl
    · rw [hq]; rfl
  unfold joined normed
  rw [hs, ← root_apply]
  split
  · rename_i h
    refine (left_apply p q _ r ⟨j.val, h⟩).trans ?_
    exact congrArg (· * _ * g (ix2 0 j)) (hp _)
  · rename_i h
    refine (right_apply p q _ r ⟨j.val - 1024, _⟩).trans ?_
    have hj : (⟨1024 + (j.val - 1024), by have := j.isLt; omega⟩ : Fin 2048) = j := Fin.ext (by
      have h' : ¬j.val < 1024 := h
      show 1024 + (j.val - 1024) = j.val
      omega)
    refine congrArg₂ (· * ·) (congrArg (· * _) ((hq _).trans (congrArg f hj))) (congrArg (fun i => g (ix2 0 i)) hj)

variable (m : (ℓ : Loc nD τ sig) → Buf (Elt Ideal) ℓ) (c : Dev nD)

abbrev rows : (⟨2, ![16384, 5632]⟩ : Shape).Idx → EReal := m ((c : Thread nD τ).loc main_arg0)
abbrev weights : (⟨3, ![2, 5632, 2048]⟩ : Shape).Idx → EReal := m ((c : Thread nD τ).loc main_arg1)
abbrev stream : (⟨2, ![16384, 2048]⟩ : Shape).Idx → EReal := m ((c : Thread nD τ).loc main_arg2)
abbrev gains : (⟨1, ![2048]⟩ : Shape).Idx → EReal := m ((c : Thread nD τ).loc main_arg3)

theorem V_main_v0 : V m c main_v0 = weights m c := by
  unfold V
  after_results_simp <;> rfl

theorem V_main_v1 : V m c main_v1 = shapeCast S1x2048 (gains m c) shapeCasts_S2048_S1x2048 := by
  unfold V
  after_results_simp <;> rfl

theorem gains_apply (i : Fin 2048) : V m c main_v1 (ix2 0 i) = gains m c (ix1 i) := by
  rw [V_main_v1]
  pointwise

theorem e0 : ∀ t : Fin cfg0.N, win0_0.index t = ![t.val / 2, 0] :=
  (by decide +kernel : ∀ t : Fin grid0.N, _)
theorem e1 : ∀ t : Fin cfg0.N, win0_1.index t = ![1, 0, t.val % 2] :=
  (by decide +kernel : ∀ t : Fin grid0.N, _)
theorem e2 : ∀ t : Fin cfg0.N, win0_2.index t = ![t.val / 2, t.val % 2] :=
  (by decide +kernel : ∀ t : Fin grid0.N, _)
theorem e3 : ∀ t : Fin cfg0.N, win0_3.index t = ![0, 0] :=
  (by decide +kernel : ∀ t : Fin grid0.N, _)
theorem e4 : ∀ t : Fin cfg0.N, win0_4.index t = ![t.val / 2, 0] :=
  (by decide +kernel : ∀ t : Fin grid0.N, _)

/-- The half of point `t`, entry by entry. -/
theorem part_apply (t : Fin cfg0.N) (r : Fin 512) (x : Fin 1024) (R : Fin 16384) (X : Fin 2048) (hR : R.val = 512 * (t.val / 2) + r.val)
    (hX : X.val = 1024 * (t.val % 2) + x.val) : part m c t (ix3 0 r x) = addDot 1 (rows m c) (weights m c) (stream m c) R X := by
  refine (half_apply _ _ _ r x).trans ?_
  unfold addDot
  blk_simp [iblk]
  rw [V_main_v0, V_main_arg0, V_main_arg2]
  refine congrArg₂ (· + ·) (congrArg (stream m c) ?_) (Finset.sum_congr rfl fun j _ => congrArg₂ (· * ·) (congrArg (rows m c) ?_) (congrArg (weights m c) ?_))
  · blk_ext [e2]
  · blk_ext [e0]
  · blk_ext [e1]

/-- The array the call leaves. -/
theorem final : (dats m 0 c).arrAt 4 cfg0.N = fun y =>
    normed (addDot 1 (rows m c) (weights m c) (stream m c) (y 0)) (fun i => gains m c (ix1 i)) (y 1) := by
  refine (dats m 0 c).arrAt_eq_of_covers 4 _ (by decide +kernel) fun t hf y => ?_
  blk_simp
  rw [after_4]
  have ht : t.val % 2 = 1 := (flush0_4 t).mp hf
  obtain ⟨r, x, rfl⟩ : ∃ r x, y = ix2 (n0 := 512) (n1 := 2048) r x := ⟨y 0, y 1, eq_ix2 y⟩
  have hr : ((win0_4.blk t).view.emb (ix2 r x) 0).val = 512 * (t.val / 2) + r.val := by
    blk_simp [e4]
    omega
  have hx : (win0_4.blk t).view.emb (ix2 r x) 1 = x := by
    apply Fin.ext
    blk_simp [e4]
  have hb : (before t).val = t.val - 1 := rfl
  refine (joined_apply _ _ _ r _ (fun x => part_apply m c (before t) r x _ _ (hr.trans ?_) ?_) (fun x => part_apply m c t r x _ _ hr ?_) x).trans ?_
  · rw [hb, show (t.val - 1) / 2 = t.val / 2 by omega]
  · rw [hb]
    show x.val = _
    omega
  · show 1024 + x.val = _
    omega
  · rw [hx]
    refine congrArg (fun g => normed _ g x) (funext fun i => ?_)
    refine Eq.trans ?_ (gains_apply m c i)
    blk_simp [iblk]
    refine congrArg (V m c main_v1) ?_
    blk_ext [e3]

end Cert.LastValue

end
-- ==== Proof.LastRef.lean ====
/- What the reference of the layer's closing call returns. -/
module

public import proofs.«01_k».proof.Proof.Gen.LastReferenceIdeal.Read
public import proofs.«01_k».proof.Proof.Linear

@[expose] public section

set_option maxRecDepth 16384

noncomputable section

namespace Cert.LastRef

open Idealize.ShloMosaic Cert.LastReferenceIdeal Cert.LastReferenceIdeal.Gen Cert.LastReferenceIdeal.Read Cert.Linear

variable (X : (⟨2, ![16384, 5632]⟩ : Shape).Idx → EReal) (W : (⟨3, ![2, 5632, 2048]⟩ : Shape).Idx → EReal)
  (H : (⟨2, ![16384, 2048]⟩ : Shape).Idx → EReal) (G : (⟨1, ![2048]⟩ : Shape).Idx → EReal)

/-- The stream after the down projection. -/
theorem sum_apply (r : Fin 16384) (x : Fin 2048) : val_main_v4 (F := Ideal) X W H (ix2 r x) = addDot 1 X W H r x := by
  unfold addDot
  pointwise [val_main_v4, val_main_v3, val_main_v2, val_main_v1, val_main_v0]

theorem reference : val_main_v17 (F := Ideal) X W H G = fun y => normed (addDot 1 X W H (y 0)) (fun i => G (ix1 i)) (y 1) := by
  funext y
  obtain ⟨r, x, rfl⟩ : ∃ r x, y = ix2 (n0 := 16384) (n1 := 2048) r x := ⟨y 0, y 1, eq_ix2 y⟩
  show _ = normed (addDot 1 X W H r) (fun i => G (ix1 i)) x
  unfold normed
  simp only [← sum_apply]
  pointwise [val_main_v17, val_main_v16, val_main_v15, val_main_v14, val_main_v13, val_main_v12, val_main_v11, val_main_v10, val_main_v9,
    val_main_v8, val_main_v7, val_main_v6, val_main_v5, val_main_cst, val_main_cst_0, val_main_cst_1]

end Cert.LastRef

end
-- ==== Proof.Online.lean ====
/- Online softmax over the extended reals.

   `sMax s n`, `sSum s n` and `sAcc s v n` are the running maximum, the running normaliser and the running
   weighted sum of the first `n` keys, for logits `s` and values `v`. A block of keys takes them from `n` to
   `n + B` by the rescaling rule of the online softmax; the quotient after the last block is the softmax of
   all the keys applied to the values. A masked key has the logit `⊥` and weighs nothing. -/
module

public import Idealize.ShloMosaic.PureOps.Ideal

@[expose] public section

set_option maxRecDepth 16384

noncomputable section

namespace Cert.Online

open Idealize.ShloMosaic

/-- The largest of the first `n` logits, `⊥` of none. -/
def sMax (s : ℕ → EReal) (n : ℕ) : EReal := (Finset.range n).sup s

/-- The first `n` weights' sum. -/
def sSum (s : ℕ → EReal) (n : ℕ) : EReal := ∑ j ∈ Finset.range n, Ideal.exp (s j - sMax s n)

/-- The first `n` values, weighted and summed. -/
def sAcc (s v : ℕ → EReal) (n : ℕ) : EReal := ∑ j ∈ Finset.range n, v j * Ideal.exp (s j - sMax s n)

theorem exp_nonneg (x : EReal) : 0 ≤ Ideal.exp x := by
  induction x using EReal.rec with
  | bot => simp
  | top => simp
  | coe r => rw [Ideal.exp_coe]; exact_mod_cast (Real.exp_pos r).le

/-- A weight is a real number when the reference point is one and the logit is not `⊤`. -/
theorem exp_ne_top {x : EReal} (h : x ≠ ⊤) : Ideal.exp x ≠ ⊤ := by
  induction x using EReal.rec with
  | bot => simp
  | top => exact absurd rfl h
  | coe r => rw [Ideal.exp_coe]; exact EReal.coe_ne_top _

/-- A nonnegative real distributes over a sum of extended reals. -/
theorem mul_sum {ι : Type*} (T : Finset ι) (f : ι → EReal) {a : EReal} (h0 : 0 ≤ a) (ht : a ≠ ⊤) :
    a * ∑ j ∈ T, f j = ∑ j ∈ T, a * f j := by
  classical
  induction T using Finset.induction_on with
  | empty => simp
  | insert x T hx ih =>
    rw [Finset.sum_insert hx, Finset.sum_insert hx, EReal.left_distrib_of_nonneg_of_ne_top h0 ht, ih]

/-- Moving one weight from the reference point `m` to the reference point `m'`. -/
theorem exp_shift {x m m' : EReal} (hx : x ≤ m) (hm : m ≠ ⊤) (h1 : m' ≠ ⊤) (h2 : m' ≠ ⊥) :
    Ideal.exp (m - m') * Ideal.exp (x - m) = Ideal.exp (x - m') := by
  lift m' to ℝ using ⟨h1, h2⟩
  induction m using EReal.rec with
  | top => exact absurd rfl hm
  | bot =>
    have : x = ⊥ := le_bot_iff.1 hx
    subst this
    simp
  | coe r =>
    induction x using EReal.rec with
    | top => exact absurd (top_le_iff.1 hx) (EReal.coe_ne_top r)
    | bot => simp
    | coe y =>
      rw [← EReal.coe_sub, ← EReal.coe_sub, ← EReal.coe_sub, Ideal.exp_coe, Ideal.exp_coe, Ideal.exp_coe,
        ← EReal.coe_mul, ← Real.exp_add]
      congr 2
      ring

/-- Rescaling a weighted sum from one reference point to another. -/
theorem rescale {ι : Type*} (T : Finset ι) (s v : ι → EReal) {m m' : EReal} (hx : ∀ j ∈ T, s j ≤ m) (hm : m ≠ ⊤)
    (h1 : m' ≠ ⊤) (h2 : m' ≠ ⊥) :
    Ideal.exp (m - m') * ∑ j ∈ T, v j * Ideal.exp (s j - m) = ∑ j ∈ T, v j * Ideal.exp (s j - m') := by
  have ht : m - m' ≠ ⊤ := by
    lift m' to ℝ using ⟨h1, h2⟩
    induction m using EReal.rec with
    | top => exact absurd rfl hm
    | bot => simp
    | coe r => rw [← EReal.coe_sub]; exact EReal.coe_ne_top _
  rw [mul_sum T _ (exp_nonneg _) (exp_ne_top ht)]
  refine Finset.sum_congr rfl fun j hj => ?_
  rw [mul_left_comm, exp_shift (hx j hj) hm h1 h2]

/-- A sum over the keys from `n` on, by the position inside the block. -/
theorem sum_range_block (f : ℕ → EReal) (n B : ℕ) :
    ∑ j ∈ Finset.range (n + B), f j = ∑ j ∈ Finset.range n, f j + ∑ j : Fin B, f (n + j) := by
  rw [Finset.sum_range_add, Fin.sum_univ_eq_sum_range (fun j => f (n + j))]

/-- The maximum fold of a block is the supremum of its logits. -/
theorem fold_max_eq_sup {ι : Type*} (T : Finset ι) (f : ι → EReal) : T.fold max ⊥ f = T.sup f := rfl

theorem sMax_block (s : ℕ → EReal) (n B : ℕ) :
    sMax s (n + B) = max (sMax s n) ((Finset.univ : Finset (Fin B)).fold max ⊥ fun j : Fin B => s (n + j)) := by
  rw [fold_max_eq_sup]
  apply le_antisymm
  · refine Finset.sup_le fun j hj => ?_
    have hj := Finset.mem_range.1 hj
    by_cases h : j < n
    · exact le_trans (Finset.le_sup (f := s) (Finset.mem_range.2 h)) (le_max_left _ _)
    · refine le_trans ?_ (le_max_right _ _)
      have := Finset.le_sup (f := fun j : Fin B => s (n + j)) (Finset.mem_univ (⟨j - n, by omega⟩ : Fin B))
      simpa [show n + (j - n) = j by omega] using this
  · refine max_le ?_ ?_
    · exact Finset.sup_mono fun j hj => Finset.mem_range.2 (by have := Finset.mem_range.1 hj; omega)
    · exact Finset.sup_le fun j _ => Finset.le_sup (f := s) (Finset.mem_range.2 (by have := j.isLt; omega))

variable {s : ℕ → EReal}

theorem sMax_ne_top (hs : ∀ j, s j ≠ ⊤) (n : ℕ) : sMax s n ≠ ⊤ :=
  ((Finset.sup_lt_iff (by simp)).2 fun j _ => lt_top_iff_ne_top.2 (hs j)).ne

theorem sMax_ne_bot (h0 : s 0 ≠ ⊥) {n : ℕ} (hn : 0 < n) : sMax s n ≠ ⊥ := fun h =>
  h0 (le_bot_iff.1 (h ▸ Finset.le_sup (f := s) (Finset.mem_range.2 hn)))

theorem le_sMax (s : ℕ → EReal) (n : ℕ) : ∀ j ∈ Finset.range n, s j ≤ sMax s n := fun _ hj => Finset.le_sup hj

theorem sSum_eq (s : ℕ → EReal) (n : ℕ) : sSum s n = sAcc s (fun _ => 1) n := by simp [sSum, sAcc]

/-- A block's step of the weighted sum. -/
theorem sAcc_block (hs : ∀ j, s j ≠ ⊤) (h0 : s 0 ≠ ⊥) (v : ℕ → EReal) (n : ℕ) {B : ℕ} (hB : 0 < B) :
    sAcc s v (n + B) = Ideal.exp (sMax s n - sMax s (n + B)) * sAcc s v n
      + ∑ j : Fin B, v (n + j) * Ideal.exp (s (n + j) - sMax s (n + B)) := by
  rw [sAcc, sAcc, rescale _ s v (le_sMax s n) (sMax_ne_top hs n) (sMax_ne_top hs _) (sMax_ne_bot h0 (by omega)),
    sum_range_block (fun j => v j * Ideal.exp (s j - sMax s (n + B)))]

/-- A block's step of the normaliser. -/
theorem sSum_block (hs : ∀ j, s j ≠ ⊤) (h0 : s 0 ≠ ⊥) (n : ℕ) {B : ℕ} (hB : 0 < B) :
    sSum s (n + B) = Ideal.exp (sMax s n - sMax s (n + B)) * sSum s n
      + ∑ j : Fin B, Ideal.exp (s (n + j) - sMax s (n + B)) := by
  rw [sSum_eq, sSum_eq, sAcc_block hs h0 _ n hB]
  simp

@[simp] theorem sMax_zero (s : ℕ → EReal) : sMax s 0 = ⊥ := by simp [sMax]
@[simp] theorem sSum_zero (s : ℕ → EReal) : sSum s 0 = 0 := by simp [sSum]
@[simp] theorem sAcc_zero (s v : ℕ → EReal) : sAcc s v 0 = 0 := by simp [sAcc]

/-- The normaliser of at least one key is a positive real number. -/
theorem sSum_pos (hs : ∀ j, s j ≠ ⊤) (h0 : s 0 ≠ ⊥) {n : ℕ} (hn : 0 < n) : ∃ r : ℝ, 0 < r ∧ sSum s n = (r : EReal) := by
  have h1 := sMax_ne_top hs n
  have h2 := sMax_ne_bot h0 hn
  generalize hm : sMax s n = m at h1 h2
  lift m to ℝ using ⟨h1, h2⟩
  have hne : ∀ j, Ideal.exp (s j - (m : EReal)) ≠ ⊤ := fun j => exp_ne_top (by
    have := hs j
    generalize s j = x at this
    induction x using EReal.rec with
    | top => exact absurd rfl this
    | bot => simp
    | coe r => rw [← EReal.coe_sub]; exact EReal.coe_ne_top _)
  have hsum : ∀ T : Finset ℕ, ∑ j ∈ T, Ideal.exp (s j - (m : EReal)) ≠ ⊤ := fun T => by
    classical
    induction T using Finset.induction_on with
    | empty => simp
    | insert x T hx ih => rw [Finset.sum_insert hx]; exact EReal.add_ne_top (hne x) ih
  have hpos : 0 < Ideal.exp (s 0 - (m : EReal)) := by
    have := hs 0
    generalize s 0 = x at this h0
    induction x using EReal.rec with
    | top => exact absurd rfl this
    | bot => exact absurd rfl h0
    | coe r => rw [← EReal.coe_sub, Ideal.exp_coe]; exact_mod_cast Real.exp_pos _
  have hS : 0 < sSum s n := by
    rw [sSum, hm]
    exact lt_of_lt_of_le hpos (Finset.single_le_sum (f := fun j => Ideal.exp (s j - (m : EReal)))
      (fun j _ => exp_nonneg _) (Finset.mem_range.2 hn))
  have hT : sSum s n ≠ ⊤ := by rw [sSum, hm]; exact hsum _
  generalize sSum s n = S at hS hT
  lift S to ℝ using ⟨hT, (lt_of_le_of_lt bot_le hS).ne'⟩
  exact ⟨S, by exact_mod_cast hS, rfl⟩

/-- Keys masked from `n` on change nothing. -/
theorem sMax_masked {n N : ℕ} (hN : n ≤ N) (hmask : ∀ j, n ≤ j → s j = ⊥) : sMax s N = sMax s n := by
  apply le_antisymm
  · refine Finset.sup_le fun j _ => ?_
    by_cases h : j < n
    · exact Finset.le_sup (Finset.mem_range.2 h)
    · rw [hmask j (by omega)]; exact bot_le
  · exact Finset.sup_mono fun j hj => Finset.mem_range.2 (by have := Finset.mem_range.1 hj; omega)

theorem sAcc_masked (v : ℕ → EReal) {n N : ℕ} (hN : n ≤ N) (hmask : ∀ j, n ≤ j → s j = ⊥) :
    sAcc s v N = sAcc s v n := by
  obtain ⟨B, rfl⟩ := Nat.exists_eq_add_of_le hN
  rw [sAcc, sMax_masked hN hmask, sum_range_block (fun j => v j * Ideal.exp (s j - sMax s n))]
  rw [sAcc, Finset.sum_eq_zero (s := (Finset.univ : Finset (Fin B))), add_zero]
  intro j _
  rw [hmask _ (by omega), EReal.bot_sub, Ideal.exp_bot, mul_zero]

theorem sSum_masked {n N : ℕ} (hN : n ≤ N) (hmask : ∀ j, n ≤ j → s j = ⊥) : sSum s N = sSum s n := by
  rw [sSum_eq, sSum_eq, sAcc_masked _ hN hmask]

/-- The quotient after the last block is the softmax of all `N` keys applied to the values. -/
theorem quotient (hs : ∀ j, s j ≠ ⊤) (h0 : s 0 ≠ ⊥) (v : ℕ → EReal) {n N : ℕ} (hn : 0 < n) (hN : n ≤ N)
    (hmask : ∀ j, n ≤ j → s j = ⊥) :
    Ideal.div (sAcc s v n) (sSum s n)
      = ∑ k : Fin N, v k * Ideal.div (Ideal.exp (s k - sMax s N)) (sSum s N) := by
  rw [sSum_masked hN hmask, ← sAcc_masked v hN hmask]
  obtain ⟨r, hr, hS⟩ := sSum_pos hs h0 hn
  rw [hS, Ideal.div_coe hr.ne']
  rw [sAcc, mul_comm, mul_sum _ _ (by exact_mod_cast (one_div_pos.2 hr).le) (EReal.coe_ne_top _),
    Fin.sum_univ_eq_sum_range (fun k => v k * Ideal.div (Ideal.exp (s k - sMax s N)) (r : EReal))]
  refine Finset.sum_congr rfl fun j _ => ?_
  rw [Ideal.div_coe hr.ne', mul_comm, mul_assoc]

end Cert.Online

end
-- ==== Proof.Heads.lean ====
/- One head's block of the attention, as vectors.

   For one head: its query rows, a block of 256 key rows, the queries' row of forget sums and the keys' column of
   them, and the block of values. `score` is the block's logits with the keys down and the queries across;
   `newM`, `newL` and `newA` are what the block leaves in the running maximum, normaliser and weighted sum; `out`
   is the quotient, turned to the layout of the result. Each is then read at an index. -/
module

public import proofs.«01_k».proof.Proof.Gen.KernelIdeal.Skeleton
public import proofs.«01_k».proof.Proof.Online
public import Idealize.ShloMosaic.Lib.Pointwise
public import Idealize.ShloMosaic.Lib.WordCmp

@[expose] public section

set_option maxRecDepth 16384

noncomputable section

namespace Cert.Heads

open Idealize.ShloMosaic Idealize.ShloMosaic.TcCoe Idealize.ShloMosaic.Tactic
open Cert.KernelIdeal Cert.KernelIdeal.Gen Cert.KernelIdeal.Facts

variable {F : FTy → Type} [FloatOps F]

/-- The block's logits: scaled products of key and query rows, plus the difference of the forget sums. -/
def score (q kb : FVec F S256x128 .bf16) (cq : FVec F S1x256 .f32) (col : FVec F S256x1 .f32) : FVec F S256x256 .f32 :=
  addf (mulf (matmul dot_S256x128_S256x128_S256x256_1_1_0_0_n_n none kb q (constant S256x256 .f32 0x00000000#32))
      (broadcast S256x256 (Scalar.ofBits .f32 0x3DB504F3#32)))
    (subf (broadcastTo S256x256 cq broadcasts_S1x256_S256x256) (broadcastTo S256x256 col broadcasts_S256x1_S256x256))

/-- The mask of the diagonal block: a key later than the query has the logit minus infinity. -/
def masked (x : FVec F S256x256 .f32) : FVec F S256x256 .f32 :=
  select (cmpi .sgt (iota .tc S256x256 32 [0] iota_S256x256_d0_w32) (iota .tc S256x256 32 [1] iota_S256x256_d1_w32))
    (broadcast S256x256 (Scalar.ofBits .f32 0xFF800000#32)) x

/-- The running maximum after the block, as a row. -/
def rowM (x : FVec F S256x256 .f32) (m : Vec F S1x1x256 .f32) : FVec F S1x256 .f32 :=
  maximumf (shapeCast S1x256 m shapeCasts_S1x1x256_S1x256)
    (shapeCast S1x256 (multiReduction .maximumf [0] S256 x 0xFF800000#32 reduces_S256x256_S256 (.inl rfl) rfl) shapeCasts_S256_S1x256)

/-- The factor that moves the earlier blocks' sums to the new maximum. -/
def alpha (x : FVec F S256x256 .f32) (m : Vec F S1x1x256 .f32) : FVec F S1x256 .f32 :=
  exp (subf (shapeCast S1x256 m shapeCasts_S1x1x256_S1x256) (rowM x m))

/-- The block's weights. -/
def weight (x : FVec F S256x256 .f32) (m : Vec F S1x1x256 .f32) : FVec F S256x256 .f32 :=
  exp (subf x (broadcastTo S256x256 (rowM x m) broadcasts_S1x256_S256x256))

/-- The running maximum the block leaves. -/
def newM (x : FVec F S256x256 .f32) (m : Vec F S1x1x256 .f32) : Vec F S1x1x256 .f32 :=
  shapeCast S1x1x256 (rowM x m) shapeCasts_S1x256_S1x1x256

/-- The normaliser the block leaves. -/
def newL (x : FVec F S256x256 .f32) (m l : Vec F S1x1x256 .f32) : Vec F S1x1x256 .f32 :=
  shapeCast S1x1x256
    (addf (mulf (alpha x m) (shapeCast S1x256 l shapeCasts_S1x1x256_S1x256))
      (shapeCast S1x256 (multiReduction .add [0] S256 (weight x m) 0x00000000#32 reduces_S256x256_S256 (.inl rfl) rfl) shapeCasts_S256_S1x256))
    shapeCasts_S1x256_S1x1x256

/-- The weighted sum the block leaves. -/
def newA (x : FVec F S256x256 .f32) (m : Vec F S1x1x256 .f32) (v : Vec F S1x1x128x256 .bf16) (a : Vec F S1x128x256 .f32) :
    Vec F S1x128x256 .f32 :=
  shapeCast S1x128x256
    (addf (mulf (broadcastTo S128x256 (alpha x m) broadcasts_S1x256_S128x256) (shapeCast S128x256 a shapeCasts_S1x128x256_S128x256))
      (matmul dot_S128x256_S256x256_S128x256_1_0_0_1_n_n none (shapeCast S128x256 v shapeCasts_S1x1x128x256_S128x256)
        (truncf .bf16 (weight x m) bitsLt_bf16_f32) (constant S128x256 .f32 0x00000000#32)))
    shapeCasts_S128x256_S1x128x256

/-- The head's columns of the result. -/
def out (a : Vec F S1x128x256 .f32) (l : Vec F S1x1x256 .f32) : FVec F S256x128 .bf16 :=
  truncf .bf16 (transpose S256x128 [1, 0]
    (divf (shapeCast S128x256 a shapeCasts_S1x128x256_S128x256)
      (broadcastTo S128x256 (shapeCast S1x256 l shapeCasts_S1x1x256_S1x256) broadcasts_S1x256_S128x256))
    transposes_S128x256_p1_0_S256x128) bitsLt_bf16_f32

/-- The word of minus infinity. -/
theorem ofBits_negInf : Ideal.ofBits .f32 0xFF800000#32 = ⊥ := by simp [Ideal.ofBits, Ideal.ieee]

theorem score_apply (q kb : FVec Ideal S256x128 .bf16) (cq : FVec Ideal S1x256 .f32) (col : FVec Ideal S256x1 .f32) (j r : Fin 256) :
    score (F := Ideal) q kb cq col (ix2 j r)
      = (∑ d : Fin 128, kb (ix2 j d) * q (ix2 r d)) * Ideal.ofBits .f32 0x3DB504F3#32 + (cq (ix2 0 r) - col (ix2 j 0)) := by
  pointwise [score]

theorem masked_apply (x : FVec Ideal S256x256 .f32) (j r : Fin 256) :
    masked (F := Ideal) x (ix2 j r) = if r.val < j.val then ⊥ else x (ix2 j r) := by
  pointwise [masked]
  rw [WordCmp.cmpi_sgt_ofNat (by have := j.isLt; omega) (by have := r.isLt; omega), ofBits_negInf]
  by_cases h : r.val < j.val <;> simp [Scalar.select, h]

theorem rowM_apply (x : FVec Ideal S256x256 .f32) (m : Vec Ideal S1x1x256 .f32) (r : Fin 256) :
    rowM (F := Ideal) x m (ix2 0 r) = max (m (ix3 0 0 r)) ((Finset.univ : Finset (Fin 256)).fold max ⊥ fun j => x (ix2 j r)) := by
  pointwise [rowM]
  rw [ofBits_negInf]

theorem newM_apply (x : FVec Ideal S256x256 .f32) (m : Vec Ideal S1x1x256 .f32) (r : Fin 256) :
    newM (F := Ideal) x m (ix3 0 0 r) = rowM (F := Ideal) x m (ix2 0 r) := by
  pointwise [newM]

theorem newL_apply (x : FVec Ideal S256x256 .f32) (m l : Vec Ideal S1x1x256 .f32) (r : Fin 256) :
    newL (F := Ideal) x m l (ix3 0 0 r)
      = Ideal.exp (m (ix3 0 0 r) - rowM (F := Ideal) x m (ix2 0 r)) * l (ix3 0 0 r)
        + ∑ j : Fin 256, Ideal.exp (x (ix2 j r) - rowM (F := Ideal) x m (ix2 0 r)) := by
  pointwise [newL, alpha, weight]

theorem newA_apply (x : FVec Ideal S256x256 .f32) (m : Vec Ideal S1x1x256 .f32) (v : Vec Ideal S1x1x128x256 .bf16) (a : Vec Ideal S1x128x256 .f32) (d : Fin 128) (r : Fin 256) :
    newA (F := Ideal) x m v a (ix3 0 d r)
      = Ideal.exp (m (ix3 0 0 r) - rowM (F := Ideal) x m (ix2 0 r)) * a (ix3 0 d r)
        + ∑ j : Fin 256, v (ix4 0 0 d j) * Ideal.exp (x (ix2 j r) - rowM (F := Ideal) x m (ix2 0 r)) := by
  pointwise [newA, alpha, weight]

theorem out_apply (a : Vec Ideal S1x128x256 .f32) (l : Vec Ideal S1x1x256 .f32) (r : Fin 256) (d : Fin 128) :
    out (F := Ideal) a l (ix2 r d) = Ideal.div (a (ix3 0 d r)) (l (ix3 0 0 r)) := by
  pointwise [out]

end Cert.Heads

end
-- ==== Proof.HeadBoxes.lean ====
/- Eight heads in one buffer.

   A buffer holds the eight heads one after another on its first axis, and each store and load is one head's box.
   `Mix k G' G` is the contents in which the heads below `k` already hold `G'` and the others still hold `G`: a
   store of head `k`'s part of `G'` takes `Mix k` to `Mix (k+1)`, and a load of head `k` before it reads `G`. -/
module

public import Idealize.ShloMosaic.Lib.Pipeline.FrameBody
public import Idealize.ShloMosaic.Lib.Pointwise

@[expose] public section

set_option maxRecDepth 16384

noncomputable section

namespace Cert.HeadBoxes

open Idealize.ShloMosaic

variable {Val : EltTy → Type} {e : EltTy} {A : ℕ}

/-- The buffer of all heads, and one head's box. -/
abbrev All (A : ℕ) : Shape := ⟨3, ![8, A, 256]⟩
abbrev One (A : ℕ) : Shape := ⟨3, ![1, A, 256]⟩

theorem inb (A : ℕ) {h : ℕ} (hh : h < 8) : ∀ a, (![h, 0, 0] : Fin 3 → ℕ) a + (One A).size a ≤ (All A).size a := by
  intro a
  fin_cases a
  · show h + 1 ≤ 8
    omega
  · show 0 + A ≤ A
    omega
  · show 0 + 256 ≤ 256
    omega

/-- Head `h`'s part of the whole contents. -/
def part (G : (All A).Idx → Val e) (h : Fin 8) : (One A).Idx → Val e := fun x => G (ix3 h (x 1) (x 2))

/-- The heads below `k` hold `G'`, the others `G`. -/
def Mix (k : ℕ) (G' G : (All A).Idx → Val e) : (All A).Idx → Val e := fun y => if (y 0).val < k then G' y else G y

theorem idx_box {h : ℕ} (hh : h < 8) (b : ∀ a, (![h, 0, 0] : Fin 3 → ℕ) a + (One A).size a ≤ (All A).size a) (x : (One A).Idx) :
    (Rect.unit (s := All A) ![h, 0, 0] (One A).size b).toLoadRect.idx x = ix3 (n0 := 8) (n1 := A) (n2 := 256) ⟨h, hh⟩ (x 1) (x 2) := by
  funext a
  apply Fin.ext
  have h0 : (x 0).val = 0 := by have := (x 0).isLt; simp at this; omega
  fin_cases a
  · show h + 1 * (x 0).val = h
    omega
  · show 0 + 1 * (x 1).val = (x 1).val
    omega
  · show 0 + 1 * (x 2).val = (x 2).val
    omega

theorem mem_box {h : ℕ} (hh : h < 8) (b : ∀ a, (![h, 0, 0] : Fin 3 → ℕ) a + (One A).size a ≤ (All A).size a) (y : (All A).Idx) :
    y ∈ (Rect.unit (s := All A) ![h, 0, 0] (One A).size b).set ↔ (y 0).val = h := by
  constructor
  · intro hy
    obtain ⟨x, rfl⟩ := LoadRect.exists_idx_of_mem _ hy
    rw [idx_box hh]
    rfl
  · intro hy
    have : y = (Rect.unit (s := All A) ![h, 0, 0] (One A).size b).toLoadRect.idx (ix3 (n0 := 1) (n1 := A) (n2 := 256) 0 (y 1) (y 2)) := by
      rw [idx_box hh]
      funext a
      apply Fin.ext
      fin_cases a
      · exact hy
      · rfl
      · rfl
    rw [this]
    exact LoadRect.idx_mem _ _

variable [∀ e, Nonempty (Val e)]

/-- A store of head `k`'s part. -/
theorem canon_cons_part {k : ℕ} (hk : k < 8) (b : ∀ a, (![k, 0, 0] : Fin 3 → ℕ) a + (One A).size a ≤ (All A).size a)
    (w : (One A).Idx → Val e) (L : List (View.Piece Val (All A) e)) {G' G : (All A).Idx → Val e} (hL : View.canon L = Mix k G' G)
    (hw : w = part G' ⟨k, hk⟩) :
    View.canon (⟨Rect.unit (s := All A) ![k, 0, 0] (One A).size b, w⟩ :: L) = Mix (k + 1) G' G := by
  subst hw
  funext y
  by_cases hy : (y 0).val = k
  · have hm := (mem_box hk b y).2 hy
    obtain ⟨x, rfl⟩ := LoadRect.exists_idx_of_mem _ hm
    refine Eq.trans (View.canon_cons_emb (Rect.unit (s := All A) ![k, 0, 0] (One A).size b) _ L x) ?_
    rw [Mix, if_pos (by omega), idx_box hk]
    rfl
  · have hn : y ∉ (Rect.unit (s := All A) ![k, 0, 0] (One A).size b).set := fun hm => hy ((mem_box hk b y).1 hm)
    refine (View.canon_cons_of_not_mem ⟨Rect.unit (s := All A) ![k, 0, 0] (One A).size b, part G' ⟨k, hk⟩⟩ L hn).trans ?_
    rw [hL, Mix, Mix]
    by_cases h : (y 0).val < k
    · rw [if_pos h, if_pos (by omega)]
    · rw [if_neg h, if_neg (by omega)]

/-- A load of head `k` before its store. -/
theorem load_part {k : ℕ} (hk : k < 8) (b : ∀ a, (![k, 0, 0] : Fin 3 → ℕ) a + (One A).size a ≤ (All A).size a)
    (G' G : (All A).Idx → Val e) :
    (fun x => Mix k G' G ((Rect.unit (s := All A) ![k, 0, 0] (One A).size b).toLoadRect.idx x)) = part G ⟨k, hk⟩ := by
  funext x
  show Mix k G' G ((Rect.unit (s := All A) ![k, 0, 0] (One A).size b).toLoadRect.idx x) = _
  rw [idx_box hk, Mix, if_neg (by simp)]
  rfl

/-- A load of head `k` of whole contents. -/
theorem load_whole {k : ℕ} (hk : k < 8) (b : ∀ a, (![k, 0, 0] : Fin 3 → ℕ) a + (One A).size a ≤ (All A).size a)
    (G : (All A).Idx → Val e) :
    (fun x => G ((Rect.unit (s := All A) ![k, 0, 0] (One A).size b).toLoadRect.idx x)) = part G ⟨k, hk⟩ := by
  funext x
  show G ((Rect.unit (s := All A) ![k, 0, 0] (One A).size b).toLoadRect.idx x) = _
  rw [idx_box hk]
  rfl

theorem mix_zero (G' G : (All A).Idx → Val e) : Mix 0 G' G = G := by
  funext y; rw [Mix, if_neg (by omega)]

theorem mix_eight (G' G : (All A).Idx → Val e) : Mix 8 G' G = G' := by
  funext y; rw [Mix, if_pos (show (y 0).val < 8 from (y 0).isLt)]

/-- The eight heads' parts, stored in turn over anything, are the whole. -/
theorem canon_parts (G : (All A).Idx → Val e) (w : Fin 8 → (One A).Idx → Val e) (hw : ∀ h, w h = part G h)
    (b0 b1 b2 b3 b4 b5 b6 b7) (L : List (View.Piece Val (All A) e)) :
    View.canon (⟨Rect.unit (s := All A) ![7, 0, 0] (One A).size b7, w 7⟩ :: ⟨Rect.unit (s := All A) ![6, 0, 0] (One A).size b6, w 6⟩
      :: ⟨Rect.unit (s := All A) ![5, 0, 0] (One A).size b5, w 5⟩ :: ⟨Rect.unit (s := All A) ![4, 0, 0] (One A).size b4, w 4⟩
      :: ⟨Rect.unit (s := All A) ![3, 0, 0] (One A).size b3, w 3⟩ :: ⟨Rect.unit (s := All A) ![2, 0, 0] (One A).size b2, w 2⟩
      :: ⟨Rect.unit (s := All A) ![1, 0, 0] (One A).size b1, w 1⟩ :: ⟨Rect.unit (s := All A) ![0, 0, 0] (One A).size b0, w 0⟩ :: L) = G := by
  have h0 := canon_cons_part (by omega) b0 (w 0) L (mix_zero G (View.canon L)).symm (hw 0)
  have h1 := canon_cons_part (by omega) b1 (w 1) _ h0 (hw 1)
  have h2 := canon_cons_part (by omega) b2 (w 2) _ h1 (hw 2)
  have h3 := canon_cons_part (by omega) b3 (w 3) _ h2 (hw 3)
  have h4 := canon_cons_part (by omega) b4 (w 4) _ h3 (hw 4)
  have h5 := canon_cons_part (by omega) b5 (w 5) _ h4 (hw 5)
  have h6 := canon_cons_part (by omega) b6 (w 6) _ h5 (hw 6)
  have h7 := canon_cons_part (by omega) b7 (w 7) _ h6 (hw 7)
  rw [h7, mix_eight]

end Cert.HeadBoxes

end
-- ==== Proof.State.lean ====
/- What the three scratch buffers hold.

   `stM`, `stL` and `stA` are the running maxima, normalisers and weighted sums of all eight heads and 256 queries
   after the first `n` keys, for given logits and values. A head's block of 256 keys takes that head's part of
   each from `n` to `n + 256`. -/
module

public import proofs.«01_k».proof.Proof.Heads
public import proofs.«01_k».proof.Proof.HeadBoxes

@[expose] public section

set_option maxRecDepth 16384

noncomputable section

namespace Cert.State

open Idealize.ShloMosaic
open Cert.HeadBoxes Cert.Heads Cert.Online Cert.KernelIdeal

/-- Logits by head, query and key; values by head, column and key. -/
abbrev Logits := Fin 8 → Fin 256 → ℕ → EReal
abbrev Values := Fin 8 → Fin 128 → ℕ → EReal

def stM (lg : Logits) (n : ℕ) : (All 1).Idx → Elt Ideal .f32 := fun y => sMax (lg (y 0) (y 2)) n
def stL (lg : Logits) (n : ℕ) : (All 1).Idx → Elt Ideal .f32 := fun y => sSum (lg (y 0) (y 2)) n
def stA (lg : Logits) (vs : Values) (n : ℕ) : (All 128).Idx → Elt Ideal .f32 := fun y => sAcc (lg (y 0) (y 2)) (vs (y 0) (y 1)) n

/-- No logit is plus infinity, and the first key's is a real number. -/
def Real (lg : Logits) : Prop := ∀ h r, (∀ j, lg h r j ≠ ⊤) ∧ lg h r 0 ≠ ⊥

variable {lg : Logits} {vs : Values} {n : ℕ} {h : Fin 8} {X : FVec Ideal S256x256 .f32} {V : Vec Ideal S1x1x128x256 .bf16}

theorem rowM_part (hX : ∀ j r : Fin 256, X (ix2 j r) = lg h r (n + j)) (r : Fin 256) :
    rowM (F := Ideal) X (part (stM lg n) h) (ix2 0 r) = sMax (lg h r) (n + 256) := by
  rw [rowM_apply, sMax_block]
  simp only [hX]
  rfl

theorem newM_part (hX : ∀ j r : Fin 256, X (ix2 j r) = lg h r (n + j)) :
    newM (F := Ideal) X (part (stM lg n) h) = part (stM lg (n + 256)) h := by
  funext x
  obtain ⟨a, b, r, rfl⟩ : ∃ a b r, x = ix3 a b r := ⟨x 0, x 1, x 2, eq_ix3 x⟩
  obtain rfl : a = 0 := Subsingleton.elim _ _
  obtain rfl : b = 0 := Subsingleton.elim _ _
  rw [newM_apply, rowM_part hX]
  rfl

theorem newL_part (hR : Real lg) (hX : ∀ j r : Fin 256, X (ix2 j r) = lg h r (n + j)) :
    newL (F := Ideal) X (part (stM lg n) h) (part (stL lg n) h) = part (stL lg (n + 256)) h := by
  funext x
  obtain ⟨a, b, r, rfl⟩ : ∃ a b r, x = ix3 a b r := ⟨x 0, x 1, x 2, eq_ix3 x⟩
  obtain rfl : a = 0 := Subsingleton.elim _ _
  obtain rfl : b = 0 := Subsingleton.elim _ _
  rw [newL_apply, rowM_part hX]
  simp only [hX]
  exact (sSum_block (hR h r).1 (hR h r).2 n (by omega)).symm

theorem newA_part (hR : Real lg) (hX : ∀ j r : Fin 256, X (ix2 j r) = lg h r (n + j))
    (hV : ∀ (d : Fin 128) (j : Fin 256), V (ix4 0 0 d j) = vs h d (n + j)) :
    newA (F := Ideal) X (part (stM lg n) h) V (part (stA lg vs n) h) = part (stA lg vs (n + 256)) h := by
  funext x
  obtain ⟨a, d, r, rfl⟩ : ∃ a b r, x = ix3 a b r := ⟨x 0, x 1, x 2, eq_ix3 x⟩
  obtain rfl : a = 0 := Subsingleton.elim _ _
  rw [newA_apply, rowM_part hX]
  simp only [hX, hV]
  exact (sAcc_block (hR h r).1 (hR h r).2 (vs h d) n (by omega)).symm

end Cert.State

end
-- ==== Proof.Trip.lean ====
/- One trip of the loop over the key blocks before the diagonal.

   A trip handles one block of 256 keys for all eight heads: it reads the three scratch buffers as the trip before
   left them and stores, head by head, what the block leaves. -/
module

public import proofs.«01_k».proof.Proof.Gen.KernelIdeal.Value
public import proofs.«01_k».proof.Proof.State

@[expose] public section

set_option maxRecDepth 16384

noncomputable section

namespace Cert.Trip

open Idealize.ShloMosaic Idealize.ShloMosaic.TcCoe Idealize.ShloMosaic.Tactic
open Cert.KernelIdeal Cert.KernelIdeal.Gen Cert.KernelIdeal.Facts Cert.HeadBoxes Cert.Heads Cert.State

variable {F : FTy → Type} [FloatOps F]

/-- The buffers a grid point works on: five input blocks, the output block and the three scratch buffers. -/
structure Bufs where
  a3 : Memref sig .tc .vmem S256x1024 .bf16
  h3 : a3.IsWhole
  a4 : Memref sig .tc .vmem S2048x1024 .bf16
  h4 : a4.IsWhole
  a5 : Memref sig .tc .vmem S1x8x1024x256 .bf16
  h5 : a5.IsWhole
  a6 : Memref sig .tc .vmem S1x8x1x256 .f32
  h6 : a6.IsWhole
  a7 : Memref sig .tc .vmem S2048x128 .f32
  h7 : a7.IsWhole
  a8 : Memref sig .tc .vmem S256x1024 .bf16
  h8 : a8.IsWhole
  a9 : Memref sig .tc .vmem S8x1x256 .f32
  h9 : a9.IsWhole
  a10 : Memref sig .tc .vmem S8x1x256 .f32
  h10 : a10.IsWhole
  a11 : Memref sig .tc .vmem S8x128x256 .f32
  h11 : a11.IsWhole

variable (B : Bufs) (c : Dev nD) (i : grid0.Coords) (q : Fin 8 → Vec F S256x128 .bf16) (cq : Fin 8 → FVec F S1x256 .f32)
  (X4 : BufTy.Contents (Elt F) B.a4.view.ty) (X5 : BufTy.Contents (Elt F) B.a5.view.ty) (X7 : BufTy.Contents (Elt F) B.a7.view.ty)

/-- The trip with the heads' query rows and forget sums given head by head. -/
abbrev trip (a b d e : BitVec 32) (k : Fin (k0_t1_loop i).trips) :=
  trip_k0_t1 (F := F) Variants.none c none i B.a3 B.h3 B.a4 B.h4 B.a5 B.h5 B.a6 B.h6 B.a7 B.h7 B.a8 B.h8 B.a9 B.h9 B.a10 B.h10 B.a11 B.h11
    a (q 0) (q 1) (q 2) (q 3) (q 4) (q 5) (q 6) (q 7) (cq 0) (cq 1) (cq 2) (cq 3) (cq 4) (cq 5) (cq 6) (cq 7) b d e X4 X5 X7 k

/-- Where head `h`'s key rows and its block of values lie. -/
def kOff (k : Fin (k0_t1_loop i).trips) : Fin 8 → Fin 2 → ℕ :=
  ![k0_off1 i k, k0_off2 i k, k0_off3 i k, k0_off4 i k, k0_off5 i k, k0_off6 i k, k0_off7 i k, k0_off8 i k]
def vOff (k : Fin (k0_t1_loop i).trips) : Fin 8 → Fin 4 → ℕ :=
  ![k0_off10 i k, k0_off11 i k, k0_off12 i k, k0_off13 i k, k0_off14 i k, k0_off15 i k, k0_off16 i k, k0_off17 i k]

theorem kOff_eq (k : Fin (k0_t1_loop i).trips) (h : Fin 8) : kOff i k h = ![256 * k.val, 128 * h.val] := by
  fin_cases h
  · exact k0_off1_eq i k
  · exact k0_off2_eq i k
  · exact k0_off3_eq i k
  · exact k0_off4_eq i k
  · exact k0_off5_eq i k
  · exact k0_off6_eq i k
  · exact k0_off7_eq i k
  · exact k0_off8_eq i k

theorem vOff_eq (k : Fin (k0_t1_loop i).trips) (h : Fin 8) : vOff i k h = ![0, k.val, 128 * h.val, 0] := by
  fin_cases h
  · exact k0_off10_eq i k
  · exact k0_off11_eq i k
  · exact k0_off12_eq i k
  · exact k0_off13_eq i k
  · exact k0_off14_eq i k
  · exact k0_off15_eq i k
  · exact k0_off16_eq i k
  · exact k0_off17_eq i k

theorem trips_le (k : Fin (k0_t1_loop i).trips) : k.val < 7 := Nat.lt_of_lt_of_le k.isLt (k0_t1_abs i).2.1

theorem kOff_inb (k : Fin (k0_t1_loop i).trips) (h : Fin 8) : ∀ a, kOff i k h a + S256x128.size a ≤ S2048x1024.size a := by
  have hk := trips_le i k
  have hh := h.isLt
  rw [kOff_eq]
  intro a
  fin_cases a
  · show 256 * k.val + 256 ≤ 2048
    omega
  · show 128 * h.val + 128 ≤ 1024
    omega

theorem vOff_inb (k : Fin (k0_t1_loop i).trips) (h : Fin 8) : ∀ a, vOff i k h a + S1x1x128x256.size a ≤ S1x8x1024x256.size a := by
  have hk := trips_le i k
  have hh := h.isLt
  rw [vOff_eq]
  intro a
  fin_cases a
  · show 0 + 1 ≤ 1
    omega
  · show k.val + 1 ≤ 8
    omega
  · show 128 * h.val + 128 ≤ 1024
    omega
  · show 0 + 256 ≤ 256
    omega

/-- The column of forget sums of each head, out of a block of rows of them. -/
def cols (ck : Vec F S256x128 .f32) : Fin 8 → FVec F S256x1 .f32 :=
  ![extractStridedSlice S256x1 ![0, 0] ck slices_S256x128_o0_0_S256x1, extractStridedSlice S256x1 ![0, 1] ck slices_S256x128_o0_1_S256x1,
    extractStridedSlice S256x1 ![0, 2] ck slices_S256x128_o0_2_S256x1, extractStridedSlice S256x1 ![0, 3] ck slices_S256x128_o0_3_S256x1,
    extractStridedSlice S256x1 ![0, 4] ck slices_S256x128_o0_4_S256x1, extractStridedSlice S256x1 ![0, 5] ck slices_S256x128_o0_5_S256x1,
    extractStridedSlice S256x1 ![0, 6] ck slices_S256x128_o0_6_S256x1, extractStridedSlice S256x1 ![0, 7] ck slices_S256x128_o0_7_S256x1]

theorem cols_apply (ck : Vec F S256x128 .f32) (h : Fin 8) (j : Fin 256) :
    cols ck h (ix2 j 0) = ck (ix2 j (Fin.castLE (by omega) h)) := by
  fin_cases h <;> (unfold cols; pointwise; rfl)

/-- The trip's logits, values and loaded scratch, head by head. -/
def tX (k : Fin (k0_t1_loop i).trips) (h : Fin 8) : FVec F S256x256 .f32 :=
  score (q h) (View.readAt (Elt F) B.a4.view (Rect.unit (s := S2048x1024) (kOff i k h) S256x128.size (kOff_inb i k h)).toLoadRect X4) (cq h)
    (cols (View.readAt (Elt F) B.a7.view (Rect.unit (s := S2048x128) (k0_off9 i k) S256x128.size (k0_off9_inb i k)).toLoadRect X7) h)
def tV (k : Fin (k0_t1_loop i).trips) (h : Fin 8) : Vec F S1x1x128x256 .bf16 :=
  View.readAt (Elt F) B.a5.view (Rect.unit (s := S1x8x1024x256) (vOff i k h) S1x1x128x256.size (vOff_inb i k h)).toLoadRect X5
def ldM (f : BufTy.Contents (Elt F) B.a9.view.ty) (h : Fin 8) : Vec F S1x1x256 .f32 :=
  View.readAt (Elt F) B.a9.view (Rect.unit (s := All 1) ![h.val, 0, 0] (One 1).size (inb 1 h.isLt)).toLoadRect f
def ldL (f : BufTy.Contents (Elt F) B.a10.view.ty) (h : Fin 8) : Vec F S1x1x256 .f32 :=
  View.readAt (Elt F) B.a10.view (Rect.unit (s := All 1) ![h.val, 0, 0] (One 1).size (inb 1 h.isLt)).toLoadRect f
def ldA (f : BufTy.Contents (Elt F) B.a11.view.ty) (h : Fin 8) : Vec F S1x128x256 .f32 :=
  View.readAt (Elt F) B.a11.view (Rect.unit (s := All 128) ![h.val, 0, 0] (One 128).size (inb 128 h.isLt)).toLoadRect f

variable (a b d e : BitVec 32) (k : Fin (k0_t1_loop i).trips)
  (f9 : BufTy.Contents (Elt F) B.a9.view.ty) (f10 : BufTy.Contents (Elt F) B.a10.view.ty) (f11 : BufTy.Contents (Elt F) B.a11.view.ty)

theorem canonM [∀ e, Nonempty (Elt F e)] (G : (All 1).Idx → Elt F .f32)
    (hG : ∀ h, newM (tX B i q cq X4 X7 k h) (ldM B f9 h) = part G h) (L : List (View.Piece (Elt F) S8x1x256 .f32)) :
    View.canon ((trip B c i q cq X4 X5 X7 a b d e k).1 f9 f10 f11 ++ L) = G := by
  unfold trip trip_k0_t1
  exact canon_parts G (fun h => newM (tX B i q cq X4 X7 k h) (ldM B f9 h)) hG _ _ _ _ _ _ _ _ L

theorem canonL [∀ e, Nonempty (Elt F e)] (G : (All 1).Idx → Elt F .f32)
    (hG : ∀ h, newL (tX B i q cq X4 X7 k h) (ldM B f9 h) (ldL B f10 h) = part G h) (L : List (View.Piece (Elt F) S8x1x256 .f32)) :
    View.canon ((trip B c i q cq X4 X5 X7 a b d e k).2.1 f9 f10 f11 ++ L) = G := by
  unfold trip trip_k0_t1
  exact canon_parts G (fun h => newL (tX B i q cq X4 X7 k h) (ldM B f9 h) (ldL B f10 h)) hG _ _ _ _ _ _ _ _ L

theorem canonA [∀ e, Nonempty (Elt F e)] (G : (All 128).Idx → Elt F .f32)
    (hG : ∀ h, newA (tX B i q cq X4 X7 k h) (ldM B f9 h) (tV B i X5 k h) (ldA B f11 h) = part G h) (L : List (View.Piece (Elt F) S8x128x256 .f32)) :
    View.canon ((trip B c i q cq X4 X5 X7 a b d e k).2.2.1 f9 f10 f11 ++ L) = G := by
  unfold trip trip_k0_t1
  exact canon_parts G (fun h => newA (tX B i q cq X4 X7 k h) (ldM B f9 h) (tV B i X5 k h) (ldA B f11 h)) hG _ _ _ _ _ _ _ _ L

end Cert.Trip

end
-- ==== Proof.Loop.lean ====
/- The loop over the key blocks before the diagonal: after `n` trips the scratch buffers hold the first `256 n` keys. -/
module

public import proofs.«01_k».proof.Proof.Trip
public import Idealize.ShloMosaic.Lib.LoopRemainder

@[expose] public section

set_option maxRecDepth 16384

noncomputable section

namespace Cert.Trip

open Idealize.ShloMosaic Idealize.ShloMosaic.TcCoe Idealize.ShloMosaic.Tactic
open Cert.KernelIdeal Cert.KernelIdeal.Gen Cert.KernelIdeal.Facts Cert.HeadBoxes Cert.Heads Cert.State

/-- As many trips as whole blocks of keys lie before the query block. -/
theorem trips_eq (i : grid0.Coords) : (k0_t1_loop i).trips = (i 2).val := by
  have key : ∀ n : Fin 8, Scf.trips (0#32)
      (Scalar.addi 0#32 (Scalar.muli (Scalar.divsi (Scalar.subi (BitVec.ofNat 32 n.val) 0#32) 1#32) 1#32)) 1#32 = n.val := by decide +kernel
  exact key (i 2)

/-- The remainder loop has no trip. -/
theorem trips2_eq (i : grid0.Coords) : (k0_t2_loop i).trips = 0 := by
  have key : ∀ n : Fin 8, Scf.trips
      (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide +kernel
  exact key (i 2)

variable (B : Bufs) (c : Dev nD) (i : grid0.Coords) (q : Fin 8 → Vec Ideal S256x128 .bf16) (cq : Fin 8 → FVec Ideal S1x256 .f32)
  (X4 : BufTy.Contents (Elt Ideal) B.a4.view.ty) (X5 : BufTy.Contents (Elt Ideal) B.a5.view.ty) (X7 : BufTy.Contents (Elt Ideal) B.a7.view.ty)
  (a b d e : BitVec 32)

/-- The pieces the first `n` trips store over given contents. -/
abbrev pieces (G9 : BufTy.Contents (Elt Ideal) B.a9.view.ty) (G10 : BufTy.Contents (Elt Ideal) B.a10.view.ty) (G11 : BufTy.Contents (Elt Ideal) B.a11.view.ty) (n : ℕ) :=
  pb_k0_t1 (F := Ideal) Variants.none c none i B.a3 B.h3 B.a4 B.h4 B.a5 B.h5 B.a6 B.h6 B.a7 B.h7 B.a8 B.h8 B.a9 B.h9 B.a10 B.h10 B.a11 B.h11
    a (q 0) (q 1) (q 2) (q 3) (q 4) (q 5) (q 6) (q 7) (cq 0) (cq 1) (cq 2) (cq 3) (cq 4) (cq 5) (cq 6) (cq 7) b d e X4 X5 X7 G9 G10 G11 n

theorem ldM_part {L : List (View.Piece (Elt Ideal) S8x1x256 .f32)} {G : (All 1).Idx → Elt Ideal .f32} (hL : View.canon L = G) (h : Fin 8) :
    ldM B (B.a9.view.writes (Elt Ideal) B.a9.view.junk L) h = part G h := by
  refine (View.readAt_writes_junk_eq_canon B.a9.view L _).trans ?_
  rw [hL]
  exact load_whole h.isLt _ G

theorem ldL_part {L : List (View.Piece (Elt Ideal) S8x1x256 .f32)} {G : (All 1).Idx → Elt Ideal .f32} (hL : View.canon L = G) (h : Fin 8) :
    ldL B (B.a10.view.writes (Elt Ideal) B.a10.view.junk L) h = part G h := by
  refine (View.readAt_writes_junk_eq_canon B.a10.view L _).trans ?_
  rw [hL]
  exact load_whole h.isLt _ G

theorem ldA_part {L : List (View.Piece (Elt Ideal) S8x128x256 .f32)} {G : (All 128).Idx → Elt Ideal .f32} (hL : View.canon L = G) (h : Fin 8) :
    ldA B (B.a11.view.writes (Elt Ideal) B.a11.view.junk L) h = part G h := by
  refine (View.readAt_writes_junk_eq_canon B.a11.view L _).trans ?_
  rw [hL]
  exact load_whole h.isLt _ G

variable {lg : Logits} {vs : Values}
  {H0 H1 : List (View.Piece (Elt Ideal) S8x1x256 .f32)} {H2 : List (View.Piece (Elt Ideal) S8x128x256 .f32)}

theorem pieces_canon (hR : Real lg)
    (hX : ∀ (k : Fin (k0_t1_loop i).trips) (h : Fin 8) (j r : Fin 256), tX B i q cq X4 X7 k h (ix2 j r) = lg h r (256 * k.val + j))
    (hV : ∀ (k : Fin (k0_t1_loop i).trips) (h : Fin 8) (d : Fin 128) (j : Fin 256), tV B i X5 k h (ix4 0 0 d j) = vs h d (256 * k.val + j))
    (h0 : View.canon H0 = stM lg 0) (h1 : View.canon H1 = stL lg 0) (h2 : View.canon H2 = stA lg vs 0) (n : ℕ) (hn : n ≤ (k0_t1_loop i).trips) :
    View.canon ((pieces B c i q cq X4 X5 X7 a b d e (B.a9.view.writes (Elt Ideal) B.a9.view.junk H0) (B.a10.view.writes (Elt Ideal) B.a10.view.junk H1)
        (B.a11.view.writes (Elt Ideal) B.a11.view.junk H2) n).1 ++ H0) = stM lg (256 * n)
    ∧ View.canon ((pieces B c i q cq X4 X5 X7 a b d e (B.a9.view.writes (Elt Ideal) B.a9.view.junk H0) (B.a10.view.writes (Elt Ideal) B.a10.view.junk H1)
        (B.a11.view.writes (Elt Ideal) B.a11.view.junk H2) n).2.1 ++ H1) = stL lg (256 * n)
    ∧ View.canon ((pieces B c i q cq X4 X5 X7 a b d e (B.a9.view.writes (Elt Ideal) B.a9.view.junk H0) (B.a10.view.writes (Elt Ideal) B.a10.view.junk H1)
        (B.a11.view.writes (Elt Ideal) B.a11.view.junk H2) n).2.2 ++ H2) = stA lg vs (256 * n) := by
  induction n with
  | zero => exact ⟨h0, h1, h2⟩
  | succ n ih =>
    obtain ⟨i0, i1, i2⟩ := ih (by omega)
    have hs := pb_k0_t1_succ (F := Ideal) Variants.none c none i B.a3 B.h3 B.a4 B.h4 B.a5 B.h5 B.a6 B.h6 B.a7 B.h7 B.a8 B.h8 B.a9 B.h9 B.a10 B.h10 B.a11 B.h11
      a (q 0) (q 1) (q 2) (q 3) (q 4) (q 5) (q 6) (q 7) (cq 0) (cq 1) (cq 2) (cq 3) (cq 4) (cq 5) (cq 6) (cq 7) b d e X4 X5 X7
      (B.a9.view.writes (Elt Ideal) B.a9.view.junk H0) (B.a10.view.writes (Elt Ideal) B.a10.view.junk H1) (B.a11.view.writes (Elt Ideal) B.a11.view.junk H2) ⟨n, by omega⟩
    dsimp only at hs
    unfold pieces
    rw [hs]
    dsimp only
    simp only [List.append_assoc, ← View.writes_append]
    rw [show 256 * (n + 1) = 256 * n + 256 by ring]
    refine ⟨?_, ?_, ?_⟩
    · refine canonM B c i q cq X4 X5 X7 a b d e ⟨n, by omega⟩ _ _ _ _ (fun h => ?_) _
      rw [ldM_part B i0]
      exact newM_part (hX ⟨n, by omega⟩ h)
    · refine canonL B c i q cq X4 X5 X7 a b d e ⟨n, by omega⟩ _ _ _ _ (fun h => ?_) _
      rw [ldM_part B i0, ldL_part B i1]
      exact newL_part hR (hX ⟨n, by omega⟩ h)
    · refine canonA B c i q cq X4 X5 X7 a b d e ⟨n, by omega⟩ _ _ _ _ (fun h => ?_) _
      rw [ldM_part B i0, ldA_part B i2]
      exact newA_part hR (hX ⟨n, by omega⟩ h) (hV ⟨n, by omega⟩ h)

end Cert.Trip

end
-- ==== Proof.Chain.lean ====
/- The diagonal block's stores, one head after another, each loading its own head's box from what the stores before
   it left; and the eight stores of the result. -/
module

public import proofs.«01_k».proof.Proof.State
public import Idealize.ShloMosaic.Lib.Pipeline.Value

@[expose] public section

set_option maxRecDepth 16384

noncomputable section

namespace Cert.Chain

open Idealize.ShloMosaic
open Cert.KernelIdeal Cert.HeadBoxes Cert.Heads Cert.State

variable {Val : EltTy → Type} {e : EltTy} {A : ℕ} [∀ e, Nonempty (Val e)] {sig : RefSig} {κ : Kind} {sp : Space}

/-- Eight stores, the `h`-th of `u h` applied to the load of head `h`'s box from the list before it, take the
    contents from `G` to `G'` when each `u h` takes head `h`'s part of `G` to that of `G'`. -/
theorem chain (v : View sig κ sp (All A) e) (G' G : (All A).Idx → Val e) (u : Fin 8 → ((One A).Idx → Val e) → (One A).Idx → Val e)
    (hu : ∀ h, u h (part G h) = part G' h) (L0 L1 L2 L3 L4 L5 L6 L7 L8 : List (View.Piece Val (All A) e)) (b0 b1 b2 b3 b4 b5 b6 b7)
    (h0 : View.canon L0 = G)
    (e1 : L1 = ⟨Rect.unit (s := All A) ![0, 0, 0] (One A).size b0, u 0 (v.readCov L0 (Rect.unit (s := All A) ![0, 0, 0] (One A).size b0).toLoadRect)⟩ :: L0)
    (e2 : L2 = ⟨Rect.unit (s := All A) ![1, 0, 0] (One A).size b1, u 1 (v.readCov L1 (Rect.unit (s := All A) ![1, 0, 0] (One A).size b1).toLoadRect)⟩ :: L1)
    (e3 : L3 = ⟨Rect.unit (s := All A) ![2, 0, 0] (One A).size b2, u 2 (v.readCov L2 (Rect.unit (s := All A) ![2, 0, 0] (One A).size b2).toLoadRect)⟩ :: L2)
    (e4 : L4 = ⟨Rect.unit (s := All A) ![3, 0, 0] (One A).size b3, u 3 (v.readCov L3 (Rect.unit (s := All A) ![3, 0, 0] (One A).size b3).toLoadRect)⟩ :: L3)
    (e5 : L5 = ⟨Rect.unit (s := All A) ![4, 0, 0] (One A).size b4, u 4 (v.readCov L4 (Rect.unit (s := All A) ![4, 0, 0] (One A).size b4).toLoadRect)⟩ :: L4)
    (e6 : L6 = ⟨Rect.unit (s := All A) ![5, 0, 0] (One A).size b5, u 5 (v.readCov L5 (Rect.unit (s := All A) ![5, 0, 0] (One A).size b5).toLoadRect)⟩ :: L5)
    (e7 : L7 = ⟨Rect.unit (s := All A) ![6, 0, 0] (One A).size b6, u 6 (v.readCov L6 (Rect.unit (s := All A) ![6, 0, 0] (One A).size b6).toLoadRect)⟩ :: L6)
    (e8 : L8 = ⟨Rect.unit (s := All A) ![7, 0, 0] (One A).size b7, u 7 (v.readCov L7 (Rect.unit (s := All A) ![7, 0, 0] (One A).size b7).toLoadRect)⟩ :: L7) :
    View.canon L8 = G' := by
  have step : ∀ (k : ℕ) (hk : k < 8) (b : ∀ a, (![k, 0, 0] : Fin 3 → ℕ) a + (One A).size a ≤ (All A).size a) (L M : List (View.Piece Val (All A) e)),
      View.canon L = Mix k G' G →
      M = ⟨Rect.unit (s := All A) ![k, 0, 0] (One A).size b, u ⟨k, hk⟩ (v.readCov L (Rect.unit (s := All A) ![k, 0, 0] (One A).size b).toLoadRect)⟩ :: L →
      View.canon M = Mix (k + 1) G' G := by
    intro k hk b L M hL hM
    rw [hM]
    refine canon_cons_part hk b _ L hL ?_
    rw [View.readCov_eq_canon', hL, ← hu]
    exact congrArg _ (load_part hk b G' G)
  have s0 : View.canon L0 = Mix 0 G' G := by rw [mix_zero, h0]
  have s1 := step 0 (by omega) b0 _ _ s0 e1
  have s2 := step 1 (by omega) b1 _ _ s1 e2
  have s3 := step 2 (by omega) b2 _ _ s2 e3
  have s4 := step 3 (by omega) b3 _ _ s3 e4
  have s5 := step 4 (by omega) b4 _ _ s4 e5
  have s6 := step 5 (by omega) b5 _ _ s5 e6
  have s7 := step 6 (by omega) b6 _ _ s6 e7
  have s8 := step 7 (by omega) b7 _ _ s7 e8
  rw [s8, mix_eight]

/-- The load of one head's box of whole contents. -/
theorem readCov_whole (v : View sig κ sp (All A) e) {L : List (View.Piece Val (All A) e)} {G : (All A).Idx → Val e} (hL : View.canon L = G)
    {h : ℕ} (hh : h < 8) (b : ∀ a, (![h, 0, 0] : Fin 3 → ℕ) a + (One A).size a ≤ (All A).size a) :
    v.readCov L (Rect.unit (s := All A) ![h, 0, 0] (One A).size b).toLoadRect = part G ⟨h, hh⟩ := by
  rw [View.readCov_eq_canon', hL]
  exact load_whole hh b G

/-- The result block of given weighted sums and normalisers: column `128 h + d` is head `h`'s column `d`. -/
def outBlock (Ga : (All 128).Idx → Elt Ideal .f32) (Gl : (All 1).Idx → Elt Ideal .f32) : S256x1024.Idx → Elt Ideal .bf16 := fun y =>
  Ideal.div (Ga (ix3 (n0 := 8) (n1 := 128) (n2 := 256) ⟨(y 1).val / 128, by have : (y 1).val < 1024 := (y 1).isLt; omega⟩
      ⟨(y 1).val % 128, by omega⟩ (y 0)))
    (Gl (ix3 (n0 := 8) (n1 := 1) (n2 := 256) ⟨(y 1).val / 128, by have : (y 1).val < 1024 := (y 1).isLt; omega⟩ 0 (y 0)))

theorem out_piece (Ga : (All 128).Idx → Elt Ideal .f32) (Gl : (All 1).Idx → Elt Ideal .f32) {h : ℕ} (hh : h < 8)
    (b : ∀ a, (![0, 128 * h] : Fin 2 → ℕ) a + S256x128.size a ≤ S256x1024.size a) (x : S256x128.Idx) :
    out (F := Ideal) (part Ga ⟨h, hh⟩) (part Gl ⟨h, hh⟩) x = outBlock Ga Gl ((Rect.unit (s := S256x1024) ![0, 128 * h] S256x128.size b).emb x) := by
  obtain ⟨r, d, rfl⟩ : ∃ r d, x = ix2 (n0 := 256) (n1 := 128) r d := ⟨x 0, x 1, eq_ix2 x⟩
  rw [out_apply]
  have hd := d.isLt
  have e1 : ((Rect.unit (s := S256x1024) ![0, 128 * h] S256x128.size b).emb (ix2 r d) 1).val = 128 * h + d.val := by
    show 128 * h + 1 * d.val = _
    omega
  have e0 : (Rect.unit (s := S256x1024) ![0, 128 * h] S256x128.size b).emb (ix2 r d) 0 = r := by
    apply Fin.ext
    show 0 + 1 * r.val = _
    omega
  have eh : (⟨((Rect.unit (s := S256x1024) ![0, 128 * h] S256x128.size b).emb (ix2 r d) 1).val / 128, by
      have := ((Rect.unit (s := S256x1024) ![0, 128 * h] S256x128.size b).emb (ix2 r d) 1).isLt
      have : ((Rect.unit (s := S256x1024) ![0, 128 * h] S256x128.size b).emb (ix2 r d) 1).val < 1024 := this
      omega⟩ : Fin 8) = ⟨h, hh⟩ := by
    apply Fin.ext
    show _ / 128 = h
    rw [e1]
    omega
  have ed : (⟨((Rect.unit (s := S256x1024) ![0, 128 * h] S256x128.size b).emb (ix2 r d) 1).val % 128, by omega⟩ : Fin 128) = d := by
    apply Fin.ext
    show _ % 128 = d.val
    rw [e1]
    omega
  unfold outBlock
  rw [eh, ed, e0]
  rfl

/-- The eight stores of the result. -/
theorem out_canon (Ga : (All 128).Idx → Elt Ideal .f32) (Gl : (All 1).Idx → Elt Ideal .f32) (w : Fin 8 → S256x128.Idx → Elt Ideal .bf16)
    (hw : ∀ h, w h = out (F := Ideal) (part Ga h) (part Gl h)) (b0 b1 b2 b3 b4 b5 b6 b7) :
    View.canon (Val := Elt Ideal) (s := S256x1024) (e := .bf16)
      [⟨Rect.unit (s := S256x1024) ![0, 896] S256x128.size b7, w 7⟩, ⟨Rect.unit (s := S256x1024) ![0, 768] S256x128.size b6, w 6⟩,
       ⟨Rect.unit (s := S256x1024) ![0, 640] S256x128.size b5, w 5⟩, ⟨Rect.unit (s := S256x1024) ![0, 512] S256x128.size b4, w 4⟩,
       ⟨Rect.unit (s := S256x1024) ![0, 384] S256x128.size b3, w 3⟩, ⟨Rect.unit (s := S256x1024) ![0, 256] S256x128.size b2, w 2⟩,
       ⟨Rect.unit (s := S256x1024) ![0, 128] S256x128.size b1, w 1⟩, ⟨Rect.unit (s := S256x1024) ![0, 0] S256x128.size b0, w 0⟩] = outBlock Ga Gl := by
  have piece : ∀ (h : ℕ) (hh : h < 8) (b : ∀ a, (![0, 128 * h] : Fin 2 → ℕ) a + S256x128.size a ≤ S256x1024.size a) (x : S256x128.Idx),
      w ⟨h, hh⟩ x = outBlock Ga Gl ((Rect.unit (s := S256x1024) ![0, 128 * h] S256x128.size b).emb x) := fun h hh b x => by
    rw [hw]; exact out_piece Ga Gl hh b x
  have mem : ∀ (h : ℕ) (b : ∀ a, (![0, 128 * h] : Fin 2 → ℕ) a + S256x128.size a ≤ S256x1024.size a) (y : S256x1024.Idx),
      (y 1).val / 128 = h → y ∈ (Rect.unit (s := S256x1024) ![0, 128 * h] S256x128.size b).set := by
    intro h b y hy
    have : y = (Rect.unit (s := S256x1024) ![0, 128 * h] S256x128.size b).toLoadRect.idx (ix2 (n0 := 256) (n1 := 128) (y 0) ⟨(y 1).val % 128, by omega⟩) := by
      funext a
      apply Fin.ext
      fin_cases a
      · show (y 0).val = 0 + 1 * (y 0).val
        omega
      · show (y 1).val = 128 * h + 1 * ((y 1).val % 128)
        omega
    rw [this]
    exact LoadRect.idx_mem _ _
  funext y
  refine View.canon_apply_of_pieces (outBlock Ga Gl) _ ?_ y ?_
  · intro p hp
    simp only [List.mem_cons, List.not_mem_nil, or_false] at hp
    rcases hp with rfl | rfl | rfl | rfl | rfl | rfl | rfl | rfl
    · exact piece 7 (by omega) b7
    · exact piece 6 (by omega) b6
    · exact piece 5 (by omega) b5
    · exact piece 4 (by omega) b4
    · exact piece 3 (by omega) b3
    · exact piece 2 (by omega) b2
    · exact piece 1 (by omega) b1
    · exact piece 0 (by omega) b0
  · have hy : (y 1).val < 1024 := (y 1).isLt
    have : (y 1).val / 128 < 8 := by omega
    generalize hq : (y 1).val / 128 = h at this
    interval_cases h
    · exact ⟨⟨Rect.unit (s := S256x1024) ![0, 0] S256x128.size b0, w 0⟩, List.mem_cons_of_mem _ (List.mem_cons_of_mem _ (List.mem_cons_of_mem _ (List.mem_cons_of_mem _ (List.mem_cons_of_mem _ (List.mem_cons_of_mem _ (List.mem_cons_of_mem _ List.mem_cons_self)))))), mem 0 b0 y hq⟩
    · exact ⟨⟨Rect.unit (s := S256x1024) ![0, 128] S256x128.size b1, w 1⟩, List.mem_cons_of_mem _ (List.mem_cons_of_mem _ (List.mem_cons_of_mem _ (List.mem_cons_of_mem _ (List.mem_cons_of_mem _ (List.mem_cons_of_mem _ List.mem_cons_self))))), mem 1 b1 y hq⟩
    · exact ⟨⟨Rect.unit (s := S256x1024) ![0, 256] S256x128.size b2, w 2⟩, List.mem_cons_of_mem _ (List.mem_cons_of_mem _ (List.mem_cons_of_mem _ (List.mem_cons_of_mem _ (List.mem_cons_of_mem _ List.mem_cons_self)))), mem 2 b2 y hq⟩
    · exact ⟨⟨Rect.unit (s := S256x1024) ![0, 384] S256x128.size b3, w 3⟩, List.mem_cons_of_mem _ (List.mem_cons_of_mem _ (List.mem_cons_of_mem _ (List.mem_cons_of_mem _ List.mem_cons_self))), mem 3 b3 y hq⟩
    · exact ⟨⟨Rect.unit (s := S256x1024) ![0, 512] S256x128.size b4, w 4⟩, List.mem_cons_of_mem _ (List.mem_cons_of_mem _ (List.mem_cons_of_mem _ List.mem_cons_self)), mem 4 b4 y hq⟩
    · exact ⟨⟨Rect.unit (s := S256x1024) ![0, 640] S256x128.size b5, w 5⟩, List.mem_cons_of_mem _ (List.mem_cons_of_mem _ List.mem_cons_self), mem 5 b5 y hq⟩
    · exact ⟨⟨Rect.unit (s := S256x1024) ![0, 768] S256x128.size b6, w 6⟩, List.mem_cons_of_mem _ List.mem_cons_self, mem 6 b6 y hq⟩
    · exact ⟨⟨Rect.unit (s := S256x1024) ![0, 896] S256x128.size b7, w 7⟩, List.mem_cons_self, mem 7 b7 y hq⟩

end Cert.Chain

end
-- ==== Proof.Block.lean ====
/- What one grid point leaves in its output block, given the logits and values its five input blocks stand for. -/
module

public import proofs.«01_k».proof.Proof.Loop
public import proofs.«01_k».proof.Proof.Chain

@[expose] public section

set_option maxRecDepth 16384

noncomputable section

namespace Cert.Block

open Idealize.ShloMosaic Idealize.ShloMosaic.TcCoe Idealize.ShloMosaic.Tactic
open Cert.KernelIdeal Cert.KernelIdeal.Gen Cert.KernelIdeal.Facts Cert.HeadBoxes Cert.Heads Cert.State Cert.Trip Cert.Chain

/-! ### The scratch buffers as the point begins -/

theorem initM (lg : Logits) : View.canon (kernelRun0_A.sl.HS0_8 (F := Ideal)) = State.stM lg 0 := by
  refine canon_parts (State.stM lg 0) (fun _ => k0_pay177 (F := Ideal)) (fun h => ?_) _ _ _ _ _ _ _ _ []
  funext x
  obtain ⟨u, v, r, rfl⟩ : ∃ u v r, x = ix3 (n0 := 1) (n1 := 1) (n2 := 256) u v r := ⟨x 0, x 1, x 2, eq_ix3 x⟩
  simp only [part, State.stM, Cert.Online.sMax_zero]
  pointwise [k0_pay177]
  exact ofBits_negInf

theorem initL (lg : Logits) : View.canon (kernelRun0_A.sl.HS1_8 (F := Ideal)) = stL lg 0 := by
  refine canon_parts (stL lg 0) (fun _ => k0_pay178 (F := Ideal)) (fun h => ?_) _ _ _ _ _ _ _ _ []
  funext x
  obtain ⟨u, v, r, rfl⟩ : ∃ u v r, x = ix3 (n0 := 1) (n1 := 1) (n2 := 256) u v r := ⟨x 0, x 1, x 2, eq_ix3 x⟩
  simp only [part, stL, Cert.Online.sSum_zero]
  pointwise [k0_pay178]

theorem initA (lg : Logits) (vs : Values) : View.canon (kernelRun0_A.sl.HS2_8 (F := Ideal)) = stA lg vs 0 := by
  refine canon_parts (stA lg vs 0) (fun _ => k0_pay179 (F := Ideal)) (fun h => ?_) _ _ _ _ _ _ _ _ []
  funext x
  obtain ⟨u, v, r, rfl⟩ : ∃ u v r, x = ix3 (n0 := 1) (n1 := 128) (n2 := 256) u v r := ⟨x 0, x 1, x 2, eq_ix3 x⟩
  simp only [part, stA, Cert.Online.sAcc_zero]
  pointwise [k0_pay179]

/-! ### The heads' query rows and forget sums, and the diagonal block's logits and values -/

variable (B : Bufs) (c : Dev nD) (i : grid0.Coords)
  (x0 : Vec Ideal S256x1024 .bf16) (x1 : Vec Ideal S2048x1024 .bf16) (x2 : Vec Ideal S1x8x1024x256 .bf16) (x3 : Vec Ideal S1x8x1x256 .f32)
  (x4 : Vec Ideal S2048x128 .f32)

theorem inbQ (h : Fin 8) : ∀ a, (![0, 128 * h.val] : Fin 2 → ℕ) a + S256x128.size a ≤ S256x1024.size a := by
  have hh := h.isLt
  intro a
  fin_cases a
  · show 0 + 256 ≤ 256
    omega
  · show 128 * h.val + 128 ≤ 1024
    omega

theorem inbC (h : Fin 8) : ∀ a, (![0, h.val, 0, 0] : Fin 4 → ℕ) a + S1x1x1x256.size a ≤ S1x8x1x256.size a := by
  have hh := h.isLt
  intro a
  fin_cases a
  · show 0 + 1 ≤ 1
    omega
  · show h.val + 1 ≤ 8
    omega
  · show 0 + 1 ≤ 1
    omega
  · show 0 + 256 ≤ 256
    omega

def rows (h : Fin 8) : Vec Ideal S256x128 .bf16 :=
  View.readAt (Elt Ideal) B.a3.view (Rect.unit (s := S256x1024) ![0, 128 * h.val] S256x128.size (inbQ h)).toLoadRect (B.h3.unread x0)
def sums (h : Fin 8) : FVec Ideal S1x256 .f32 :=
  k0_pay169 (View.readAt (Elt Ideal) B.a6.view (Rect.unit (s := S1x8x1x256) ![0, h.val, 0, 0] S1x1x1x256.size (inbC h)).toLoadRect (B.h6.unread x3))

def dkOff : Fin 8 → Fin 2 → ℕ :=
  ![k0_off35 i, k0_off36 i, k0_off37 i, k0_off38 i, k0_off39 i, k0_off40 i, k0_off41 i, k0_off42 i]
def dvOff : Fin 8 → Fin 4 → ℕ :=
  ![k0_off44 i, k0_off45 i, k0_off46 i, k0_off47 i, k0_off48 i, k0_off49 i, k0_off50 i, k0_off51 i]

theorem dkOff_eq (h : Fin 8) : dkOff i h = ![256 * (i 2).val, 128 * h.val] := by
  fin_cases h
  · exact k0_off35_eq i
  · exact k0_off36_eq i
  · exact k0_off37_eq i
  · exact k0_off38_eq i
  · exact k0_off39_eq i
  · exact k0_off40_eq i
  · exact k0_off41_eq i
  · exact k0_off42_eq i

theorem dvOff_eq (h : Fin 8) : dvOff i h = ![0, (i 2).val, 128 * h.val, 0] := by
  fin_cases h
  · exact k0_off44_eq i
  · exact k0_off45_eq i
  · exact k0_off46_eq i
  · exact k0_off47_eq i
  · exact k0_off48_eq i
  · exact k0_off49_eq i
  · exact k0_off50_eq i
  · exact k0_off51_eq i

theorem dkOff_inb (h : Fin 8) : ∀ a, dkOff i h a + S256x128.size a ≤ S2048x1024.size a := by
  have hk : (i 2).val < 8 := (i 2).isLt
  have hh := h.isLt
  rw [dkOff_eq]
  intro a
  fin_cases a
  · show 256 * (i 2).val + 256 ≤ 2048
    omega
  · show 128 * h.val + 128 ≤ 1024
    omega

theorem dvOff_inb (h : Fin 8) : ∀ a, dvOff i h a + S1x1x128x256.size a ≤ S1x8x1024x256.size a := by
  have hk : (i 2).val < 8 := (i 2).isLt
  have hh := h.isLt
  rw [dvOff_eq]
  intro a
  fin_cases a
  · show 0 + 1 ≤ 1
    omega
  · show (i 2).val + 1 ≤ 8
    omega
  · show 128 * h.val + 128 ≤ 1024
    omega
  · show 0 + 256 ≤ 256
    omega

def dX (h : Fin 8) : FVec Ideal S256x256 .f32 :=
  masked (score (rows B x0 h) (View.readAt (Elt Ideal) B.a4.view (Rect.unit (s := S2048x1024) (dkOff i h) S256x128.size (dkOff_inb i h)).toLoadRect (B.h4.unread x1))
    (sums B x3 h)
    (cols (View.readAt (Elt Ideal) B.a7.view (Rect.unit (s := S2048x128) (k0_off43 i) S256x128.size (k0_off43_inb i)).toLoadRect (B.h7.unread x4)) h))
def dV (h : Fin 8) : Vec Ideal S1x1x128x256 .bf16 :=
  View.readAt (Elt Ideal) B.a5.view (Rect.unit (s := S1x8x1024x256) (dvOff i h) S1x1x128x256.size (dvOff_inb i h)).toLoadRect (B.h5.unread x2)

/-! ### The loop's pieces, in the forms the point's run holds them -/

/-- The trips' start word after the loop: the number of whole blocks. -/
abbrev count : BitVec 32 := Scalar.divsi (Scalar.subi (BitVec.ofNat 32 (i 2).val) 0#32) 1#32

abbrev first :=
  pieces B c i (rows B x0) (sums B x3) (B.h4.unread x1) (B.h5.unread x2) (B.h7.unread x4) (BitVec.ofNat 32 (i 2).val) 0#32 1#32 (count i)
    (B.a9.view.writes (Elt Ideal) B.a9.view.junk (kernelRun0_A.sl.HS0_8 (F := Ideal)))
    (B.a10.view.writes (Elt Ideal) B.a10.view.junk (kernelRun0_A.sl.HS1_8 (F := Ideal)))
    (B.a11.view.writes (Elt Ideal) B.a11.view.junk (kernelRun0_A.sl.HS2_8 (F := Ideal))) (k0_t1_loop i).trips

abbrev second (G9 : BufTy.Contents (Elt Ideal) B.a9.view.ty) (G10 : BufTy.Contents (Elt Ideal) B.a10.view.ty) (G11 : BufTy.Contents (Elt Ideal) B.a11.view.ty) :=
  pb_k0_t2 (F := Ideal) Variants.none c none i B.a3 B.h3 B.a4 B.h4 B.a5 B.h5 B.a6 B.h6 B.a7 B.h7 B.a8 B.h8 B.a9 B.h9 B.a10 B.h10 B.a11 B.h11
    (BitVec.ofNat 32 (i 2).val) (rows B x0 0) (rows B x0 1) (rows B x0 2) (rows B x0 3) (rows B x0 4) (rows B x0 5) (rows B x0 6) (rows B x0 7)
    (sums B x3 0) (sums B x3 1) (sums B x3 2) (sums B x3 3) (sums B x3 4) (sums B x3 5) (sums B x3 6) (sums B x3 7)
    0#32 1#32 (count i) (Scalar.addi 0#32 (Scalar.muli (count i) 1#32)) (B.h4.unread x1) (B.h5.unread x2) (B.h7.unread x4) G9 G10 G11 (k0_t2_loop i).trips

theorem second_eq (G9 : BufTy.Contents (Elt Ideal) B.a9.view.ty) (G10 : BufTy.Contents (Elt Ideal) B.a10.view.ty) (G11 : BufTy.Contents (Elt Ideal) B.a11.view.ty) :
    second B c i x0 x1 x2 x3 x4 G9 G10 G11 = ([], [], []) := by
  unfold second
  rw [trips2_eq]
  rfl

abbrev G9 := B.a9.view.writes (Elt Ideal) B.a9.view.junk ((first B c i x0 x1 x2 x3 x4).1 ++ kernelRun0_A.sl.HS0_8 (F := Ideal))
abbrev G10 := B.a10.view.writes (Elt Ideal) B.a10.view.junk ((first B c i x0 x1 x2 x3 x4).2.1 ++ kernelRun0_A.sl.HS1_8 (F := Ideal))
abbrev G11 := B.a11.view.writes (Elt Ideal) B.a11.view.junk ((first B c i x0 x1 x2 x3 x4).2.2 ++ kernelRun0_A.sl.HS2_8 (F := Ideal))

abbrev base9 := (second B c i x0 x1 x2 x3 x4 (G9 B c i x0 x1 x2 x3 x4) (G10 B c i x0 x1 x2 x3 x4) (G11 B c i x0 x1 x2 x3 x4)).1 ++
  ((first B c i x0 x1 x2 x3 x4).1 ++ kernelRun0_A.sl.HS0_8 (F := Ideal))
abbrev base10 := (second B c i x0 x1 x2 x3 x4 (G9 B c i x0 x1 x2 x3 x4) (G10 B c i x0 x1 x2 x3 x4) (G11 B c i x0 x1 x2 x3 x4)).2.1 ++
  ((first B c i x0 x1 x2 x3 x4).2.1 ++ kernelRun0_A.sl.HS1_8 (F := Ideal))
abbrev base11 := (second B c i x0 x1 x2 x3 x4 (G9 B c i x0 x1 x2 x3 x4) (G10 B c i x0 x1 x2 x3 x4) (G11 B c i x0 x1 x2 x3 x4)).2.2 ++
  ((first B c i x0 x1 x2 x3 x4).2.2 ++ kernelRun0_A.sl.HS2_8 (F := Ideal))

/-- The running maximum of head `h` as the diagonal block loads it. -/
def mOf (h : Fin 8) : Vec Ideal S1x1x256 .f32 :=
  B.a9.view.readCov (base9 B c i x0 x1 x2 x3 x4) (Rect.unit (s := All 1) ![h.val, 0, 0] (One 1).size (inb 1 h.isLt)).toLoadRect

variable {lg : Logits} {vs : Values}

/-- The logits and values the point's input blocks stand for. -/
structure Reads : Prop where
  real : Real lg
  loopX : ∀ (k : Fin (k0_t1_loop i).trips) (h : Fin 8) (j r : Fin 256),
    tX B i (rows B x0) (sums B x3) (B.h4.unread x1) (B.h7.unread x4) k h (ix2 j r) = lg h r (256 * k.val + j)
  loopV : ∀ (k : Fin (k0_t1_loop i).trips) (h : Fin 8) (d : Fin 128) (j : Fin 256),
    tV B i (B.h5.unread x2) k h (ix4 0 0 d j) = vs h d (256 * k.val + j)
  diagX : ∀ (h : Fin 8) (j r : Fin 256), dX B i x0 x1 x3 x4 h (ix2 j r) = lg h r (256 * (i 2).val + j)
  diagV : ∀ (h : Fin 8) (d : Fin 128) (j : Fin 256), dV B i x2 h (ix4 0 0 d j) = vs h d (256 * (i 2).val + j)

variable (H : Reads B i x0 x1 x2 x3 x4 (lg := lg) (vs := vs))
include H

theorem base_canon :
    View.canon (base9 B c i x0 x1 x2 x3 x4) = stM lg (256 * (i 2).val)
    ∧ View.canon (base10 B c i x0 x1 x2 x3 x4) = stL lg (256 * (i 2).val)
    ∧ View.canon (base11 B c i x0 x1 x2 x3 x4) = stA lg vs (256 * (i 2).val) := by
  unfold base9 base10 base11
  rw [second_eq]
  have h := pieces_canon B c i (rows B x0) (sums B x3) (B.h4.unread x1) (B.h5.unread x2) (B.h7.unread x4) (BitVec.ofNat 32 (i 2).val) 0#32 1#32 (count i)
    H.real H.loopX H.loopV (initM lg) (initL lg) (initA lg vs) (k0_t1_loop i).trips le_rfl
  obtain ⟨a, b, d⟩ := h
  rw [show 256 * (i 2).val = 256 * (k0_t1_loop i).trips by rw [trips_eq]]
  exact ⟨a, b, d⟩

theorem mOf_eq (h : Fin 8) : mOf B c i x0 x1 x2 x3 x4 h = part (stM lg (256 * (i 2).val)) h :=
  readCov_whole B.a9.view (base_canon B c i x0 x1 x2 x3 x4 H).1 h.isLt _

theorem run_canon :
    View.canon (kernelRun0_A (F := Ideal) c i B.a3 B.h3 B.a4 B.h4 B.a5 B.h5 B.a6 B.h6 B.a7 B.h7 B.a8 B.h8 B.a9 B.h9 B.a10 B.h10 B.a11 B.h11 x0 x1 x2 x3 x4).1
      = outBlock (stA lg vs (256 * (i 2).val + 256)) (stL lg (256 * (i 2).val + 256)) := by
  have hL : View.canon (kernelRun0_A.sl.HS1_8_1 (F := Ideal) c i B.a3 B.h3 B.a4 B.h4 B.a5 B.h5 B.a6 B.h6 B.a7 B.h7 B.a8 B.h8 B.a9 B.h9 B.a10 B.h10 B.a11 B.h11 x0 x1 x2 x3 x4)
      = stL lg (256 * (i 2).val + 256) := by
    refine chain B.a10.view (stL lg (256 * (i 2).val + 256)) (stL lg (256 * (i 2).val))
      (fun h l => newL (F := Ideal) (dX B i x0 x1 x3 x4 h) (mOf B c i x0 x1 x2 x3 x4 h) l) (fun h => ?_)
      (base10 B c i x0 x1 x2 x3 x4) ?lL1 ?lL2 ?lL3 ?lL4 ?lL5 ?lL6 ?lL7 _ ?lb0 ?lb1 ?lb2 ?lb3 ?lb4 ?lb5 ?lb6 ?lb7 (base_canon B c i x0 x1 x2 x3 x4 H).2.1 ?le1 ?le2 ?le3 ?le4 ?le5 ?le6 ?le7 ?le8
    case le8 => rfl
    case le7 => rfl
    case le6 => rfl
    case le5 => rfl
    case le4 => rfl
    case le3 => rfl
    case le2 => rfl
    case le1 => rfl
    dsimp only
    rw [mOf_eq B c i x0 x1 x2 x3 x4 H]
    exact newL_part H.real (H.diagX h)
  have hA : View.canon (kernelRun0_A.sl.HS2_8_1 (F := Ideal) c i B.a3 B.h3 B.a4 B.h4 B.a5 B.h5 B.a6 B.h6 B.a7 B.h7 B.a8 B.h8 B.a9 B.h9 B.a10 B.h10 B.a11 B.h11 x0 x1 x2 x3 x4)
      = stA lg vs (256 * (i 2).val + 256) := by
    refine chain B.a11.view (stA lg vs (256 * (i 2).val + 256)) (stA lg vs (256 * (i 2).val))
      (fun h a => newA (F := Ideal) (dX B i x0 x1 x3 x4 h) (mOf B c i x0 x1 x2 x3 x4 h) (dV B i x2 h) a) (fun h => ?_)
      (base11 B c i x0 x1 x2 x3 x4) ?aL1 ?aL2 ?aL3 ?aL4 ?aL5 ?aL6 ?aL7 _ ?ab0 ?ab1 ?ab2 ?ab3 ?ab4 ?ab5 ?ab6 ?ab7 (base_canon B c i x0 x1 x2 x3 x4 H).2.2 ?ae1 ?ae2 ?ae3 ?ae4 ?ae5 ?ae6 ?ae7 ?ae8
    case ae8 => rfl
    case ae7 => rfl
    case ae6 => rfl
    case ae5 => rfl
    case ae4 => rfl
    case ae3 => rfl
    case ae2 => rfl
    case ae1 => rfl
    dsimp only
    rw [mOf_eq B c i x0 x1 x2 x3 x4 H]
    exact newA_part H.real (H.diagX h) (H.diagV h)
  unfold kernelRun0_A
  refine out_canon (stA lg vs (256 * (i 2).val + 256)) (stL lg (256 * (i 2).val + 256))
    (fun h => out (F := Ideal)
      (B.a11.view.readCov (kernelRun0_A.sl.HS2_8_1 (F := Ideal) c i B.a3 B.h3 B.a4 B.h4 B.a5 B.h5 B.a6 B.h6 B.a7 B.h7 B.a8 B.h8 B.a9 B.h9 B.a10 B.h10 B.a11 B.h11 x0 x1 x2 x3 x4)
        (Rect.unit (s := All 128) ![h.val, 0, 0] (One 128).size (inb 128 h.isLt)).toLoadRect)
      (B.a10.view.readCov (kernelRun0_A.sl.HS1_8_1 (F := Ideal) c i B.a3 B.h3 B.a4 B.h4 B.a5 B.h5 B.a6 B.h6 B.a7 B.h7 B.a8 B.h8 B.a9 B.h9 B.a10 B.h10 B.a11 B.h11 x0 x1 x2 x3 x4)
        (Rect.unit (s := All 1) ![h.val, 0, 0] (One 1).size (inb 1 h.isLt)).toLoadRect)) (fun h => ?_) _ _ _ _ _ _ _ _
  dsimp only
  rw [readCov_whole B.a11.view hA h.isLt, readCov_whole B.a10.view hL h.isLt]

end Cert.Block

end
-- ==== Proof.Logits.lean ====
/- The attention's logits, values and result as functions of the two argument arrays. -/
module

public import proofs.«01_k».proof.Proof.State

@[expose] public section

set_option maxRecDepth 16384

noncomputable section

namespace Cert.Logits

open Idealize.ShloMosaic Cert.Online

abbrev QKV := (⟨2, ![16384, 5120]⟩ : Shape).Idx → EReal
abbrev Sums := (⟨2, ![16384, 128]⟩ : Shape).Idx → EReal

/-- The row of position `q` of sequence `b`, and the columns of head `h`. -/
def row (b : Fin 8) (q : Fin 2048) : Fin 16384 := ⟨2048 * b.val + q.val, by omega⟩
def qcol (h : Fin 8) (d : Fin 128) : Fin 5120 := ⟨128 * h.val + d.val, by omega⟩
def kcol (h : Fin 8) (d : Fin 128) : Fin 5120 := ⟨1024 + (128 * h.val + d.val), by omega⟩
def vcol (h : Fin 8) (d : Fin 128) : Fin 5120 := ⟨2048 + (128 * h.val + d.val), by omega⟩
def ccol (h : Fin 8) : Fin 128 := ⟨h.val, by omega⟩

/-- The scale of the logits: the word nearest to `128 ^ (-1/2)`. -/
def scale : EReal := Ideal.ofBits .f32 0x3DB504F3#32

variable (X : QKV) (C : Sums) (b : Fin 8) (h : Fin 8)

/-- The logit of query `q` and key `k`, before the mask. -/
def raw (q k : Fin 2048) : EReal :=
  (∑ d : Fin 128, X (ix2 (row b k) (kcol h d)) * X (ix2 (row b q) (qcol h d))) * scale
    + (C (ix2 (row b q) (ccol h)) - C (ix2 (row b k) (ccol h)))

/-- The masked logits of query `q`: keys after it are `⊥`. -/
def logit (q : Fin 2048) : ℕ → EReal := fun j => if hj : j ≤ q.val then raw X C b h q ⟨j, by omega⟩ else ⊥

/-- Column `d` of the values. -/
def value (d : Fin 128) : ℕ → EReal := fun j => if hj : j < 2048 then X (ix2 (row b ⟨j, hj⟩) (vcol h d)) else 0

/-- The attention's result for query `q`, column `d`. -/
def attn (q : Fin 2048) (d : Fin 128) : EReal :=
  ∑ k : Fin 2048, value X b h d k.val *
    Ideal.div (Ideal.exp (logit X C b h q k.val - sMax (logit X C b h q) 2048)) (sSum (logit X C b h q) 2048)

/-- The queries, keys and forget sums are real numbers. -/
structure Finite : Prop where
  qk : ∀ (r : Fin 16384) (x : Fin 5120), x.val < 2048 → ∃ a : ℝ, X (ix2 r x) = (a : EReal)
  sums : ∀ (r : Fin 16384) (h : Fin 8), ∃ a : ℝ, C (ix2 r (ccol h)) = (a : EReal)

theorem scale_real : ∃ a : ℝ, scale = (a : EReal) := by
  simp only [scale, Ideal.ofBits, Ideal.ieee]
  norm_num [-EReal.coe_mul]
  exact ⟨_, rfl⟩

variable {X C}

theorem raw_real (F : Finite X C) (q k : Fin 2048) : ∃ a : ℝ, raw X C b h q k = (a : EReal) := by
  have hk : ∀ d, ∃ a : ℝ, X (ix2 (row b k) (kcol h d)) = (a : EReal) := fun d => F.qk _ _ (by show 1024 + _ < 2048; omega)
  have hq : ∀ d, ∃ a : ℝ, X (ix2 (row b q) (qcol h d)) = (a : EReal) := fun d => F.qk _ _ (by show 128 * h.val + d.val < 2048; omega)
  choose kr hkr using hk
  choose qr hqr using hq
  obtain ⟨s, hs⟩ := scale_real
  obtain ⟨x, hx⟩ := F.sums (row b q) h
  obtain ⟨y, hy⟩ := F.sums (row b k) h
  refine ⟨(∑ d, kr d * qr d) * s + (x - y), ?_⟩
  unfold raw
  simp only [hkr, hqr, hs, hx, hy]
  push_cast
  rfl

theorem logit_real (F : Finite X C) (q : Fin 2048) : (∀ j, logit X C b h q j ≠ ⊤) ∧ logit X C b h q 0 ≠ ⊥ := by
  constructor
  · intro j
    unfold logit
    split
    · obtain ⟨a, ha⟩ := raw_real b h F q ⟨j, by omega⟩
      rw [ha]
      exact EReal.coe_ne_top a
    · exact bot_ne_top
  · unfold logit
    rw [dif_pos (Nat.zero_le _)]
    obtain ⟨a, ha⟩ := raw_real b h F q ⟨0, by omega⟩
    rw [ha]
    exact EReal.coe_ne_bot a

/-- Stopping at any block after the query is the whole softmax. -/
theorem attn_eq (F : Finite X C) (q : Fin 2048) (d : Fin 128) (n : ℕ) (hq : q.val < n) (hn : n ≤ 2048) :
    Ideal.div (sAcc (logit X C b h q) (value X b h d) n) (sSum (logit X C b h q) n) = attn X C b h q d :=
  quotient (logit_real b h F q).1 (logit_real b h F q).2 _ (by omega) hn (fun j hj => dif_neg (by omega))

end Cert.Logits

end
-- ==== Proof.Points.lean ====
/- The input blocks of a grid point, read off the arrays, stand for the attention's logits and values. -/
module

public import proofs.«01_k».proof.Proof.Block
public import proofs.«01_k».proof.Proof.Logits
public import Idealize.ShloMosaic.Lib.WholeRead

@[expose] public section

set_option maxRecDepth 16384

noncomputable section

namespace Cert.Points

open Idealize.ShloMosaic Idealize.ShloMosaic.TcCoe Idealize.ShloMosaic.Tactic
open Cert.KernelIdeal Cert.KernelIdeal.Gen Cert.KernelIdeal.Facts Cert.HeadBoxes Cert.Heads Cert.State Cert.Trip Cert.Block Cert.Logits

/-- The index of a box with unit strides. -/
theorem unit_idx2 {m n m' n' : ℕ} (off : Fin 2 → ℕ) (a b : ℕ) (ho : off = ![a, b])
    (inb : ∀ x, off x + (⟨2, ![m', n']⟩ : Shape).size x ≤ (⟨2, ![m, n]⟩ : Shape).size x) (j : Fin m') (d : Fin n') (ha : a + j.val < m) (hb : b + d.val < n) :
    (Rect.unit (s := ⟨2, ![m, n]⟩) off (⟨2, ![m', n']⟩ : Shape).size inb).toLoadRect.idx (ix2 j d) = ix2 (n0 := m) (n1 := n) ⟨a + j.val, ha⟩ ⟨b + d.val, hb⟩ := by
  subst ho
  funext x
  apply Fin.ext
  fin_cases x
  · show a + 1 * j.val = a + j.val
    omega
  · show b + 1 * d.val = b + d.val
    omega

theorem unit_idx4 {m n o p m' n' o' p' : ℕ} (off : Fin 4 → ℕ) (a b c e : ℕ) (ho : off = ![a, b, c, e])
    (inb : ∀ x, off x + (⟨4, ![m', n', o', p']⟩ : Shape).size x ≤ (⟨4, ![m, n, o, p]⟩ : Shape).size x)
    (j : Fin m') (d : Fin n') (f : Fin o') (g : Fin p') (ha : a + j.val < m) (hb : b + d.val < n) (hc : c + f.val < o) (he : e + g.val < p) :
    (Rect.unit (s := ⟨4, ![m, n, o, p]⟩) off (⟨4, ![m', n', o', p']⟩ : Shape).size inb).toLoadRect.idx (ix4 j d f g)
      = ix4 (n0 := m) (n1 := n) (n2 := o) (n3 := p) ⟨a + j.val, ha⟩ ⟨b + d.val, hb⟩ ⟨c + f.val, hc⟩ ⟨e + g.val, he⟩ := by
  subst ho
  funext x
  apply Fin.ext
  fin_cases x
  · show a + 1 * j.val = a + j.val
    omega
  · show b + 1 * d.val = b + d.val
    omega
  · show c + 1 * f.val = c + f.val
    omega
  · show e + 1 * g.val = e + g.val
    omega

variable (B : Bufs) (c : Dev nD) (i : grid0.Coords)
  (x0 : Vec Ideal S256x1024 .bf16) (x1 : Vec Ideal S2048x1024 .bf16) (x2 : Vec Ideal S1x8x1024x256 .bf16) (x3 : Vec Ideal S1x8x1x256 .f32)
  (x4 : Vec Ideal S2048x128 .f32) (X : QKV) (C : Sums)

theorem qi_lt : (i 2).val < 8 := (i 2).isLt

/-- The sequence of a grid point, and the position of its block's query `r`. -/
def seq : Fin 8 := ⟨(i 0).val, (i 0).isLt⟩
def pos (r : Fin 256) : Fin 2048 := ⟨256 * (i 2).val + r.val, by have := qi_lt i; omega⟩

/-- The point's blocks as entries of the arrays. -/
structure Blocks : Prop where
  e0 : ∀ (r : Fin 256) (x : Fin 1024), x0 (ix2 r x) = X (ix2 (row (seq i) (pos i r)) ⟨x.val, by omega⟩)
  e1 : ∀ (j : Fin 2048) (x : Fin 1024), x1 (ix2 j x) = X (ix2 (row (seq i) j) ⟨1024 + x.val, by omega⟩)
  e2 : ∀ (k : Fin 8) (x : Fin 1024) (j : Fin 256), x2 (ix4 0 k x j) = X (ix2 (row (seq i) ⟨256 * k.val + j.val, by omega⟩) ⟨2048 + x.val, by omega⟩)
  e3 : ∀ (h : Fin 8) (r : Fin 256), x3 (ix4 0 h 0 r) = C (ix2 (row (seq i) (pos i r)) (ccol h))
  e4 : ∀ (j : Fin 2048) (h : Fin 8), x4 (ix2 j (ccol h)) = C (ix2 (row (seq i) j) (ccol h))

variable (E : Blocks i x0 x1 x2 x3 x4 X C)
include E

theorem rows_apply (h : Fin 8) (r : Fin 256) (d : Fin 128) : rows B x0 h (ix2 r d) = X (ix2 (row (seq i) (pos i r)) (qcol h d)) := by
  refine (B.h3.readAt_unread x0 _ _).trans ?_
  rw [unit_idx2 _ 0 (128 * h.val) rfl _ r d (by omega) (by omega)]
  refine Eq.trans ?_ (E.e0 r ⟨128 * h.val + d.val, by omega⟩)
  refine congrArg x0 (congrArg₂ ix2 (Fin.ext ?_) rfl)
  show 0 + r.val = r.val
  omega

theorem sums_apply (h : Fin 8) (r : Fin 256) : sums B x3 h (ix2 0 r) = C (ix2 (row (seq i) (pos i r)) (ccol h)) := by
  have hp : ∀ z : FVec Ideal S1x1x1x256 .f32, k0_pay169 z (ix2 0 r) = z (ix4 0 0 0 r) := by
    intro z
    pointwise [k0_pay169]
  refine (hp _).trans ((B.h6.readAt_unread x3 _ _).trans ?_)
  rw [unit_idx4 _ 0 h.val 0 0 rfl _ 0 0 0 r (by decide) (by show h.val + 0 < 8; omega) (by decide) (by omega)]
  refine Eq.trans ?_ (E.e3 h r)
  refine congrArg x3 ?_
  congr 1
  apply Fin.ext
  show 0 + r.val = r.val
  omega

/-- A block of key rows scored against the queries: the logits before the mask. -/
theorem score_at (h : Fin 8) (n : ℕ) (hn : n + 256 ≤ 2048) (kb : FVec Ideal S256x128 .bf16) (ck : Vec Ideal S256x128 .f32)
    (hkb : ∀ (j : Fin 256) (d : Fin 128), kb (ix2 j d) = x1 (ix2 ⟨n + j.val, by omega⟩ ⟨128 * h.val + d.val, by omega⟩))
    (hck : ∀ (j : Fin 256) (x : Fin 128), ck (ix2 j x) = x4 (ix2 ⟨n + j.val, by omega⟩ x)) (j r : Fin 256) :
    score (F := Ideal) (rows B x0 h) kb (sums B x3 h) (cols ck h) (ix2 j r) = raw X C (seq i) h (pos i r) ⟨n + j.val, by omega⟩ := by
  rw [score_apply, cols_apply, hck, sums_apply B i x0 x1 x2 x3 x4 X C E]
  unfold raw
  have e4 : x4 (ix2 ⟨n + j.val, by omega⟩ (Fin.castLE (by omega) h)) = C (ix2 (row (seq i) ⟨n + j.val, by omega⟩) (ccol h)) := E.e4 ⟨n + j.val, by omega⟩ h
  rw [e4]
  congr 2
  refine Finset.sum_congr rfl fun d _ => ?_
  rw [rows_apply B i x0 x1 x2 x3 x4 X C E, hkb, E.e1]
  rfl

theorem reads (F : Finite X C) :
    Reads B i x0 x1 x2 x3 x4 (lg := fun h r => logit X C (seq i) h (pos i r)) (vs := fun h d => value X (seq i) h d) where
  real h r := logit_real _ _ F _
  loopX k h j r := by
    have hk := trips_le i k
    have hkq : k.val < (i 2).val := Nat.lt_of_lt_of_eq k.isLt (trips_eq i)
    unfold tX
    rw [score_at B i x0 x1 x2 x3 x4 X C E h (256 * k.val) (by omega) _ _ (fun j d => ?_) (fun j x => ?_)]
    · unfold logit
      rw [dif_pos (show 256 * k.val + j.val ≤ (pos i r).val by show _ ≤ 256 * (i 2).val + r.val; omega)]
    · refine (B.h4.readAt_unread x1 _ _).trans ?_
      rw [unit_idx2 _ (256 * k.val) (128 * h.val) (kOff_eq i k h) _ j d (by omega) (by omega)]
    · refine (B.h7.readAt_unread x4 _ _).trans ?_
      rw [unit_idx2 _ (256 * k.val) 0 (k0_off9_eq i k) _ j x (by omega) (by omega)]
      refine congrArg x4 (congrArg₂ ix2 rfl (Fin.ext ?_))
      show 0 + x.val = x.val
      omega
  loopV k h d j := by
    have hk := trips_le i k
    unfold tV
    refine (B.h5.readAt_unread x2 _ _).trans ?_
    rw [unit_idx4 _ 0 k.val (128 * h.val) 0 (vOff_eq i k h) _ 0 0 d j (by decide) (by show k.val + 0 < 8; omega) (by omega) (by omega)]
    unfold value
    rw [dif_pos (by omega)]
    refine Eq.trans ?_ (E.e2 ⟨k.val, by omega⟩ ⟨128 * h.val + d.val, by omega⟩ j)
    refine congrArg x2 ?_
    congr 1
    apply Fin.ext
    show 0 + j.val = j.val
    omega
  diagX h j r := by
    have hq := qi_lt i
    unfold dX
    rw [masked_apply, score_at B i x0 x1 x2 x3 x4 X C E h (256 * (i 2).val) (by omega) _ _ (fun j d => ?_) (fun j x => ?_)]
    · unfold logit
      by_cases hjr : r.val < j.val
      · rw [if_pos hjr, dif_neg (show ¬ 256 * (i 2).val + j.val ≤ (pos i r).val by show ¬ _ ≤ 256 * (i 2).val + r.val; omega)]
      · rw [if_neg hjr, dif_pos (show 256 * (i 2).val + j.val ≤ (pos i r).val by show _ ≤ 256 * (i 2).val + r.val; omega)]
    · refine (B.h4.readAt_unread x1 _ _).trans ?_
      rw [unit_idx2 _ (256 * (i 2).val) (128 * h.val) (dkOff_eq i h) _ j d (by omega) (by omega)]
    · refine (B.h7.readAt_unread x4 _ _).trans ?_
      rw [unit_idx2 _ (256 * (i 2).val) 0 (k0_off43_eq i) _ j x (by omega) (by omega)]
      refine congrArg x4 (congrArg₂ ix2 rfl (Fin.ext ?_))
      show 0 + x.val = x.val
      omega
  diagV h d j := by
    have hq := qi_lt i
    unfold dV
    refine (B.h5.readAt_unread x2 _ _).trans ?_
    rw [unit_idx4 _ 0 (i 2).val (128 * h.val) 0 (dvOff_eq i h) _ 0 0 d j (by decide) (by show (i 2).val + 0 < 8; omega) (by omega) (by omega)]
    unfold value
    rw [dif_pos (by omega)]
    refine Eq.trans ?_ (E.e2 ⟨(i 2).val, by omega⟩ ⟨128 * h.val + d.val, by omega⟩ j)
    refine congrArg x2 ?_
    congr 1
    apply Fin.ext
    show 0 + j.val = j.val
    omega

/-- What the point leaves in its output block. -/
theorem block_value (F : Finite X C) (r : Fin 256) (h : Fin 8) (d : Fin 128) (x : Fin 1024) (hx : x.val = 128 * h.val + d.val) :
    View.canon (kernelRun0_A (F := Ideal) c i B.a3 B.h3 B.a4 B.h4 B.a5 B.h5 B.a6 B.h6 B.a7 B.h7 B.a8 B.h8 B.a9 B.h9 B.a10 B.h10 B.a11 B.h11 x0 x1 x2 x3 x4).1
        (ix2 r x) = attn X C (seq i) h (pos i r) d := by
  have hq := qi_lt i
  rw [run_canon B c i x0 x1 x2 x3 x4 (reads B i x0 x1 x2 x3 x4 X C E F)]
  have eh : (⟨x.val / 128, by omega⟩ : Fin 8) = h := Fin.ext (by show x.val / 128 = h.val; omega)
  have ed : (⟨x.val % 128, by omega⟩ : Fin 128) = d := Fin.ext (by show x.val % 128 = d.val; omega)
  rw [← attn_eq (seq i) h F (pos i r) d (256 * (i 2).val + 256) (by show 256 * (i 2).val + r.val < _; omega) (by omega)]
  show Ideal.div (stA _ _ _ (ix3 (⟨x.val / 128, _⟩ : Fin 8) (⟨x.val % 128, _⟩ : Fin 128) r)) (stL _ _ (ix3 (⟨x.val / 128, _⟩ : Fin 8) 0 r)) = _
  rw [eh, ed]
  rfl

end Cert.Points

end
-- ==== Proof.Arrays.lean ====
/- The kernel's run: its result array is the attention's. -/
module

public import proofs.«01_k».proof.Proof.Points
public import Idealize.ShloMosaic.Lib.Pipeline.ValueKit

@[expose] public section

set_option maxRecDepth 16384

noncomputable section

namespace Cert.Arrays

open Idealize.ShloMosaic Idealize.ShloMosaic.TcCoe Idealize.ShloMosaic.Tactic
open Cert.KernelIdeal Cert.KernelIdeal.Gen Cert.KernelIdeal.Facts Cert.Trip Cert.Points Cert.Logits

variable (m : (ℓ : Loc nD τ sig) → Buf (Elt Ideal) ℓ) (c : Dev nD)

abbrev qkv : QKV := m ((c : Thread nD τ).loc main_arg0)
abbrev sums : Sums := m ((c : Thread nD τ).loc main_arg1)

/-! ### The two arrays the host prepares -/

theorem V_main_v5 : V m c main_v5 = transpose S8x8x1024x256 [0, 1, 3, 2] (shapeCast S8x8x256x1024
    (extractStridedSlice S16384x1024 ![0, 2048] (qkv m c) slices_S16384x5120_S16384x1024_0_2048) shapeCasts_S16384x1024_S8x8x256x1024)
    transposes_S8x8x256x1024_S8x8x1024x256_0_1_3_2 := by
  unfold V
  after_results_simp <;> rfl

theorem V_main_v6 : V m c main_v6 = shapeCast S8x8x1x2048 (transpose S8x8x2048 [0, 2, 1] (extractStridedSlice S8x2048x8 ![0, 0, 0]
    (shapeCast S8x2048x128 (sums m c) shapeCasts_S16384x128_S8x2048x128) slices_S8x2048x128_S8x2048x8_0_0_0) transposes_S8x2048x8_S8x8x2048_0_2_1)
    shapeCasts_S8x8x2048_S8x8x1x2048 := by
  unfold V
  after_results_simp <;> rfl

theorem values_apply (b k : Fin 8) (x : Fin 1024) (j : Fin 256) :
    V m c main_v5 (ix4 b k x j) = qkv m c (ix2 (row b ⟨256 * k.val + j.val, by omega⟩) ⟨2048 + x.val, by omega⟩) := by
  rw [V_main_v5]
  pointwise
  refine congrArg (qkv m c) (congrArg₂ ix2 (Fin.ext ?_) rfl)
  show b.val * 2048 + k.val * 256 + j.val = 2048 * b.val + (256 * k.val + j.val)
  omega

theorem heads_apply (b h : Fin 8) (q : Fin 2048) :
    V m c main_v6 (ix4 b h 0 q) = sums m c (ix2 (row b q) (ccol h)) := by
  rw [V_main_v6]
  pointwise
  refine congrArg (sums m c) (congrArg₂ ix2 (Fin.ext ?_) rfl)
  show b.val * 2048 + q.val = 2048 * b.val + q.val
  omega

/-! ### The blocks -/

theorem e0 : ∀ t : Fin cfg0.N, win0_0.index t = ![8 * (grid0.coords t 0).val + (grid0.coords t 2).val, 0] :=
  (by decide +kernel : ∀ t : Fin grid0.N, _)
theorem e1 : ∀ t : Fin cfg0.N, win0_1.index t = ![(grid0.coords t 0).val, 1] :=
  (by decide +kernel : ∀ t : Fin grid0.N, _)
theorem e2 : ∀ t : Fin cfg0.N, win0_2.index t = ![(grid0.coords t 0).val, 0, 0, 0] :=
  (by decide +kernel : ∀ t : Fin grid0.N, _)
theorem e3 : ∀ t : Fin cfg0.N, win0_3.index t = ![(grid0.coords t 0).val, 0, 0, (grid0.coords t 2).val] :=
  (by decide +kernel : ∀ t : Fin grid0.N, _)
theorem e4 : ∀ t : Fin cfg0.N, win0_4.index t = ![(grid0.coords t 0).val, 0] :=
  (by decide +kernel : ∀ t : Fin grid0.N, _)
theorem e5 : ∀ t : Fin cfg0.N, win0_5.index t = ![8 * (grid0.coords t 0).val + (grid0.coords t 2).val, 0] :=
  (by decide +kernel : ∀ t : Fin grid0.N, _)

theorem blocks (t : Fin cfg0.N) :
    Blocks (grid0.coords t) (iblk m c 0 t) (iblk m c 1 t) (iblk m c 2 t) (iblk m c 3 t) (iblk m c 4 t) (qkv m c) (sums m c) where
  e0 r x := by
    blk_simp [iblk]
    rw [V_main_arg0]
    refine congrArg (qkv m c) ?_
    blk_ext [e0]
    · show _ = 2048 * (grid0.coords t 0).val + (256 * (grid0.coords t 2).val + r.val)
      omega
  e1 j x := by
    blk_simp [iblk]
    rw [V_main_arg0]
    refine congrArg (qkv m c) ?_
    blk_ext [e1]
    · show _ = 2048 * (grid0.coords t 0).val + j.val
      omega
  e2 k x j := by
    have hb : (grid0.coords t 0).val < 8 := (grid0.coords t 0).isLt
    refine Eq.trans ?_ (values_apply m c (seq (grid0.coords t)) k x j)
    blk_simp [iblk]
    refine congrArg (V m c main_v5) ?_
    blk_ext [e2]
    rfl
  e3 h r := by
    refine Eq.trans ?_ (heads_apply m c (seq (grid0.coords t)) h (pos (grid0.coords t) r))
    blk_simp [iblk]
    refine congrArg (V m c main_v6) ?_
    blk_ext [e3]
    · rfl
    · show _ = 256 * (grid0.coords t 2).val + r.val
      omega
  e4 j h := by
    blk_simp [iblk]
    rw [V_main_arg1]
    refine congrArg (sums m c) ?_
    blk_ext [e4]
    · show _ = 2048 * (grid0.coords t 0).val + j.val
      omega

/-- The result array the run leaves. -/
def result (X : QKV) (C : Sums) : (⟨2, ![16384, 1024]⟩ : Shape).Idx → EReal := fun y =>
  attn X C ⟨(y 0).val / 2048, by have : (y 0).val < 16384 := (y 0).isLt; omega⟩ ⟨(y 1).val / 128, by have : (y 1).val < 1024 := (y 1).isLt; omega⟩
    ⟨(y 0).val % 2048, by omega⟩ ⟨(y 1).val % 128, by omega⟩

theorem final (F : Finite (qkv m c) (sums m c)) : (dats m 0 c).arrAt 5 cfg0.N = result (qkv m c) (sums m c) := by
  refine (dats m 0 c).arrAt_eq_of_covers 5 _ (by decide +kernel) fun t hf y => ?_
  blk_simp
  rw [after0_5]
  unfold outsAt0 out0_A_5
  rw [View.read_writes_junk_eq_canon]
  obtain ⟨r, x, rfl⟩ : ∃ r x, y = ix2 (n0 := 256) (n1 := 1024) r x := ⟨y 0, y 1, eq_ix2 y⟩
  refine (block_value ⟨_, hs0_0 t, _, hs0_1 t, _, hs0_2 t, _, hs0_3 t, _, hs0_4 t, _, hs0_5 t, _, Memref.isWhole_whole _, _, Memref.isWhole_whole _, _, Memref.isWhole_whole _⟩
    c (grid0.coords t) _ _ _ _ _ (qkv m c) (sums m c) (blocks m c t) F r ⟨x.val / 128, by omega⟩ ⟨x.val % 128, by omega⟩ x
    (by show x.val = 128 * (x.val / 128) + x.val % 128; omega)).trans ?_
  have hb : (grid0.coords t 0).val < 8 := (grid0.coords t 0).isLt
  have hq : (grid0.coords t 2).val < 8 := (grid0.coords t 2).isLt
  have h0 : ((win0_5.blk t).view.emb (ix2 r x) 0).val = 2048 * (grid0.coords t 0).val + (256 * (grid0.coords t 2).val + r.val) := by
    blk_simp [e5]
    omega
  have h1 : ((win0_5.blk t).view.emb (ix2 r x) 1).val = x.val := by
    blk_simp [e5]
  unfold result
  congr 1 <;> apply Fin.ext
  · show (grid0.coords t 0).val = _ / 2048
    rw [h0]
    omega
  · show x.val / 128 = _ / 128
    rw [h1]
  · show 256 * (grid0.coords t 2).val + r.val = _ % 2048
    rw [h0]
    omega
  · show x.val % 128 = _ % 128
    rw [h1]

end Cert.Arrays

end
-- ==== Proof.Ref.lean ====
/- The reference's result at an index is the attention's. -/
module

public import proofs.«01_k».proof.Proof.Gen.ReferenceIdeal.Read
public import proofs.«01_k».proof.Proof.Logits
public import Idealize.ShloMosaic.Lib.Pointwise
public import Idealize.ShloMosaic.Lib.WordCmp

@[expose] public section

set_option maxRecDepth 16384

noncomputable section

namespace Cert.Ref

open Idealize.ShloMosaic Cert.ReferenceIdeal Cert.ReferenceIdeal.Gen Cert.ReferenceIdeal.Read Cert.Logits Cert.Online Cert.Heads

variable (X : QKV) (C : Sums) (b h : Fin 8) (q k : Fin 2048)

theorem scores : val_main_v20 (F := Ideal) X C (ix4 b h q k) = raw X C b h q k := by
  pointwise [val_main_v20, val_main_v17, val_main_v14, val_main_v12, val_main_v13, val_main_v16, val_main_v15, val_main_v19, val_main_v18,
    val_main_cst, val_main_v11, val_main_v10, val_main_v9, val_main_v2, val_main_v1, val_main_v0, val_main_v5, val_main_v4, val_main_v3]
  have er : ∀ q : Fin 2048, (⟨b.val * 2048 + q.val, by omega⟩ : Fin 16384) = row b q := fun q => Fin.ext (by show b.val * 2048 + q.val = 2048 * b.val + q.val; omega)
  have eq : ∀ d : Fin 128, (⟨h.val * 128 + d.val, by omega⟩ : Fin 5120) = qcol h d := fun d => Fin.ext (by show h.val * 128 + d.val = 128 * h.val + d.val; omega)
  have ek : ∀ d : Fin 128, (⟨1024 + (h.val * 128 + d.val), by omega⟩ : Fin 5120) = kcol h d :=
    fun d => Fin.ext (by show 1024 + (h.val * 128 + d.val) = 1024 + (128 * h.val + d.val); omega)
  simp only [er, eq, ek]
  unfold raw
  rw [sub_eq_add_neg, sub_eq_add_neg, add_assoc]
  congr 2
  exact Finset.sum_congr rfl fun d _ => mul_comm _ _

theorem masked_eq : val_main_v27 (F := Ideal) X C (ix4 b h q k) = logit X C b h q k.val := by
  pointwise [val_main_v27, val_main_call0_v1, val_main_v26, val_main_v24, val_main_v22, val_main_v21, val_main_v25, val_main_v23, val_main_call0_v2,
    val_main_call0_v0, val_main_cst_0]
  rw [WordCmp.cmpi_sge_ofNat (by have := q.isLt; omega) (by have := k.isLt; omega), scores]
  unfold logit
  by_cases hk : k.val ≤ q.val
  · rw [dif_pos hk]
    simp [Scalar.select, hk]
  · rw [dif_neg hk]
    simp only [Scalar.select, hk, decide_false]
    exact ofBits_negInf

theorem fold_eq : val_main_v28 (F := Ideal) X C (ix3 b h q) = sMax (logit X C b h q) 2048 := by
  have key := sMax_block (logit X C b h q) 0 2048
  rw [sMax_zero, Nat.zero_add, max_eq_right bot_le] at key
  rw [key]
  have hf : ∀ y : S8x8x2048x2048.Idx → EReal, Host.reduce (max : EReal → EReal → EReal) y (val_main_cst_1 (F := Ideal)) reducesTo_S8x8x2048x2048_S8x8x2048_d3 h_S_ (ix3 b h q)
      = (Finset.univ : Finset (Fin 2048)).fold max ⊥ fun k => y (ix4 b h q k) := by
    intro y
    rw [Host.reduce_eq_fold_single max y _ reducesTo_S8x8x2048x2048_S8x8x2048_d3 (by decide) h_S_]
    have e0 : val_main_cst_1 (F := Ideal) (Shape.Idx.first h_S_) = (⊥ : EReal) := ofBits_negInf
    rw [e0]
    congr 1
    funext k
    exact congrArg y (funext fun a => Fin.ext (by match a with | ⟨0, _⟩ => rfl | ⟨1, _⟩ => rfl | ⟨2, _⟩ => rfl | ⟨3, _⟩ => rfl))
  refine (hf (val_main_v27 (F := Ideal) X C)).trans ?_
  congr 1
  funext k
  rw [Nat.zero_add]
  exact masked_eq X C b h q k

theorem max_eq : val_main_v30 (F := Ideal) X C (ix3 b h q) = sMax (logit X C b h q) 2048 := by
  rw [val_main_v30_apply, fold_eq, val_main_v29_apply, val_main_cst_2_apply]
  refine Eq.trans (congrArg (fun e : EReal => max e _) ?_) (max_eq_right bot_le)
  exact ofBits_negInf

theorem weight_eq : val_main_v34 (F := Ideal) X C (ix4 b h q k) = Ideal.exp (logit X C b h q k.val - sMax (logit X C b h q) 2048) := by
  have e : val_main_v32 (F := Ideal) X C (ix4 b h q k) = val_main_v30 (F := Ideal) X C (ix3 b h q) := by
    pointwise [val_main_v32, val_main_v31]
  rw [val_main_v34_apply, val_main_v33_apply, masked_eq, e, max_eq]
  rfl

theorem sum_eq : val_main_v35 (F := Ideal) X C (ix3 b h q) = sSum (logit X C b h q) 2048 := by
  rw [val_main_v35_apply]
  have e0 : val_main_cst_3 (F := Ideal) (Shape.Idx.first h_S_) = (0 : EReal) := Ideal.ofBits_zero_f32
  rw [e0, zero_add, sSum, Finset.sum_range]
  refine Finset.sum_congr rfl fun k _ => ?_
  have : idx_main_v35 (ix3 b h q) k = ix4 b h q k := by
    funext a
    match a with | ⟨0, _⟩ => rfl | ⟨1, _⟩ => rfl | ⟨2, _⟩ => rfl | ⟨3, _⟩ => rfl
  rw [this, weight_eq]

theorem prob_eq : val_main_v38 (F := Ideal) X C (ix4 b h q k)
    = Ideal.div (Ideal.exp (logit X C b h q k.val - sMax (logit X C b h q) 2048)) (sSum (logit X C b h q) 2048) := by
  have e : val_main_v37 (F := Ideal) X C (ix4 b h q k) = val_main_v35 (F := Ideal) X C (ix3 b h q) := by
    pointwise [val_main_v37, val_main_v36]
  rw [val_main_v38_apply, weight_eq, e, sum_eq]
  rfl

theorem values_eq (d : Fin 128) : val_main_v8 (F := Ideal) X (ix4 b k h d) = value X b h d k.val := by
  pointwise [val_main_v8, val_main_v7, val_main_v6]
  unfold value
  rw [dif_pos k.isLt]
  exact congrArg X (congrArg₂ ix2 (Fin.ext (by show b.val * 2048 + k.val = 2048 * b.val + k.val; omega)) (Fin.ext (by show 2048 + (h.val * 128 + d.val) = 2048 + (128 * h.val + d.val); omega)))

theorem attn_eq (d : Fin 128) : val_main_v39 (F := Ideal) X C (ix4 b h d q) = attn X C b h q d := by
  rw [val_main_v39_apply]
  unfold attn
  refine Finset.sum_congr rfl fun k _ => ?_
  have el : lidx_main_v39 (ix4 b h d q) k = ix4 b k h d := by
    funext a
    match a with | ⟨0, _⟩ => rfl | ⟨1, _⟩ => rfl | ⟨2, _⟩ => rfl | ⟨3, _⟩ => rfl
  have er : ridx_main_v39 (ix4 b h d q) k = ix4 b h q k := by
    funext a
    match a with | ⟨0, _⟩ => rfl | ⟨1, _⟩ => rfl | ⟨2, _⟩ => rfl | ⟨3, _⟩ => rfl
  rw [el, er, prob_eq, values_eq]

/-- The reference's result at row `2048 b + q`, column `128 h + d`. -/
theorem result (r : Fin 16384) (x : Fin 1024) (hr : r.val = 2048 * b.val + q.val) (d : Fin 128) (hx : x.val = 128 * h.val + d.val) :
    val_main_v42 (F := Ideal) X C (ix2 r x) = attn X C b h q d := by
  pointwise [val_main_v42, val_main_v41, val_main_v40]
  rw [← attn_eq]
  refine congrArg (val_main_v39 (F := Ideal) X C) ?_
  congr 1 <;> apply Fin.ext <;> simp only [hr, hx] <;> omega

end Cert.Ref

end
-- ==== Proof.Pre.lean ====
/- The precondition, read off its function: queries, keys and forget sums are real numbers. -/
module

public import proofs.«01_k».proof.Proof.Gen.Pre_finite_logits
public import proofs.«01_k».proof.Proof.Logits
public import Idealize.ShloMosaic.Lib.ReduceAll
public import Idealize.ShloMosaic.Lib.Pointwise
public import Idealize.ShloMosaic.Lib.WordCmp

@[expose] public section

set_option maxRecDepth 16384

noncomputable section

namespace Cert.Pre

open Idealize.ShloMosaic Cert.Pre_finite_logits Cert.Logits

instance : Subsingleton S_.Idx := ⟨fun a b => funext fun x => x.elim0⟩

theorem ofBits_inf : Ideal.ofBits .f32 0x7F800000#32 = (⊤ : EReal) := by
  simp [Ideal.ofBits, Ideal.ieee]

/-- A value whose absolute value is below `⊤` is a real number. -/
theorem real_of_abs_lt (x : EReal) (h : max x (-x) < ⊤) : ∃ a : ℝ, x = (a : EReal) := by
  have h1 : x ≠ ⊤ := fun e => by simp [e] at h
  have h2 : x ≠ ⊥ := fun e => by simp [e] at h
  exact ⟨x.toReal, (EReal.coe_toReal h1 h2).symm⟩

theorem finite (X : QKV) (C : Sums) (hp : Cert.Pre_finite_logits.fn (F := Ideal) X C = fun _ => 1#1) : Finite X C := by
  have h0 := congrFun hp ix0
  simp only [Cert.Pre_finite_logits.fn] at h0
  obtain ⟨ha, hb⟩ := IntOp.andi_eq_one.1 h0
  constructor
  · intro r x hx
    have h1 := Host.reduce_andi_all _ _ _ _ ix0 ha (ix2 r ⟨x.val, hx⟩)
    pointwise at h1
    rw [ofBits_inf] at h1
    refine real_of_abs_lt _ ?_
    have h2 := (WordCmp.ofBool_decide_eq_one_iff _).1 h1
    exact h2
  · intro r h
    have h1 := Host.reduce_andi_all _ _ _ _ ix0 hb (ix2 r h)
    pointwise at h1
    rw [ofBits_inf] at h1
    refine real_of_abs_lt _ ?_
    have h2 := (WordCmp.ofBool_decide_eq_one_iff _).1 h1
    exact h2

end Cert.Pre

end
-- ==== Proof.MidValue.lean ====
/- The first half of the feed-forward part, normalisation and gated projections: what the call leaves and what its reference returns. -/
module

public import proofs.«01_k».proof.Proof.Gen.MidIdeal.Value
public import proofs.«01_k».proof.Proof.Linear
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MidValue

open Idealize.ShloMosaic Idealize.ShloMosaic.TcCoe Idealize.ShloMosaic.Tactic
open Cert.MidIdeal Cert.MidIdeal.Gen Cert.MidIdeal.Facts Cert.Linear

/-- The normalised block of rows that the first point of a row block stores. -/
theorem norm_apply (x0 : Vec Ideal S1024x2048 .f32) (x1 : Vec Ideal S1x2048 .f32) (r : Fin 1024) (k : Fin 2048) :
    k0_pay1 x0 x1 (ix2 r k) = normed (fun i => x0 (ix2 r i)) (fun i => x1 (ix2 0 i)) k := by
  pointwise [k0_pay1]
  rfl

/-- What every point stores from a block of normalised rows. -/
theorem gate_apply (xn : Vec Ideal S1024x2048 .bf16) (x2 x3 : Vec Ideal S1x2048x512 .f32) (r : Fin 1024) (x : Fin 512) :
    k0_pay2 xn x2 x3 (ix2 r x) = swiglu (∑ j, xn (ix2 r j) * x2 (ix3 0 j x)) (∑ j, xn (ix2 r j) * x3 (ix3 0 j x)) := by
  pointwise [k0_pay2]
  unfold swiglu
  rw [zero_sub]

variable (m : (ℓ : Loc nD τ sig) → Buf (Elt Ideal) ℓ) (c : Dev nD)

abbrev stream : (⟨2, ![16384, 2048]⟩ : Shape).Idx → EReal := m ((c : Thread nD τ).loc main_arg0)
abbrev gains : (⟨2, ![2, 2048]⟩ : Shape).Idx → EReal := m ((c : Thread nD τ).loc main_arg1)
abbrev gateW : (⟨3, ![2, 2048, 5632]⟩ : Shape).Idx → EReal := m ((c : Thread nD τ).loc main_arg2)
abbrev upW : (⟨3, ![2, 2048, 5632]⟩ : Shape).Idx → EReal := m ((c : Thread nD τ).loc main_arg3)

theorem V_main_v2 : V m c main_v2 = shapeCast S1x2048 (shapeCast S2048 (extractStridedSlice S1x2048 ![0, 0] (gains m c)
    slices_S2x2048_S1x2048_0_0) shapeCasts_S1x2048_S2048) shapeCasts_S2048_S1x2048 := by
  unfold V
  after_results_simp <;> rfl

theorem gains_apply (i : Fin 2048) : V m c main_v2 (ix2 0 i) = gains m c (ix2 0 i) := by
  rw [V_main_v2]
  pointwise

theorem e0 : ∀ t : Fin cfg0.N, win0_0.index t = ![t.val / 11, 0] :=
  (by decide +kernel : ∀ t : Fin grid0.N, _)
theorem e1 : ∀ t : Fin cfg0.N, win0_1.index t = ![0, 0] :=
  (by decide +kernel : ∀ t : Fin grid0.N, _)
theorem e2 : ∀ t : Fin cfg0.N, win0_2.index t = ![0, 0, t.val % 11] :=
  (by decide +kernel : ∀ t : Fin grid0.N, _)
theorem e3 : ∀ t : Fin cfg0.N, win0_3.index t = ![0, 0, t.val % 11] :=
  (by decide +kernel : ∀ t : Fin grid0.N, _)
theorem e4 : ∀ t : Fin cfg0.N, win0_4.index t = ![t.val / 11, t.val % 11] :=
  (by decide +kernel : ∀ t : Fin grid0.N, _)

/-- The row of the whole array at row `r` of row block `b`. -/
def row (b : ℕ) (hb : b < 16) (r : Fin 1024) : Fin 16384 := ⟨1024 * b + r.val, by omega⟩

/-- The normalised rows of row block `b`. -/
def block (b : ℕ) (hb : b < 16) : Vec Ideal S1024x2048 .bf16 := fun y =>
  normed (fun i => stream m c (ix2 (row b hb (y 0)) i)) (fun i => gains m c (ix2 0 i)) (y 1)

theorem bound (n : ℕ) (hn : n < cfg0.N) : n / 11 < 16 := by
  have h : cfg0.N = 176 := N_0
  omega

theorem first_apply (t : Fin cfg0.N) : k0_pay1 (iblk m c 0 t) (iblk m c 1 t) = block m c (t.val / 11) (bound t.val t.isLt) := by
  funext y
  obtain ⟨r, x, rfl⟩ : ∃ r x, y = ix2 (n0 := 1024) (n1 := 2048) r x := ⟨y 0, y 1, eq_ix2 y⟩
  refine (norm_apply _ _ r x).trans ?_
  unfold block
  refine congrArg₂ (fun f g => normed f g x) (funext fun i => ?_) (funext fun i => ?_)
  · blk_simp [iblk]
    rw [V_main_arg0]
    refine congrArg (stream m c) ?_
    blk_ext [e0]
    show _ = 1024 * (t.val / 11) + r.val
    omega
  · refine Eq.trans ?_ (gains_apply m c i)
    blk_simp [iblk]
    refine congrArg (V m c main_v2) ?_
    blk_ext [e1]

/-- What the scratch holds after each point: the normalised rows of the point's row block. -/
theorem scratch : ∀ (n : ℕ) (hn : n < cfg0.N), (outsAt0 m c n hn).2 = block m c (n / 11) (bound n hn) := by
  intro n
  induction n with
  | zero =>
    intro hn
    rw [outsAt0_A m c ⟨0, hn⟩ (Nat.zero_mod _)]
    frame_out
    exact first_apply m c ⟨0, hn⟩
  | succ n ih =>
    intro hn
    by_cases h : (n + 1) % 11 = 0
    · rw [outsAt0_A m c ⟨n + 1, hn⟩ h]
      frame_out
      exact first_apply m c ⟨n + 1, hn⟩
    · rw [outsAt0_B m c ⟨n + 1, hn⟩ h]
      frame_out
      refine (ih _).trans ?_
      have : n / 11 = (n + 1) / 11 := by omega
      congr 1

/-- What each point stores, from the normalised rows of its row block. -/
theorem stored (t : Fin cfg0.N) : (outsAt0 m c t.val t.isLt).1 = k0_pay2 (block m c (t.val / 11) (bound t.val t.isLt)) (iblk m c 2 t) (iblk m c 3 t) := by
  by_cases h : t.val % 11 = 0
  · rw [outsAt0_A m c t h]
    frame_out
    rw [first_apply]
  · have ht := t.isLt
    have hs := scratch m c (t.val - 1) (by omega)
    rw [outsAt0_B m c t h]
    frame_out
    rw [hs]
    have : (t.val - 1) / 11 = t.val / 11 := by omega
    congr 1
    simp only [read_unread_whole]
    congr 1

/-- The array the call leaves. -/
theorem final : (dats m 0 c).arrAt 4 cfg0.N = fun y => gated 0 (stream m c) (gains m c) (gateW m c) (upW m c) (y 0) (y 1) := by
  refine (dats m 0 c).arrAt_eq_of_covers 4 _ (by decide +kernel) fun t hf y => ?_
  blk_simp
  rw [after0_4, stored]
  obtain ⟨r, x, rfl⟩ : ∃ r x, y = ix2 (n0 := 1024) (n1 := 512) r x := ⟨y 0, y 1, eq_ix2 y⟩
  refine (gate_apply _ _ _ r x).trans ?_
  have hr : row (t.val / 11) (bound t.val t.isLt) r = (win0_4.blk t).view.emb (ix2 r x) 0 := by
    apply Fin.ext
    blk_simp [e4]
    show 1024 * (t.val / 11) + r.val = _
    omega
  unfold gated block
  refine congrArg₂ swiglu (Finset.sum_congr rfl fun j _ => congrArg₂ (· * ·) ?_ ?_) (Finset.sum_congr rfl fun j _ => congrArg₂ (· * ·) ?_ ?_)
  · exact congrArg (fun q => normed (fun i => stream m c (ix2 q i)) _ j) hr
  · blk_simp [iblk]
    rw [V_main_arg2]
    refine congrArg (gateW m c) ?_
    blk_ext [e2, e4]
  · exact congrArg (fun q => normed (fun i => stream m c (ix2 q i)) _ j) hr
  · blk_simp [iblk]
    rw [V_main_arg3]
    refine congrArg (upW m c) ?_
    blk_ext [e3, e4]

end Cert.MidValue

end
-- ==== Proof.MidRef.lean ====
/- What the reference of the feed-forward part's first half returns. -/
module

public import proofs.«01_k».proof.Proof.Gen.MidReferenceIdeal.Read
public import proofs.«01_k».proof.Proof.Linear

@[expose] public section

set_option maxRecDepth 16384

noncomputable section

namespace Cert.MidRef

open Idealize.ShloMosaic Cert.MidReferenceIdeal Cert.MidReferenceIdeal.Gen Cert.MidReferenceIdeal.Read Cert.Linear

variable (H : (⟨2, ![16384, 2048]⟩ : Shape).Idx → EReal) (G : (⟨2, ![2, 2048]⟩ : Shape).Idx → EReal)
  (Wg Wu : (⟨3, ![2, 2048, 5632]⟩ : Shape).Idx → EReal)

/-- The normalised rows. -/
theorem norm_apply (r : Fin 16384) (k : Fin 2048) :
    val_main_v14 (F := Ideal) H G (ix2 r k) = normed (fun i => H (ix2 r i)) (fun i => G (ix2 0 i)) k := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The gate's product. -/
theorem gate_apply (r : Fin 16384) (x : Fin 5632) : val_main_v17 (F := Ideal) H G Wg (ix2 r x)
    = ∑ j, normed (fun i => H (ix2 r i)) (fun i => G (ix2 0 i)) j * Wg (ix3 0 j x) := by
  pointwise [val_main_v17, val_main_v16, val_main_v15]
  exact Finset.sum_congr rfl fun j _ => congrArg (· * _) (norm_apply H G r j)

/-- The up projection's product. -/
theorem up_apply (r : Fin 16384) (x : Fin 5632) : val_main_v21 (F := Ideal) H G Wu (ix2 r x)
    = ∑ j, normed (fun i => H (ix2 r i)) (fun i => G (ix2 0 i)) j * Wu (ix3 0 j x) := by
  pointwise [val_main_v21, val_main_v20, val_main_v19]
  exact Finset.sum_congr rfl fun j _ => congrArg (· * _) (norm_apply H G r j)

theorem reference : val_main_v23 (F := Ideal) H G Wg Wu = fun y => gated 0 H G Wg Wu (y 0) (y 1) := by
  funext y
  obtain ⟨r, x, rfl⟩ : ∃ r x, y = ix2 (n0 := 16384) (n1 := 5632) r x := ⟨y 0, y 1, eq_ix2 y⟩
  show _ = gated 0 H G Wg Wu r x
  unfold gated swiglu
  rw [← gate_apply, ← up_apply]
  pointwise [val_main_v23, val_main_v22, val_main_v18, val_main_call0_v5, val_main_call0_v4, val_main_call0_v3, val_main_call0_v2,
    val_main_call0_v1, val_main_call0_v0, val_main_call0_cst, val_main_call0_cst_0]

end Cert.MidRef

end
-- ==== Proof.DownValue.lean ====
/- The down projection of the first layer's feed-forward part: what the call leaves and what its reference returns. -/
module

public import proofs.«01_k».proof.Proof.Gen.DownIdeal.Value
public import proofs.«01_k».proof.Proof.Gen.DownReferenceIdeal.Read
public import proofs.«01_k».proof.Proof.Linear
public import Idealize.ShloMosaic.Lib.Pipeline.ValueKit
public import Idealize.ShloMosaic.Lib.Pointwise

@[expose] public section

set_option maxRecDepth 16384

noncomputable section

namespace Cert.DownValue

open Idealize.ShloMosaic Idealize.ShloMosaic.TcCoe Idealize.ShloMosaic.Tactic
open Cert.DownIdeal Cert.DownIdeal.Gen Cert.DownIdeal.Facts Cert.Linear

/-- What one grid point stores: the block of the addDot plus the block of rows times the block of columns. -/
theorem block_apply (x0 : Vec Ideal S1024x5632 .bf16) (x1 : Vec Ideal S1x5632x1024 .bf16) (x2 : Vec Ideal S1024x1024 .f32)
    (r x : Fin 1024) : out0_3 x0 x1 x2 (ix2 r x) = x2 (ix2 r x) + ∑ j : Fin 5632, x0 (ix2 r j) * x1 (ix3 0 j x) := by
  unfold out0_3
  rw [View.canon_unit_zero zeros2, View.ld_unit_zero zeros2, View.ld_unit_zero zeros3, View.ld_unit_zero zeros2]
  pointwise [k0_pay1]

variable (m : (ℓ : Loc nD τ sig) → Buf (Elt Ideal) ℓ) (c : Dev nD)

abbrev rows : (⟨2, ![16384, 5632]⟩ : Shape).Idx → EReal := m ((c : Thread nD τ).loc main_arg0)
abbrev weights : (⟨3, ![2, 5632, 2048]⟩ : Shape).Idx → EReal := m ((c : Thread nD τ).loc main_arg1)
abbrev stream : (⟨2, ![16384, 2048]⟩ : Shape).Idx → EReal := m ((c : Thread nD τ).loc main_arg2)

theorem V_main_v0 : V m c main_v0 = weights m c := by
  unfold V
  after_results_simp <;> rfl

theorem e0 : ∀ t : Fin cfg0.N, win0_0.index t = ![(grid0.coords t 1).val, 0] :=
  (by decide +kernel : ∀ t : Fin grid0.N, _)
theorem e1 : ∀ t : Fin cfg0.N, win0_1.index t = ![0, 0, (grid0.coords t 0).val] :=
  (by decide +kernel : ∀ t : Fin grid0.N, _)
theorem e2 : ∀ t : Fin cfg0.N, win0_2.index t = ![(grid0.coords t 1).val, (grid0.coords t 0).val] :=
  (by decide +kernel : ∀ t : Fin grid0.N, _)
theorem e3 : ∀ t : Fin cfg0.N, win0_3.index t = ![(grid0.coords t 1).val, (grid0.coords t 0).val] :=
  (by decide +kernel : ∀ t : Fin grid0.N, _)

/-- The array the call leaves. -/
theorem final : (dats m 0 c).arrAt 3 cfg0.N = fun y => addDot 0 (rows m c) (weights m c) (stream m c) (y 0) (y 1) := by
  refine (dats m 0 c).arrAt_eq_of_covers 3 _ (by decide +kernel) fun t hf y => ?_
  blk_simp
  rw [after0_3]
  obtain ⟨r, x, rfl⟩ : ∃ r x, y = ix2 (n0 := 1024) (n1 := 1024) r x := ⟨y 0, y 1, eq_ix2 y⟩
  refine (block_apply _ _ _ r x).trans ?_
  unfold addDot
  blk_simp [iblk]
  rw [V_main_v0, V_main_arg0, V_main_arg2]
  refine congrArg₂ (· + ·) (congrArg (stream m c) ?_) (Finset.sum_congr rfl fun j _ => congrArg₂ (· * ·) (congrArg (rows m c) ?_) (congrArg (weights m c) ?_))
  · blk_ext [e2, e3]
  · blk_ext [e0, e3]
  · blk_ext [e1, e3]

/-- The array its reference returns. -/
theorem reference (X : (⟨2, ![16384, 5632]⟩ : Shape).Idx → EReal) (W : (⟨3, ![2, 5632, 2048]⟩ : Shape).Idx → EReal)
    (H : (⟨2, ![16384, 2048]⟩ : Shape).Idx → EReal) :
    Cert.DownReferenceIdeal.Read.val_main_v4 (F := Ideal) X W H = fun y => addDot 0 X W H (y 0) (y 1) := by
  funext y
  obtain ⟨r, x, rfl⟩ : ∃ r x, y = ix2 (n0 := 16384) (n1 := 2048) r x := ⟨y 0, y 1, eq_ix2 y⟩
  unfold addDot
  pointwise [Cert.DownReferenceIdeal.Read.val_main_v4, Cert.DownReferenceIdeal.Read.val_main_v3, Cert.DownReferenceIdeal.Read.val_main_v2,
    Cert.DownReferenceIdeal.Read.val_main_v1, Cert.DownReferenceIdeal.Read.val_main_v0]

end Cert.DownValue

end
-- ==== Proof.OutValue.lean ====
/- The output projection of the second layer's mixer: what the call leaves and what its reference returns. -/
module

public import proofs.«01_k».proof.Proof.Gen.OutIdeal.Value
public import proofs.«01_k».proof.Proof.Gen.OutReferenceIdeal.Read
public import proofs.«01_k».proof.Proof.Linear
public import Idealize.ShloMosaic.Lib.Pipeline.ValueKit
public import Idealize.ShloMosaic.Lib.Pointwise

@[expose] public section

set_option maxRecDepth 16384

noncomputable section

namespace Cert.OutValue

open Idealize.ShloMosaic Idealize.ShloMosaic.TcCoe Idealize.ShloMosaic.Tactic
open Cert.OutIdeal Cert.OutIdeal.Gen Cert.OutIdeal.Facts Cert.Linear

/-- What one grid point stores: the block of the addDot plus the block of rows times the block of columns. -/
theorem block_apply (x0 : Vec Ideal S512x4096 .bf16) (x1 : Vec Ideal S1x4096x1024 .bf16) (x2 : Vec Ideal S512x1024 .f32)
    (r : Fin 512) (x : Fin 1024) : out0_3 x0 x1 x2 (ix2 r x) = x2 (ix2 r x) + ∑ j : Fin 4096, x0 (ix2 r j) * x1 (ix3 0 j x) := by
  unfold out0_3
  rw [View.canon_unit_zero zeros2, View.ld_unit_zero zeros2, View.ld_unit_zero zeros3, View.ld_unit_zero zeros2]
  pointwise [k0_pay1]

variable (m : (ℓ : Loc nD τ sig) → Buf (Elt Ideal) ℓ) (c : Dev nD)

abbrev rows : (⟨2, ![16384, 4096]⟩ : Shape).Idx → EReal := m ((c : Thread nD τ).loc main_arg0)
abbrev weights : (⟨3, ![1, 4096, 2048]⟩ : Shape).Idx → EReal := m ((c : Thread nD τ).loc main_arg1)
abbrev stream : (⟨2, ![16384, 2048]⟩ : Shape).Idx → EReal := m ((c : Thread nD τ).loc main_arg2)

theorem V_main_v0 : V m c main_v0 = weights m c := by
  unfold V
  after_results_simp <;> rfl

theorem e0 : ∀ t : Fin cfg0.N, win0_0.index t = ![(grid0.coords t 1).val, 0] :=
  (by decide +kernel : ∀ t : Fin grid0.N, _)
theorem e1 : ∀ t : Fin cfg0.N, win0_1.index t = ![0, 0, (grid0.coords t 0).val] :=
  (by decide +kernel : ∀ t : Fin grid0.N, _)
theorem e2 : ∀ t : Fin cfg0.N, win0_2.index t = ![(grid0.coords t 1).val, (grid0.coords t 0).val] :=
  (by decide +kernel : ∀ t : Fin grid0.N, _)
theorem e3 : ∀ t : Fin cfg0.N, win0_3.index t = ![(grid0.coords t 1).val, (grid0.coords t 0).val] :=
  (by decide +kernel : ∀ t : Fin grid0.N, _)

/-- The array the call leaves. -/
theorem final : (dats m 0 c).arrAt 3 cfg0.N = fun y => addDot 0 (rows m c) (weights m c) (stream m c) (y 0) (y 1) := by
  refine (dats m 0 c).arrAt_eq_of_covers 3 _ (by decide +kernel) fun t hf y => ?_
  blk_simp
  rw [after0_3]
  obtain ⟨r, x, rfl⟩ : ∃ r x, y = ix2 (n0 := 512) (n1 := 1024) r x := ⟨y 0, y 1, eq_ix2 y⟩
  refine (block_apply _ _ _ r x).trans ?_
  unfold addDot
  blk_simp [iblk]
  rw [V_main_v0, V_main_arg0, V_main_arg2]
  refine congrArg₂ (· + ·) (congrArg (stream m c) ?_) (Finset.sum_congr rfl fun j _ => congrArg₂ (· * ·) (congrArg (rows m c) ?_) (congrArg (weights m c) ?_))
  · blk_ext [e2, e3]
  · blk_ext [e0, e3]
  · blk_ext [e1, e3]

/-- The array its reference returns. -/
theorem reference (X : (⟨2, ![16384, 4096]⟩ : Shape).Idx → EReal) (W : (⟨3, ![1, 4096, 2048]⟩ : Shape).Idx → EReal)
    (H : (⟨2, ![16384, 2048]⟩ : Shape).Idx → EReal) :
    Cert.OutReferenceIdeal.Read.val_main_v3 (F := Ideal) X W H = fun y => addDot 0 X W H (y 0) (y 1) := by
  funext y
  obtain ⟨r, x, rfl⟩ : ∃ r x, y = ix2 (n0 := 16384) (n1 := 2048) r x := ⟨y 0, y 1, eq_ix2 y⟩
  unfold addDot
  pointwise [Cert.OutReferenceIdeal.Read.val_main_v3, Cert.OutReferenceIdeal.Read.val_main_v2,
    Cert.OutReferenceIdeal.Read.val_main_v1, Cert.OutReferenceIdeal.Read.val_main_v0]

end Cert.OutValue

end
-- ==== Proof.OutFoxValue.lean ====
/- The output projection of the first layer's mixer, whose rows come in two halves: what the call leaves and what its reference returns. -/
module

public import proofs.«01_k».proof.Proof.Gen.OutFoxIdeal.Value
public import proofs.«01_k».proof.Proof.Gen.OutFoxReferenceIdeal.Read
public import proofs.«01_k».proof.Proof.Linear
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutFoxValue

open Idealize.ShloMosaic Idealize.ShloMosaic.TcCoe Idealize.ShloMosaic.Tactic
open Cert.OutFoxIdeal Cert.OutFoxIdeal.Gen Cert.OutFoxIdeal.Facts Cert.Linear

/-- Place `x` of block `b`, of the two blocks that make 2048. -/
def pos (b : ℕ) (hb : b < 2) (x : Fin 1024) : Fin 2048 := ⟨1024 * b + x.val, by omega⟩

/-- The rows of `A`, then those of `B`, times the halves of the matrix `W`, added to `H`. -/
def addDots (A B : (⟨2, ![16384, 1024]⟩ : Shape).Idx → EReal) (W : (⟨3, ![1, 2048, 2048]⟩ : Shape).Idx → EReal)
    (H : (⟨2, ![16384, 2048]⟩ : Shape).Idx → EReal) (r : Fin 16384) (x : Fin 2048) : EReal :=
  H (ix2 r x) + ∑ j : Fin 1024, A (ix2 r j) * W (ix3 0 (pos 0 (by omega) j) x) + ∑ j : Fin 1024, B (ix2 r j) * W (ix3 0 (pos 1 (by omega) j) x)

/-- What every point stores from the two matrix blocks in scratch. -/
theorem store_apply (h : Vec Ideal S1024x1024 .f32) (u a v b : Vec Ideal S1024x1024 .bf16) (r x : Fin 1024) :
    k0_pay3 h u a v b (ix2 r x) = h (ix2 r x) + ∑ j : Fin 1024, a (ix2 r j) * u (ix2 j x) + ∑ j : Fin 1024, b (ix2 r j) * v (ix2 j x) := by
  pointwise [k0_pay3]

theorem upper_apply (w : Vec Ideal S1x1024x1024 .f32) (j x : Fin 1024) : k0_pay1 w (ix2 j x) = w (ix3 0 j x) := by
  pointwise [k0_pay1]

theorem lower_apply (w : Vec Ideal S1x1024x1024 .f32) (j x : Fin 1024) : k0_pay2 w (ix2 j x) = w (ix3 0 j x) := by
  pointwise [k0_pay2]

variable (m : (ℓ : Loc nD τ sig) → Buf (Elt Ideal) ℓ) (c : Dev nD)

abbrev left : (⟨2, ![16384, 1024]⟩ : Shape).Idx → EReal := m ((c : Thread nD τ).loc main_arg0)
abbrev right : (⟨2, ![16384, 1024]⟩ : Shape).Idx → EReal := m ((c : Thread nD τ).loc main_arg1)
abbrev weights : (⟨3, ![1, 2048, 2048]⟩ : Shape).Idx → EReal := m ((c : Thread nD τ).loc main_arg2)
abbrev stream : (⟨2, ![16384, 2048]⟩ : Shape).Idx → EReal := m ((c : Thread nD τ).loc main_arg3)

theorem e0 : ∀ t : Fin cfg0.N, win0_0.index t = ![t.val % 16, 0] :=
  (by decide +kernel : ∀ t : Fin grid0.N, _)
theorem e1 : ∀ t : Fin cfg0.N, win0_1.index t = ![t.val % 16, 0] :=
  (by decide +kernel : ∀ t : Fin grid0.N, _)
theorem e2 : ∀ t : Fin cfg0.N, win0_2.index t = ![t.val % 16, t.val / 16] :=
  (by decide +kernel : ∀ t : Fin grid0.N, _)
theorem e3 : ∀ t : Fin cfg0.N, win0_3.index t = ![0, 0, t.val / 16] :=
  (by decide +kernel : ∀ t : Fin grid0.N, _)
theorem e4 : ∀ t : Fin cfg0.N, win0_4.index t = ![0, 1, t.val / 16] :=
  (by decide +kernel : ∀ t : Fin grid0.N, _)
theorem e5 : ∀ t : Fin cfg0.N, win0_5.index t = ![t.val % 16, t.val / 16] :=
  (by decide +kernel : ∀ t : Fin grid0.N, _)

/-- The upper and the lower half of the matrix's column block `b`. -/
def upper (b : ℕ) (hb : b < 2) : Vec Ideal S1024x1024 .bf16 := fun y => weights m c (ix3 0 (pos 0 (by omega) (y 0)) (pos b hb (y 1)))
def lower (b : ℕ) (hb : b < 2) : Vec Ideal S1024x1024 .bf16 := fun y => weights m c (ix3 0 (pos 1 (by omega) (y 0)) (pos b hb (y 1)))

theorem bound (n : ℕ) (hn : n < cfg0.N) : n / 16 < 2 := by
  have h : cfg0.N = 32 := N_0
  omega

theorem upper_block (t : Fin cfg0.N) : k0_pay1 (iblk m c 3 t) = upper m c (t.val / 16) (bound t.val t.isLt) := by
  funext y
  obtain ⟨j, x, rfl⟩ : ∃ j x, y = ix2 (n0 := 1024) (n1 := 1024) j x := ⟨y 0, y 1, eq_ix2 y⟩
  refine (upper_apply _ j x).trans ?_
  unfold upper
  blk_simp [iblk]
  rw [V_main_arg2]
  refine congrArg (weights m c) ?_
  blk_ext [e3]
  · show j.val = 1024 * 0 + j.val
    omega
  · show t.val / 16 * 1024 + x.val = 1024 * (t.val / 16) + x.val
    omega

theorem lower_block (t : Fin cfg0.N) : k0_pay2 (iblk m c 4 t) = lower m c (t.val / 16) (bound t.val t.isLt) := by
  funext y
  obtain ⟨j, x, rfl⟩ : ∃ j x, y = ix2 (n0 := 1024) (n1 := 1024) j x := ⟨y 0, y 1, eq_ix2 y⟩
  refine (lower_apply _ j x).trans ?_
  unfold lower
  blk_simp [iblk]
  rw [V_main_arg2]
  refine congrArg (weights m c) ?_
  blk_ext [e4]
  · show 1024 + j.val = 1024 * 1 + j.val
    omega
  · show t.val / 16 * 1024 + x.val = 1024 * (t.val / 16) + x.val
    omega

/-- What the two scratch arrays hold after each point: the halves of the point's column block. -/
theorem scratch : ∀ (n : ℕ) (hn : n < cfg0.N), (outsAt0 m c n hn).2 = (upper m c (n / 16) (bound n hn), lower m c (n / 16) (bound n hn)) := by
  intro n
  induction n with
  | zero =>
    intro hn
    rw [outsAt0_A m c ⟨0, hn⟩ (Nat.zero_mod _)]
    frame_out
    exact congrArg₂ Prod.mk (upper_block m c ⟨0, hn⟩) (lower_block m c ⟨0, hn⟩)
  | succ n ih =>
    intro hn
    by_cases h : (n + 1) % 16 = 0
    · rw [outsAt0_A m c ⟨n + 1, hn⟩ h]
      frame_out
      exact congrArg₂ Prod.mk (upper_block m c ⟨n + 1, hn⟩) (lower_block m c ⟨n + 1, hn⟩)
    · rw [outsAt0_B m c ⟨n + 1, hn⟩ h]
      frame_out
      refine (ih (by omega)).trans ?_
      have : n / 16 = (n + 1) / 16 := by omega
      congr 1 <;> congr 1

/-- What each point stores, from the halves of its column block. -/
theorem stored (t : Fin cfg0.N) : (outsAt0 m c t.val t.isLt).1 = k0_pay3 (iblk m c 2 t) (upper m c (t.val / 16) (bound t.val t.isLt)) (iblk m c 0 t)
    (lower m c (t.val / 16) (bound t.val t.isLt)) (iblk m c 1 t) := by
  by_cases h : t.val % 16 = 0
  · rw [outsAt0_A m c t h]
    frame_out
    rw [upper_block, lower_block]
  · have ht := t.isLt
    have hs := scratch m c (t.val - 1) (by omega)
    rw [outsAt0_B m c t h]
    frame_out
    rw [hs]
    have : (t.val - 1) / 16 = t.val / 16 := by omega
    congr 1
    all_goals simp only [read_unread_whole]
    all_goals congr 1

/-- The array the call leaves. -/
theorem final : (dats m 0 c).arrAt 5 cfg0.N = fun y => addDots (left m c) (right m c) (weights m c) (stream m c) (y 0) (y 1) := by
  refine (dats m 0 c).arrAt_eq_of_covers 5 _ (by decide +kernel) fun t hf y => ?_
  blk_simp
  rw [after0_5, stored]
  obtain ⟨r, x, rfl⟩ : ∃ r x, y = ix2 (n0 := 1024) (n1 := 1024) r x := ⟨y 0, y 1, eq_ix2 y⟩
  refine (store_apply _ _ _ _ _ r x).trans ?_
  have hx : pos (t.val / 16) (bound t.val t.isLt) x = (win0_5.blk t).view.emb (ix2 r x) 1 := by
    apply Fin.ext
    blk_simp [e5]
    show 1024 * (t.val / 16) + x.val = _
    omega
  unfold addDots upper lower
  refine congrArg₂ (· + ·) (congrArg₂ (· + ·) ?_ (Finset.sum_congr rfl fun j _ => congrArg₂ (· * ·) ?_ ?_)) (Finset.sum_congr rfl fun j _ => congrArg₂ (· * ·) ?_ ?_)
  · blk_simp [iblk]
    rw [V_main_arg3]
    refine congrArg (stream m c) ?_
    blk_ext [e2, e5]
  · blk_simp [iblk]
    rw [V_main_arg0]
    refine congrArg (left m c) ?_
    blk_ext [e0, e5]
  · exact congrArg (fun q => weights m c (ix3 0 _ q)) hx
  · blk_simp [iblk]
    rw [V_main_arg1]
    refine congrArg (right m c) ?_
    blk_ext [e1, e5]
  · exact congrArg (fun q => weights m c (ix3 0 _ q)) hx

/-- The array its reference returns: the sum over the rows side by side, in its two halves. -/
theorem reference (A B : (⟨2, ![16384, 1024]⟩ : Shape).Idx → EReal) (W : (⟨3, ![1, 2048, 2048]⟩ : Shape).Idx → EReal)
    (H : (⟨2, ![16384, 2048]⟩ : Shape).Idx → EReal) :
    Cert.OutFoxReferenceIdeal.Read.val_main_v4 (F := Ideal) A B W H = fun y => addDots A B W H (y 0) (y 1) := by
  funext y
  obtain ⟨r, x, rfl⟩ : ∃ r x, y = ix2 (n0 := 16384) (n1 := 2048) r x := ⟨y 0, y 1, eq_ix2 y⟩
  show _ = addDots A B W H r x
  unfold addDots
  pointwise [Cert.OutFoxReferenceIdeal.Read.val_main_v4, Cert.OutFoxReferenceIdeal.Read.val_main_v3, Cert.OutFoxReferenceIdeal.Read.val_main_v2,
    Cert.OutFoxReferenceIdeal.Read.val_main_v1, Cert.OutFoxReferenceIdeal.Read.val_main_v0]
  have h0 (j : Fin 1024) : (⟨j.val, by omega⟩ : Fin 2048) = pos 0 (by omega) j := Fin.ext (by show j.val = 1024 * 0 + j.val; omega)
  have h1 (j : Fin 1024) : (⟨1024 + j.val, by omega⟩ : Fin 2048) = pos 1 (by omega) j := Fin.ext (by show 1024 + j.val = 1024 * 1 + j.val; omega)
  simp only [h0, h1]
  exact (add_assoc _ _ _).symm

end Cert.OutFoxValue

end
-- ==== Proof.Prefix.lean ====
/- Prefix sums taken by doubling, the prefix sums of a window that reaches one row further at a time, and the logarithm of the logistic function. -/
module

public import Idealize.ShloMosaic.Lib.Pointwise

@[expose] public section

set_option maxRecDepth 16384

noncomputable section

namespace Cert.Prefix

open Idealize.ShloMosaic

/-- The sum of the last `n` entries of `g` up to entry `r`, fewer where the start is nearer. -/
def last (g : ℕ → EReal) (n r : ℕ) : EReal := ∑ i ∈ Finset.Ico (r + 1 - n) (r + 1), g i

theorem last_one (g : ℕ → EReal) (r : ℕ) : last g 1 r = g r := by
  unfold last
  rw [Nat.add_sub_cancel, Nat.Ico_succ_singleton, Finset.sum_singleton]

/-- The entries up to entry `r`, where `n` reaches the start. -/
theorem last_all (g : ℕ → EReal) (n r : ℕ) (h : r < n) : last g n r = ∑ i ∈ Finset.range (r + 1), g i := by
  unfold last
  rw [Nat.sub_eq_zero_of_le h, Finset.range_eq_Ico]

/-- Doubling: the last `n` and the `n` before them are the last `2 n`. -/
theorem last_double (g : ℕ → EReal) (n r : ℕ) : last g n r + (if n ≤ r then last g n (r - n) else 0) = last g (2 * n) r := by
  unfold last
  by_cases h : n ≤ r
  · rw [if_pos h, add_comm, show r - n + 1 = r + 1 - n by omega, show r + 1 - n - n = r + 1 - 2 * n by omega]
    exact Finset.sum_Ico_consecutive g (by omega) (by omega)
  · rw [if_neg h, add_zero, show r + 1 - n = 0 by omega, show r + 1 - 2 * n = 0 by omega]

theorem foldl_sum {M : ℕ} (t : Fin M → EReal) (v : EReal) : (List.finRange M).foldl (fun r n => r + t n) v = v + ∑ n : Fin M, t n := by
  have h : ∀ (l : List (Fin M)) (a : EReal), l.foldl (fun r n => r + t n) a = a + (l.map t).sum := by
    intro l
    induction l with
    | nil => intro a; exact (add_zero a).symm
    | cons x l ih => intro a; rw [List.foldl_cons, ih, List.map_cons, List.sum_cons, add_assoc]
  rw [h, ← List.ofFn_eq_map, List.sum_ofFn]

/-- A window of `N` rows that ends at row `r`: the places before the first row hold nothing. -/
theorem window_sum (g : ℕ → EReal) (N r : ℕ) (hr : r ≤ N) :
    ∑ w : Fin (N + 1), (if N ≤ r + w.val then g (r + w.val - N) else 0) = ∑ i ∈ Finset.range (r + 1), g i := by
  rw [Fin.sum_univ_eq_sum_range (fun w => if N ≤ r + w then g (r + w - N) else 0), ← Finset.sum_filter]
  refine Finset.sum_nbij' (fun w => r + w - N) (fun i => i + N - r) ?_ ?_ ?_ ?_ fun _ _ => rfl
  all_goals
    simp only [Finset.mem_filter, Finset.mem_range]
    omega

/-- A window is one place wide but for its rows. -/
def rows (N : ℕ) : Fin N ≃ (⟨3, ![1, N, 1]⟩ : Shape).Idx where
  toFun w := ix3 (n0 := 1) (n1 := N) (n2 := 1) 0 w 0
  invFun y := y 1
  left_inv _ := rfl
  right_inv y := by
    funext a
    match a with
    | ⟨0, _⟩ => exact Subsingleton.elim (α := Fin 1) _ _
    | ⟨1, _⟩ => rfl
    | ⟨2, _⟩ => exact Subsingleton.elim (α := Fin 1) _ _

/-- The sums down the second axis, as windows of its whole length that end at each row. -/
theorem cumsum_apply {A M C : ℕ} {u : Shape} (X : FVec Ideal ⟨3, ![A, M + 1, C]⟩ .f32) (init : u.Idx → EReal) (hu : 0 < u.numel)
    (hinit : init (Shape.Idx.first hu) = 0)
    (h : (⟨3, ![A, M + 1, C]⟩ : Shape).ReduceWindows (![1, M + 1, 1] : Fin 3 → ℕ) ![1, 1, 1] ![0, M, 0] ![0, 0, 0] ⟨3, ![A, M + 1, C]⟩)
    (b : Fin A) (r : Fin (M + 1)) (x : Fin C) (g : ℕ → EReal) (hg : ∀ i : Fin (M + 1), X (ix3 b i x) = g i.val) :
    Host.reduceWindowAdd (F := Ideal) ![1, M + 1, 1] ![1, 1, 1] ![0, M, 0] ![0, 0, 0] X init h hu (ix3 b r x)
      = ∑ i ∈ Finset.range (r.val + 1), g i := by
  have hr := r.isLt
  unfold Host.reduceWindowAdd
  rw [hinit]
  change Ideal.hostReduceWindowAdd _ _ _ _ h X 0 _ = _
  unfold Ideal.hostReduceWindowAdd Host.reduceWindow
  refine (foldl_sum _ _).trans ?_
  rw [zero_add]
  refine (Equiv.sum_comp ((rows (M + 1)).trans (⟨3, ![1, M + 1, 1]⟩ : Shape).rowMajor) _).symm.trans ?_
  refine Eq.trans (Finset.sum_congr rfl fun w _ => ?_) (window_sum g M r.val (by omega))
  have hw := w.isLt
  have e : (⟨3, ![1, M + 1, 1]⟩ : Shape).rowMajor.symm (((rows (M + 1)).trans (⟨3, ![1, M + 1, 1]⟩ : Shape).rowMajor) w) = rows (M + 1) w := Equiv.symm_apply_apply _ _
  have place (a : Fin 3) : (ix3 b r x a).val * (![1, 1, 1] : Fin 3 → ℕ) a
      + ((⟨3, ![1, M + 1, 1]⟩ : Shape).rowMajor.symm (((rows (M + 1)).trans (⟨3, ![1, M + 1, 1]⟩ : Shape).rowMajor) w) a).val
      = (![b.val, r.val + w.val, x.val] : Fin 3 → ℕ) a := by
    rw [e]
    match a with
    | ⟨0, _⟩ => show b.val * 1 + 0 = b.val; omega
    | ⟨1, _⟩ => show r.val * 1 + w.val = r.val + w.val; omega
    | ⟨2, _⟩ => show x.val * 1 + 0 = x.val; omega
  dsimp only
  split
  · next hin =>
    have h1 := (hin 1).1
    change M ≤ _ at h1
    have h1 : M ≤ r.val + w.val := h1.trans_eq (place 1)
    rw [if_pos h1]
    refine Eq.trans (congrArg X (funext fun a => Fin.ext ?_)) (hg ⟨r.val + w.val - M, by omega⟩)
    refine (congrArg (· - (![0, M, 0] : Fin 3 → ℕ) a) (place a)).trans ?_
    match a with
    | ⟨0, _⟩ => rfl
    | ⟨1, _⟩ => rfl
    | ⟨2, _⟩ => rfl
  · next hin =>
    rw [if_neg fun hle => hin fun a => by
      have hb := b.isLt
      have hx := x.isLt
      refine Eq.mpr (congrArg (fun p : ℕ => (![0, M, 0] : Fin 3 → ℕ) a ≤ p ∧ p - (![0, M, 0] : Fin 3 → ℕ) a < (![A, M + 1, C] : Fin 3 → ℕ) a) (place a)) ?_
      match a with
      | ⟨0, _⟩ => show 0 ≤ b.val ∧ b.val - 0 < A; omega
      | ⟨1, _⟩ => show M ≤ r.val + w.val ∧ r.val + w.val - M < M + 1; omega
      | ⟨2, _⟩ => show 0 ≤ x.val ∧ x.val - 0 < C; omega]

/-- One doubling step over an array whose rows count from the start of their group: each row and, where its group reaches so far, the row
`s` above it. -/
def double {R : ℕ} (count : IVec ⟨2, ![R, 128]⟩ 32) (h : (⟨2, ![R, 128]⟩ : Shape).Rotates 0 none) (s : BitVec 32)
    (f : FVec Ideal ⟨2, ![R, 128]⟩ .f32) : FVec Ideal ⟨2, ![R, 128]⟩ .f32 :=
  addf f (select (cmpi .sge count (broadcast ⟨2, ![R, 128]⟩ s)) (dynamicRotate 0 s none f h)
    (broadcast ⟨2, ![R, 128]⟩ (Scalar.ofBits (F := Ideal) .f32 0x00000000#32)))

theorem double_apply {R P : ℕ} (hP : 0 < P) (hPR : P ≤ R) (hR : R < 2 ^ 31) (count : IVec ⟨2, ![R, 128]⟩ 32)
    (hc : ∀ (r : Fin R) (x : Fin 128), count (ix2 r x) = BitVec.ofNat 32 (r.val % P)) (h : (⟨2, ![R, 128]⟩ : Shape).Rotates 0 none)
    (s : BitVec 32) (n : ℕ) (hs : s.toNat = n) (hn : n < P) (f : FVec Ideal ⟨2, ![R, 128]⟩ .f32) (g : ℕ → Fin 128 → ℕ → EReal)
    (hf : ∀ (r : Fin R) (x : Fin 128), f (ix2 r x) = last (g (r.val / P) x) n (r.val % P)) (r : Fin R) (x : Fin 128) :
    double count h s f (ix2 r x) = last (g (r.val / P) x) (2 * n) (r.val % P) := by
  rw [← last_double]
  show f (ix2 r x) + Scalar.select (Scalar.cmpi .sge (count (ix2 r x)) s) (dynamicRotate 0 s none f h (ix2 r x)) (Ideal.ofBits .f32 0x00000000#32) = _
  rw [hc, hf]
  refine congrArg _ ?_
  have hr := r.isLt
  have hm : r.val % P < P := Nat.mod_lt _ hP
  have hle : r.val % P ≤ r.val := Nat.mod_le _ _
  have e : Scalar.cmpi .sge (BitVec.ofNat 32 (r.val % P)) s = BitVec.ofBool (decide (n ≤ r.val % P)) := by
    refine congrArg BitVec.ofBool ?_
    show BitVec.sle s (BitVec.ofNat 32 (r.val % P)) = _
    have h1 : s.toInt = n := by rw [BitVec.toInt_eq_toNat_of_lt (by omega), hs]
    have h2 : (BitVec.ofNat 32 (r.val % P)).toNat = r.val % P := Nat.mod_eq_of_lt (by omega)
    have h3 : (BitVec.ofNat 32 (r.val % P)).toInt = (r.val % P : ℕ) := by rw [BitVec.toInt_eq_toNat_of_lt (by omega), h2]
    rw [BitVec.sle_eq_decide, h1, h3]
    exact decide_eq_decide.mpr Int.ofNat_le
  rw [e]
  by_cases h0 : n ≤ r.val % P
  · rw [if_pos h0, decide_eq_true h0]
    show dynamicRotate 0 s none f h (ix2 r x) = _
    have hd := Nat.div_add_mod r.val P
    have hq : (r.val - n) / P = r.val / P := by
      rw [show r.val - n = (r.val % P - n) + P * (r.val / P) by omega, Nat.add_mul_div_left _ _ hP, Nat.div_eq_of_lt (by omega), Nat.zero_add]
    have hp : (r.val - n) % P = r.val % P - n := by
      rw [show r.val - n = (r.val % P - n) + P * (r.val / P) by omega, Nat.add_mul_mod_self_left, Nat.mod_eq_of_lt (by omega)]
    refine Eq.trans (congrArg f ?_) ((hf ⟨r.val - n, by omega⟩ x).trans ?_)
    · funext a
      match a with
      | ⟨0, _⟩ =>
        apply Fin.ext
        show (r.val + R - (s.toNat + 0) % R) % R = r.val - n
        rw [hs, Nat.add_zero, Nat.mod_eq_of_lt (show n < R by omega), show r.val + R - n = (r.val - n) + R by omega, Nat.add_mod_right,
          Nat.mod_eq_of_lt (by omega)]
      | ⟨1, _⟩ => rfl
    · show last (g ((r.val - n) / P) x) n ((r.val - n) % P) = _
      rw [hq, hp]
  · rw [if_neg h0, decide_eq_false h0]
    show Ideal.ofBits .f32 0x00000000#32 = 0
    exact Ideal.ofBits_zero_f32

/-- The logarithm of the logistic function. -/
def logLogistic (z : EReal) : EReal := min z 0 - Ideal.log (1 + Ideal.exp (-max z (-z)))

theorem exp_neg_abs (z : EReal) : ∃ a : ℝ, 0 ≤ a ∧ Ideal.exp (-max z (-z)) = (a : EReal) := by
  induction z with
  | bot =>
    refine ⟨0, le_refl _, ?_⟩
    rw [EReal.neg_bot, max_eq_right bot_le, EReal.neg_top]
    rfl
  | top =>
    refine ⟨0, le_refl _, ?_⟩
    rw [max_eq_left le_top, EReal.neg_top]
    rfl
  | coe x =>
    refine ⟨Real.exp (-max x (-x)), (Real.exp_pos _).le, ?_⟩
    rw [← EReal.coe_neg, ← EReal.coe_strictMono.monotone.map_max, ← EReal.coe_neg]
    rfl

theorem log_real (a : ℝ) (h : 0 ≤ a) : ∃ b : ℝ, Ideal.log (1 + (a : EReal)) = (b : EReal) := by
  refine ⟨Real.log (1 + a), ?_⟩
  rw [← EReal.coe_one, ← EReal.coe_add]
  show (if 1 + a ≤ 0 then ⊥ else (Real.log (1 + a) : EReal)) = _
  rw [if_neg (by linarith)]

theorem neg_max (z : EReal) : -max (-z) 0 = min z 0 := by
  rcases le_total z 0 with h | h
  · rw [max_eq_left (by simpa using EReal.neg_le_neg_iff.mpr h), neg_neg, min_eq_left h]
  · rw [max_eq_right (by simpa using EReal.neg_le_neg_iff.mpr h), neg_zero, min_eq_right h]

/-- The same by way of the negated argument. -/
theorem logLogistic_eq (z : EReal) : -(max (-z) 0 + Ideal.log1p (Ideal.exp (-max (-z) (- -z)))) = logLogistic z := by
  unfold logLogistic Ideal.log1p
  rw [neg_neg, max_comm (-z) z]
  obtain ⟨a, ha, e⟩ := exp_neg_abs z
  obtain ⟨b, e'⟩ := log_real a ha
  rw [e, e', EReal.neg_add (.inr (EReal.coe_ne_top b)) (.inr (EReal.coe_ne_bot b)), neg_max]

end Cert.Prefix

end
-- ==== Proof.GatesValue.lean ====
/- The forget gates of the first layer: what the call leaves and what its reference returns. -/
module

public import proofs.«01_k».proof.Proof.Gen.GatesIdeal.Value
public import proofs.«01_k».proof.Proof.Gen.GatesReferenceIdeal.Read
public import proofs.«01_k».proof.Proof.Linear
public import proofs.«01_k».proof.Proof.Prefix
public import Idealize.ShloMosaic.Lib.Pipeline.ValueKit
public import Idealize.ShloMosaic.Lib.Pointwise

@[expose] public section

set_option maxRecDepth 16384

noncomputable section

namespace Cert.GatesValue

open Idealize.ShloMosaic Idealize.ShloMosaic.TcCoe Idealize.ShloMosaic.Tactic
open Cert.GatesIdeal Cert.GatesIdeal.Gen Cert.GatesIdeal.Facts Cert.Linear Cert.Prefix

/-! ## What a point stores -/

/-- The block before the first step. -/
def gates (f : Vec Ideal S2048x128 .f32) (b : Vec Ideal S1x128 .f32) : FVec Ideal S2048x128 .f32 := fun y =>
  logLogistic (f y + b (ix2 0 (y 1)))

theorem first (f : Vec Ideal S2048x128 .f32) (b : Vec Ideal S1x128 .f32) : k0_pay3 f b = double k0_pay2 rotates_S2048x128_d0 1#32 (gates f b) := by
  have h : ∀ g : FVec Ideal S2048x128 .f32, g = gates f b → addf g (select (cmpi .sge k0_pay2 (broadcast S2048x128 1#32))
      (dynamicRotate 0 1#32 none g rotates_S2048x128_d0) (broadcast S2048x128 (Scalar.ofBits (F := Ideal) .f32 0x00000000#32)))
      = double k0_pay2 rotates_S2048x128_d0 1#32 (gates f b) := by
    rintro _ rfl
    rfl
  refine h _ (funext fun y => ?_)
  obtain ⟨r, x, rfl⟩ : ∃ r x, y = ix2 (n0 := 2048) (n1 := 128) r x := ⟨y 0, y 1, eq_ix2 y⟩
  unfold gates logLogistic
  pointwise
  rw [zero_sub]
  rfl

theorem row_apply (r : Fin 2048) (x : Fin 128) : k0_pay2 (ix2 r x) = BitVec.ofNat 32 r.val := by
  pointwise [k0_pay2]
  revert r
  decide +kernel

/-- What a point stores: the sums down the block. -/
theorem block_apply (f : Vec Ideal S2048x128 .f32) (b : Vec Ideal S1x128 .f32) (g : Fin 128 → ℕ → EReal)
    (hg : ∀ (r : Fin 2048) (x : Fin 128), logLogistic (f (ix2 r x) + b (ix2 0 x)) = g x r.val) (r : Fin 2048) (x : Fin 128) :
    out0_2 f b (ix2 r x) = ∑ i ∈ Finset.range (r.val + 1), g x i := by
  unfold_out out0_2
  rw [View.canon_unit_zero zeros2, View.ld_unit_zero zeros2, View.ld_unit_zero zeros2]
  have step := fun s n hs hn => double_apply (R := 2048) (P := 2048) (by omega) le_rfl (by omega) k0_pay2
    (fun r x => (row_apply r x).trans (congrArg _ (Nat.mod_eq_of_lt r.isLt).symm)) rotates_S2048x128_d0 s n hs hn (g := fun _ => g)
  have h0 (r : Fin 2048) (x : Fin 128) : gates f b (ix2 r x) = last (g x) 1 (r.val % 2048) :=
    (hg r x).trans ((congrArg (g x) (Nat.mod_eq_of_lt r.isLt).symm).trans (last_one _ _).symm)
  have h1 := step 1#32 1 rfl (by omega) _ h0
  rw [← first] at h1
  have h2 := step 2#32 2 rfl (by omega) _ h1
  have h3 := step 4#32 4 rfl (by omega) _ h2
  have h4 := step 8#32 8 rfl (by omega) _ h3
  have h5 := step 16#32 16 rfl (by omega) _ h4
  have h6 := step 32#32 32 rfl (by omega) _ h5
  have h7 := step 64#32 64 rfl (by omega) _ h6
  have h8 := step 128#32 128 rfl (by omega) _ h7
  have h9 := step 256#32 256 rfl (by omega) _ h8
  have h10 := step 512#32 512 rfl (by omega) _ h9
  have h11 := step 1024#32 1024 rfl (by omega) _ h10
  refine (h11 r x).trans ((last_all _ _ _ (Nat.mod_lt _ (by omega))).trans ?_)
  rw [Nat.mod_eq_of_lt r.isLt]

/-! ## The call -/

/-- The biases of the eight heads, then zeros. -/
def padded (B : (⟨2, ![1, 8]⟩ : Shape).Idx → EReal) (x : Fin 128) : EReal := if h : x.val < 8 then B (ix2 0 ⟨x.val, h⟩) else 0

/-- The logarithm of head `x`'s forget gate in row `n`. -/
def gate (L : (⟨2, ![16384, 128]⟩ : Shape).Idx → EReal) (B : (⟨2, ![1, 8]⟩ : Shape).Idx → EReal) (x : Fin 128) (n : ℕ) : EReal :=
  if h : n < 16384 then logLogistic (L (ix2 ⟨n, h⟩ x) + padded B x) else 0

/-- Their sums from the sequence's first row to row `r`. -/
def sums (L : (⟨2, ![16384, 128]⟩ : Shape).Idx → EReal) (B : (⟨2, ![1, 8]⟩ : Shape).Idx → EReal) (r : Fin 16384) (x : Fin 128) : EReal :=
  ∑ i ∈ Finset.range (r.val % 2048 + 1), gate L B x (r.val / 2048 * 2048 + i)

variable (m : (ℓ : Loc nD τ sig) → Buf (Elt Ideal) ℓ) (c : Dev nD)

abbrev logits : (⟨2, ![16384, 128]⟩ : Shape).Idx → EReal := m ((c : Thread nD τ).loc main_arg0)
abbrev biases : (⟨2, ![1, 8]⟩ : Shape).Idx → EReal := m ((c : Thread nD τ).loc main_arg1)

theorem V_main_v2 : V m c main_v2 = pad S1x128 ![0, 0] ![0, 120] ![0, 0]
    (shapeCast S1x8 (shapeCast S8 (biases m c : FVec Ideal S1x8 .f32) shapeCasts_S1x8_S8) shapeCasts_S8_S1x8)
    (sitofp (F := Ideal) .f32 (constantI S_ 32 0#32) : FVec Ideal S_ .f32) pads_S1x8_S1x128_000_01200 h_S_ := by
  unfold V
  simp only [List.flatten_cons, List.flatten_nil, List.append_nil, List.cons_append, List.nil_append]
  after_results_simp <;> rfl

theorem bias_apply (x : Fin 128) : V m c main_v2 (ix2 0 x) = padded (biases m c) x := by
  rw [V_main_v2]
  unfold padded
  pointwise
  refine congrArg (dite (x.val < 8) _) (funext fun _ => ?_)
  show (((0#32 : BitVec 32).toInt : ℝ) : EReal) = 0
  simp

theorem e0 : ∀ t : Fin cfg0.N, win0_0.index t = ![t.val, 0] :=
  (by decide +kernel : ∀ t : Fin grid0.N, _)
theorem e1 : ∀ t : Fin cfg0.N, win0_1.index t = ![0, 0] :=
  (by decide +kernel : ∀ t : Fin grid0.N, _)
theorem e2 : ∀ t : Fin cfg0.N, win0_2.index t = ![t.val, 0] :=
  (by decide +kernel : ∀ t : Fin grid0.N, _)

theorem bound (t : Fin cfg0.N) : t.val < 8 := by
  have h : cfg0.N = 8 := N_0
  have := t.isLt
  omega

/-- The array the call leaves. -/
theorem final : (dats m 0 c).arrAt 2 cfg0.N = fun y => sums (logits m c) (biases m c) (y 0) (y 1) := by
  refine (dats m 0 c).arrAt_eq_of_covers 2 _ (by decide +kernel) fun t hf y => ?_
  have ht := bound t
  blk_simp
  rw [after0_2]
  obtain ⟨r, x, rfl⟩ : ∃ r x, y = ix2 (n0 := 2048) (n1 := 128) r x := ⟨y 0, y 1, eq_ix2 y⟩
  refine (block_apply _ _ (fun x i => gate (logits m c) (biases m c) x (t.val * 2048 + i)) (fun r x => ?_) r x).trans ?_
  · have hn : t.val * 2048 + r.val < 16384 := by omega
    unfold gate
    rw [dif_pos hn]
    refine congrArg logLogistic (congrArg₂ (· + ·) ?_ ?_)
    · blk_simp [iblk]
      rw [V_main_arg0]
      refine congrArg (logits m c) ?_
      blk_ext [e0]
    · rw [← bias_apply]
      blk_simp [iblk]
      refine congrArg (V m c main_v2) ?_
      blk_ext [e1]
  · have h0 : ((win0_2.blk t).view.emb (ix2 r x) 0).val = t.val * 2048 + r.val := by blk_simp [e2]
    have h1 : x = (win0_2.blk t).view.emb (ix2 r x) 1 := by
      apply Fin.ext
      blk_simp [e2]
    have hr := r.isLt
    unfold sums
    rw [h0, ← h1, show (t.val * 2048 + r.val) % 2048 = r.val by omega, show (t.val * 2048 + r.val) / 2048 = t.val by omega]

/-! ## Its reference -/

open Cert.GatesReferenceIdeal.Read

variable (L : (⟨2, ![16384, 128]⟩ : Shape).Idx → EReal) (B : (⟨2, ![1, 8]⟩ : Shape).Idx → EReal)

theorem bias_reference (x : Fin 128) : val_main_v1 (F := Ideal) B (ix1 x) = padded B x := by
  unfold padded
  pointwise [val_main_v1, val_main_v0, val_main_call0_v0, val_main_c]
  refine congrArg (dite (x.val < 8) _) (funext fun _ => ?_)
  show (((0#32 : BitVec 32).toInt : ℝ) : EReal) = 0
  simp

theorem gate_reference (r : Fin 16384) (x : Fin 128) : val_main_v5 (F := Ideal) L B (ix2 r x) = logLogistic (L (ix2 r x) + padded B x) := by
  rw [← logLogistic_eq, ← bias_reference]
  pointwise [val_main_v5, val_main_call1_v1, val_main_call1_call0_v11, val_main_call1_call0_v10, val_main_call1_call0_v9, val_main_call1_call0_v8,
    val_main_call1_call0_v7, val_main_call1_call0_v6, val_main_call1_call0_v5, val_main_call1_call0_v4, val_main_call1_call0_v3, val_main_call1_call0_v2,
    val_main_call1_call0_v1, val_main_call1_call0_v0, val_main_call1_call0_cst, val_main_call1_v0, val_main_v4, val_main_v3, val_main_v2]
  rw [if_neg (not_not_intro rfl)]
  rfl

/-- The array its reference returns. -/
theorem reference : val_main_v8 (F := Ideal) L B = fun y => sums L B (y 0) (y 1) := by
  funext y
  obtain ⟨r, x, rfl⟩ : ∃ r x, y = ix2 (n0 := 16384) (n1 := 128) r x := ⟨y 0, y 1, eq_ix2 y⟩
  rw [val_main_v8_apply]
  have hr := r.isLt
  have e : idx_main_v8 (ix2 r x) = ix3 (n0 := 8) (n1 := 2048) (n2 := 128) ⟨r.val / 2048, by omega⟩ ⟨r.val % 2048, by omega⟩ x := by
    have hx := x.isLt
    funext a
    match a with
    | ⟨0, _⟩ =>
      apply Fin.ext
      show (r.val * 128 + x.val) / 262144 = r.val / 2048
      omega
    | ⟨1, _⟩ =>
      apply Fin.ext
      show (r.val * 128 + x.val) / 128 % 2048 = r.val % 2048
      omega
    | ⟨2, _⟩ =>
      apply Fin.ext
      show (r.val * 128 + x.val) % 128 = x.val
      omega
  rw [e]
  unfold val_main_v7
  refine cumsum_apply _ _ _ ?_ _ _ _ x (fun i => gate L B x (r.val / 2048 * 2048 + i)) fun i => ?_
  · pointwise [val_main_call2_call0_v0, val_main_call2_call0_cst]
  · have hi := i.isLt
    unfold gate
    rw [dif_pos (show r.val / 2048 * 2048 + i.val < 16384 by omega), ← gate_reference, val_main_v6_apply]
    refine congrArg (val_main_v5 (F := Ideal) L B) ?_
    have hx := x.isLt
    funext a
    match a with
    | ⟨0, _⟩ =>
      apply Fin.ext
      show ((r.val / 2048 * 2048 + i.val) * 128 + x.val) / 128 = r.val / 2048 * 2048 + i.val
      omega
    | ⟨1, _⟩ =>
      apply Fin.ext
      show ((r.val / 2048 * 2048 + i.val) * 128 + x.val) % 128 = x.val
      omega

end Cert.GatesValue

end
-- ==== Proof.GdnGatesValue.lean ====
/- The gates of the delta-rule layer: what the call leaves and what its reference returns. -/
module

public import proofs.«01_k».proof.Proof.Gen.GdnGatesIdeal.Value
public import proofs.«01_k».proof.Proof.Gen.GdnGatesReferenceIdeal.Read
public import proofs.«01_k».proof.Proof.Linear
public import proofs.«01_k».proof.Proof.Prefix
public import Idealize.ShloMosaic.Lib.Pipeline.ValueKit
public import Idealize.ShloMosaic.Lib.Pointwise

@[expose] public section

set_option maxRecDepth 16384

noncomputable section

namespace Cert.GdnGatesValue

open Idealize.ShloMosaic Idealize.ShloMosaic.TcCoe Idealize.ShloMosaic.Tactic
open Cert.GdnGatesIdeal Cert.GdnGatesIdeal.Gen Cert.GdnGatesIdeal.Facts Cert.Linear Cert.Prefix

/-- The logistic function. -/
def logistic (z : EReal) : EReal := Ideal.div 1 (1 + Ideal.exp (-z))

/-- The logarithm of one plus the exponential, as it is computed. -/
def softplus (z : EReal) : EReal := max z 0 + Ideal.log (1 + Ideal.exp (-max z (-z)))

/-- The logarithm of the decay of one step. -/
def decay (a z : EReal) : EReal := -Ideal.exp a * softplus z

/-! ## What a point stores -/

/-- A row's place in its chunk of 64. -/
def place : IVec S1024x128 32 :=
  select (andi (xori k0_pay6 (broadcastTo S1024x128 k0_pay7 broadcasts_S1024x128_S1024x128)) k0_pay5)
    (addi k0_pay4 (broadcast S1024x128 (Scalar.select (Scalar.cmpi .eq 64#32 0#32) 1#32 64#32))) k0_pay4

theorem place_apply (r : Fin 1024) (x : Fin 128) : place (ix2 r x) = BitVec.ofNat 32 (r.val % 64) := by
  pointwise [place, k0_pay4, k0_pay5, k0_pay6, k0_pay7]
  revert r
  decide +kernel

theorem beta_apply (f : Vec Ideal S1024x128 .f32) (r : Fin 1024) (x : Fin 128) : k0_pay2 f (ix2 r x) = logistic (f (ix2 r x)) := by
  unfold logistic
  pointwise [k0_pay2]
  rw [zero_sub]

theorem decay_apply (f : Vec Ideal S1024x128 .f32) (a d : Vec Ideal S1x128 .f32) (r : Fin 1024) (x : Fin 128) :
    k0_pay3 f a d (ix2 r x) = decay (a (ix2 0 x)) (f (ix2 r x) + d (ix2 0 x)) := by
  unfold decay softplus
  pointwise [k0_pay3]
  rw [zero_sub, zero_sub]
  rfl

theorem steps (f : FVec Ideal S1024x128 .f32) :
    k0_pay8 f (Scalar.select (Scalar.cmpi .eq 64#32 0#32) 1#32 64#32) k0_pay4 k0_pay5 k0_pay6 k0_pay7
      = double place rotates_S1024x128_d0 32#32 (double place rotates_S1024x128_d0 16#32 (double place rotates_S1024x128_d0 8#32
        (double place rotates_S1024x128_d0 4#32 (double place rotates_S1024x128_d0 2#32 (double place rotates_S1024x128_d0 1#32 f))))) := rfl

theorem lanes_apply (u v : FVec Ideal S1024x128 .f32) (r : Fin 1024) (x : Fin 128) :
    k0_pay1 u v (ix2 r x) = if x.val < 32 then u (ix2 r x) else v (ix2 r x) := by
  have h : ∀ x : Fin 128, IntOp.cmpi .slt (BitVec.ofNat 32 x.val) 32#32 = BitVec.ofBool (decide (x.val < 32)) := by decide +kernel
  pointwise [k0_pay1]
  rw [h]
  by_cases h0 : x.val < 32
  · rw [if_pos h0, decide_eq_true h0]
    rfl
  · rw [if_neg h0, decide_eq_false h0]
    rfl

/-- What a point stores: the logistic function in the first 32 columns, the sums down each chunk in the others. -/
theorem block_apply (f : Vec Ideal S1024x128 .f32) (a d : Vec Ideal S1x128 .f32) (g : ℕ → Fin 128 → ℕ → EReal)
    (hg : ∀ (r : Fin 1024) (x : Fin 128), decay (a (ix2 0 x)) (f (ix2 r x) + d (ix2 0 x)) = g (r.val / 64) x (r.val % 64))
    (r : Fin 1024) (x : Fin 128) :
    out0_3 f a d (ix2 r x)
      = if x.val < 32 then logistic (f (ix2 r x)) else ∑ i ∈ Finset.range (r.val % 64 + 1), g (r.val / 64) x i := by
  unfold out0_3
  rw [View.canon_unit_zero zeros2, View.ld_unit_zero zeros2, View.ld_unit_zero zeros2, View.ld_unit_zero zeros2, lanes_apply, beta_apply, steps]
  refine if_congr Iff.rfl rfl ?_
  have step := fun s n hs hn => double_apply (R := 1024) (P := 64) (by omega) (by omega) (by omega) place place_apply
    rotates_S1024x128_d0 s n hs hn (g := g)
  have h0 (r : Fin 1024) (x : Fin 128) : k0_pay3 f a d (ix2 r x) = last (g (r.val / 64) x) 1 (r.val % 64) :=
    (decay_apply f a d r x).trans ((hg r x).trans (last_one _ _).symm)
  have h1 := step 1#32 1 rfl (by omega) _ h0
  have h2 := step 2#32 2 rfl (by omega) _ h1
  have h3 := step 4#32 4 rfl (by omega) _ h2
  have h4 := step 8#32 8 rfl (by omega) _ h3
  have h5 := step 16#32 16 rfl (by omega) _ h4
  have h6 := step 32#32 32 rfl (by omega) _ h5
  exact (h6 r x).trans (last_all _ _ _ (Nat.mod_lt _ (by omega)))

/-! ## The call -/

/-- A row of 32 entries in columns 32 to 63, zeros in the others. -/
def padded (B : (⟨2, ![1, 32]⟩ : Shape).Idx → EReal) (x : Fin 128) : EReal :=
  if h : 32 ≤ x.val ∧ x.val - 32 < 32 then B (ix2 0 ⟨x.val - 32, h.2⟩) else 0

/-- The logarithm of the decay in column `x` and row `n`. -/
def rate (L : (⟨2, ![16384, 128]⟩ : Shape).Idx → EReal) (A D : (⟨2, ![1, 32]⟩ : Shape).Idx → EReal) (x : Fin 128) (n : ℕ) : EReal :=
  if h : n < 16384 then decay (padded A x) (L (ix2 ⟨n, h⟩ x) + padded D x) else 0

/-- The writing strengths in the first 32 columns; in the others the sums of the rates from the chunk's first row to row `r`. -/
def gates (L : (⟨2, ![16384, 128]⟩ : Shape).Idx → EReal) (A D : (⟨2, ![1, 32]⟩ : Shape).Idx → EReal) (r : Fin 16384) (x : Fin 128) : EReal :=
  if x.val < 32 then logistic (L (ix2 r x)) else ∑ i ∈ Finset.range (r.val % 64 + 1), rate L A D x (r.val / 64 * 64 + i)

variable (m : (ℓ : Loc nD τ sig) → Buf (Elt Ideal) ℓ) (c : Dev nD)

abbrev logits : (⟨2, ![16384, 128]⟩ : Shape).Idx → EReal := m ((c : Thread nD τ).loc main_arg0)
abbrev rates : (⟨2, ![1, 32]⟩ : Shape).Idx → EReal := m ((c : Thread nD τ).loc main_arg1)
abbrev biases : (⟨2, ![1, 32]⟩ : Shape).Idx → EReal := m ((c : Thread nD τ).loc main_arg2)

/-- The row as the host code prepares it. -/
def row (B : FVec Ideal S1x32 .f32) : FVec Ideal S1x128 .f32 :=
  pad S1x128 ![0, 32] ![0, 64] ![0, 0] (shapeCast S1x32 (shapeCast S32 B shapeCasts_S1x32_S32) shapeCasts_S32_S1x32)
    (sitofp (F := Ideal) .f32 (constantI S_ 32 0#32) : FVec Ideal S_ .f32) pads_S1x32_S1x128_000_32640 h_S_

theorem row_apply (B : FVec Ideal S1x32 .f32) (x : Fin 128) : row B (ix2 0 x) = padded B x := by
  unfold padded
  pointwise [row]
  refine congrArg (dite (32 ≤ x.val ∧ x.val - 32 < 32) _) (funext fun _ => ?_)
  show (((0#32 : BitVec 32).toInt : ℝ) : EReal) = 0
  simp

theorem V_main_v2 : V m c main_v2 = row (rates m c) := by
  unfold V
  simp only [List.flatten_cons, List.flatten_nil, List.append_nil, List.cons_append, List.nil_append]
  after_results_simp <;> rfl

theorem V_main_v5 : V m c main_v5 = row (biases m c) := by
  unfold V
  simp only [List.flatten_cons, List.flatten_nil, List.append_nil, List.cons_append, List.nil_append]
  after_results_simp <;> rfl

theorem e0 : ∀ t : Fin cfg0.N, win0_0.index t = ![t.val, 0] :=
  (by decide +kernel : ∀ t : Fin grid0.N, _)
theorem e1 : ∀ t : Fin cfg0.N, win0_1.index t = ![0, 0] :=
  (by decide +kernel : ∀ t : Fin grid0.N, _)
theorem e2 : ∀ t : Fin cfg0.N, win0_2.index t = ![0, 0] :=
  (by decide +kernel : ∀ t : Fin grid0.N, _)
theorem e3 : ∀ t : Fin cfg0.N, win0_3.index t = ![t.val, 0] :=
  (by decide +kernel : ∀ t : Fin grid0.N, _)

theorem bound (t : Fin cfg0.N) : t.val < 16 := by
  have h : cfg0.N = 16 := N_0
  have := t.isLt
  omega

theorem logits_blk (t : Fin cfg0.N) (r : Fin 1024) (x : Fin 128) (h : t.val * 1024 + r.val < 16384) :
    iblk m c 0 t (ix2 r x) = logits m c (ix2 ⟨t.val * 1024 + r.val, h⟩ x) := by
  blk_simp [iblk]
  rw [V_main_arg0]
  refine congrArg (logits m c) ?_
  blk_ext [e0]

theorem rates_blk (t : Fin cfg0.N) (x : Fin 128) : iblk m c 1 t (ix2 0 x) = padded (rates m c) x := by
  rw [← row_apply, ← V_main_v2]
  blk_simp [iblk]
  refine congrArg (V m c main_v2) ?_
  blk_ext [e1]

theorem biases_blk (t : Fin cfg0.N) (x : Fin 128) : iblk m c 2 t (ix2 0 x) = padded (biases m c) x := by
  rw [← row_apply, ← V_main_v5]
  blk_simp [iblk]
  refine congrArg (V m c main_v5) ?_
  blk_ext [e2]

/-- The array the call leaves. -/
theorem final : (dats m 0 c).arrAt 3 cfg0.N = fun y => gates (logits m c) (rates m c) (biases m c) (y 0) (y 1) := by
  refine (dats m 0 c).arrAt_eq_of_covers 3 _ (by decide +kernel) fun t hf y => ?_
  have ht := bound t
  blk_simp
  rw [after0_3]
  obtain ⟨r, x, rfl⟩ : ∃ r x, y = ix2 (n0 := 1024) (n1 := 128) r x := ⟨y 0, y 1, eq_ix2 y⟩
  have hr := r.isLt
  refine (block_apply _ _ _ (fun b x i => rate (logits m c) (rates m c) (biases m c) x (t.val * 1024 + b * 64 + i)) (fun r x => ?_) r x).trans ?_
  · have hn : t.val * 1024 + r.val < 16384 := by omega
    rw [rates_blk, biases_blk, logits_blk m c t r x hn]
    unfold rate
    have e : t.val * 1024 + r.val / 64 * 64 + r.val % 64 = t.val * 1024 + r.val := by omega
    rw [dif_pos (e ▸ hn)]
    simp only [e]
  · have hn : t.val * 1024 + r.val < 16384 := by omega
    have h0 : (win0_3.blk t).view.emb (ix2 r x) 0 = (⟨t.val * 1024 + r.val, hn⟩ : Fin 16384) := by
      apply Fin.ext
      blk_simp [e3]
    have h1 : (win0_3.blk t).view.emb (ix2 r x) 1 = x := by
      apply Fin.ext
      blk_simp [e3]
    unfold gates
    rw [h0, h1, logits_blk m c t r x hn]
    dsimp only
    rw [show (t.val * 1024 + r.val) % 64 = r.val % 64 by omega, show (t.val * 1024 + r.val) / 64 * 64 = t.val * 1024 + r.val / 64 * 64 by omega]

/-! ## Its reference -/

open Cert.GdnGatesReferenceIdeal.Read

variable (L : (⟨2, ![16384, 128]⟩ : Shape).Idx → EReal) (A D : (⟨2, ![1, 32]⟩ : Shape).Idx → EReal)

/-- Column `x` of the decays is column `32 + x` of the logits. -/
abbrev shift (x : Fin 96) : Fin 128 := ⟨32 + x.val, by omega⟩

theorem rates_reference (x : Fin 96) : val_main_v8 (F := Ideal) A (ix1 x) = padded A (shift x) := by
  have e : val_main_v8 (F := Ideal) A (ix1 x) = if h : x.val < 32 then A (ix2 0 ⟨x.val, h⟩) else 0 := by
    pointwise [val_main_v8, val_main_v7, val_main_call0_v0, val_main_c]
    refine congrArg (dite (x.val < 32) _) (funext fun _ => ?_)
    show (((0#32 : BitVec 32).toInt : ℝ) : EReal) = 0
    simp
  rw [e]
  unfold padded
  by_cases h : x.val < 32
  · rw [dif_pos h, dif_pos ⟨by show 32 ≤ 32 + x.val; omega, by show 32 + x.val - 32 < 32; omega⟩]
    refine congrArg (fun k => A (ix2 0 k)) (Fin.ext ?_)
    show x.val = 32 + x.val - 32
    omega
  · rw [dif_neg h, dif_neg fun h' => h (by have : 32 + x.val - 32 < 32 := h'.2; omega)]

/-- The two rows are padded alike. -/
theorem biases_reference (x : Fin 96) : val_main_v10 (F := Ideal) D (ix1 x) = padded D (shift x) := rates_reference D x

theorem decay_reference (r : Fin 16384) (x : Fin 96) : val_main_v20 (F := Ideal) L A D (ix2 r x)
    = decay (padded A (shift x)) (L (ix2 r (shift x)) + padded D (shift x)) := by
  rw [← rates_reference, ← biases_reference]
  unfold decay softplus
  pointwise [val_main_v20, val_main_v19, val_main_v18, val_main_v12, val_main_v11, val_main_v17, val_main_call2_v11, val_main_call2_v10,
    val_main_call2_v9, val_main_call2_v8, val_main_call2_v7, val_main_call2_v6, val_main_call2_v5, val_main_call2_v4, val_main_call2_v3,
    val_main_call2_v2, val_main_call2_v1, val_main_call2_v0, val_main_call2_cst, val_main_v16, val_main_v15, val_main_v14, val_main_v13]
  rw [if_neg (not_not_intro rfl)]
  rfl

theorem beta_reference (r : Fin 16384) (x : Fin 32) : val_main_v6 (F := Ideal) L (ix2 r x) = logistic (L (ix2 r ⟨x.val, by omega⟩)) := by
  unfold logistic
  pointwise [val_main_v6, val_main_v5, val_main_v4, val_main_v3, val_main_v2, val_main_v1, val_main_v0, val_main_cst, val_main_cst_0]

theorem sums_reference (r : Fin 16384) (x : Fin 96) : val_main_v23 (F := Ideal) L A D (ix2 r x)
    = ∑ i ∈ Finset.range (r.val % 64 + 1), rate L A D (shift x) (r.val / 64 * 64 + i) := by
  rw [val_main_v23_apply]
  have hr := r.isLt
  have hx := x.isLt
  have e : idx_main_v23 (ix2 r x) = ix3 (n0 := 256) (n1 := 64) (n2 := 96) ⟨r.val / 64, by omega⟩ ⟨r.val % 64, by omega⟩ x := by
    funext a
    match a with
    | ⟨0, _⟩ =>
      apply Fin.ext
      show (r.val * 96 + x.val) / 6144 = r.val / 64
      omega
    | ⟨1, _⟩ =>
      apply Fin.ext
      show (r.val * 96 + x.val) / 96 % 64 = r.val % 64
      omega
    | ⟨2, _⟩ =>
      apply Fin.ext
      show (r.val * 96 + x.val) % 96 = x.val
      omega
  rw [e]
  unfold val_main_v22
  refine cumsum_apply _ _ _ ?_ _ _ _ x (fun i => rate L A D (shift x) (r.val / 64 * 64 + i)) fun i => ?_
  · pointwise [val_main_call3_call0_v0, val_main_call3_call0_cst]
  · have hi := i.isLt
    unfold rate
    rw [dif_pos (show r.val / 64 * 64 + i.val < 16384 by omega), ← decay_reference, val_main_v21_apply]
    refine congrArg (val_main_v20 (F := Ideal) L A D) ?_
    funext a
    match a with
    | ⟨0, _⟩ =>
      apply Fin.ext
      show ((r.val / 64 * 64 + i.val) * 96 + x.val) / 96 = r.val / 64 * 64 + i.val
      omega
    | ⟨1, _⟩ =>
      apply Fin.ext
      show ((r.val / 64 * 64 + i.val) * 96 + x.val) % 96 = x.val
      omega

/-- The array its reference returns. -/
theorem reference : val_main_v24 (F := Ideal) L A D = fun y => gates L A D (y 0) (y 1) := by
  funext y
  obtain ⟨r, x, rfl⟩ : ∃ r x, y = ix2 (n0 := 16384) (n1 := 128) r x := ⟨y 0, y 1, eq_ix2 y⟩
  have hx := x.isLt
  have e : val_main_v24 (F := Ideal) L A D (ix2 r x) = if h : x.val < 32 then val_main_v6 (F := Ideal) L (ix2 r ⟨x.val, h⟩)
      else val_main_v23 (F := Ideal) L A D (ix2 r ⟨x.val - 32, by omega⟩) := by
    pointwise [val_main_v24]
  rw [e]
  show _ = gates L A D r x
  unfold gates
  by_cases h : x.val < 32
  · rw [dif_pos h, if_pos h, beta_reference]
  · rw [dif_neg h, if_neg h, sums_reference]
    have e' : shift ⟨x.val - 32, by omega⟩ = x := Fin.ext (show 32 + (x.val - 32) = x.val by omega)
    rw [e']

end Cert.GdnGatesValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_logits
public import proofs.«01_k».proof.Proof.Gen.MidIdeal.Value
public import proofs.«01_k».proof.Proof.Gen.MidReferenceIdeal.Run
public import proofs.«01_k».proof.Proof.Gen.MidReferenceIdeal.Read
public import proofs.«01_k».proof.Proof.Gen.DownIdeal.Value
public import proofs.«01_k».proof.Proof.Gen.DownReferenceIdeal.Run
public import proofs.«01_k».proof.Proof.Gen.DownReferenceIdeal.Read
public import proofs.«01_k».proof.Proof.Gen.OutIdeal.Value
public import proofs.«01_k».proof.Proof.Gen.OutReferenceIdeal.Run
public import proofs.«01_k».proof.Proof.Gen.OutReferenceIdeal.Read
public import proofs.«01_k».proof.Proof.Gen.Mid
public import proofs.«01_k».proof.Proof.Gen.Mid.Frame
public import proofs.«01_k».proof.Proof.Gen.MidIdeal
public import proofs.«01_k».proof.Proof.Gen.MidIdeal.Frame
public import proofs.«01_k».proof.Proof.Gen.MidReferenceIdeal
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownReferenceIdeal
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.In
public import proofs.«01_k».proof.Proof.Gen.In.Frame
public import proofs.«01_k».proof.Proof.Gen.In.Skeleton
public import proofs.«01_k».proof.Proof.Gen.InIdeal
public import proofs.«01_k».proof.Proof.Gen.InIdeal.Frame
public import proofs.«01_k».proof.Proof.Gen.InIdeal.Skeleton
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.GdnIn
public import proofs.«01_k».proof.Proof.Gen.GdnIn.Frame
public import proofs.«01_k».proof.Proof.Gen.GdnIn.Skeleton
public import proofs.«01_k».proof.Proof.Gen.GdnInIdeal
public import proofs.«01_k».proof.Proof.Gen.GdnInIdeal.Frame
public import proofs.«01_k».proof.Proof.Gen.GdnInIdeal.Skeleton
public import proofs.«01_k».proof.Proof.Gen.GdnInReferenceIdeal
public import proofs.«01_k».proof.Proof.Gen.GdnInReferenceIdeal.Run
public import proofs.«01_k».proof.Proof.Gen.GdnInReferenceIdeal.Read
public import proofs.«01_k».proof.Proof.Gen.OutFox
public import proofs.«01_k».proof.Proof.Gen.OutFox.Frame
public import proofs.«01_k».proof.Proof.Gen.OutFoxIdeal
public import proofs.«01_k».proof.Proof.Gen.OutFoxIdeal.Frame
public import proofs.«01_k».proof.Proof.Gen.OutFoxIdeal.Value
public import proofs.«01_k».proof.Proof.Gen.OutFoxReferenceIdeal
public import proofs.«01_k».proof.Proof.Gen.OutFoxReferenceIdeal.Run
public import proofs.«01_k».proof.Proof.Gen.OutFoxReferenceIdeal.Read
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import proofs.«01_k».proof.Proof.Gen.GatesReferenceIdeal.Read
public import proofs.«01_k».proof.Proof.Gen.GdnGates
public import proofs.«01_k».proof.Proof.Gen.GdnGates.Frame
public import proofs.«01_k».proof.Proof.Gen.GdnGatesIdeal
public import proofs.«01_k».proof.Proof.Gen.GdnGatesIdeal.Frame
public import proofs.«01_k».proof.Proof.Gen.GdnGatesIdeal.Value
public import proofs.«01_k».proof.Proof.Gen.GdnGatesReferenceIdeal
public import proofs.«01_k».proof.Proof.Gen.GdnGatesReferenceIdeal.Run
public import proofs.«01_k».proof.Proof.Gen.GdnGatesReferenceIdeal.Read
public import proofs.«01_k».proof.Proof.GdnInBody
public import proofs.«01_k».proof.Proof.GdnInLaunch
public import proofs.«01_k».proof.Proof.GdnInValue
public import proofs.«01_k».proof.Proof.GdnInRef
public import proofs.«01_k».proof.Proof.InBody
public import proofs.«01_k».proof.Proof.InIdealBody
public import proofs.«01_k».proof.Proof.InValue
public import proofs.«01_k».proof.Proof.InRef
public import proofs.«01_k».proof.Proof.LastIdealBody
public import proofs.«01_k».proof.Proof.LastBody
public import proofs.«01_k».proof.Proof.LastValue
public import proofs.«01_k».proof.Proof.LastRef
public import proofs.«01_k».proof.Proof.Gen.Last.Skeleton
public import proofs.«01_k».proof.Proof.Gen.LastReferenceIdeal
public import proofs.«01_k».proof.Proof.Gen.LastReferenceIdeal.Run
public import proofs.«01_k».proof.Proof.Gen.LastReferenceIdeal.Read
public import proofs.«01_k».proof.Proof.Arrays
public import proofs.«01_k».proof.Proof.Ref
public import proofs.«01_k».proof.Proof.Pre
public import proofs.«01_k».proof.Proof.MidValue
public import proofs.«01_k».proof.Proof.MidRef
public import proofs.«01_k».proof.Proof.DownValue
public import proofs.«01_k».proof.Proof.OutValue
public import proofs.«01_k».proof.Proof.OutFoxValue
public import proofs.«01_k».proof.Proof.GatesValue
public import proofs.«01_k».proof.Proof.GdnGatesValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- What the reference returns, read at every index: the attention of its two arguments. -/
theorem attention_reference (X : Cert.Logits.QKV) (C : Cert.Logits.Sums) :
    Cert.ReferenceIdeal.Read.val_main_v42 (F := Ideal) X C = Cert.Arrays.result X C := by
  funext y
  obtain ⟨r, x, rfl⟩ : ∃ r x, y = ix2 (n0 := 16384) (n1 := 1024) r x := ⟨y 0, y 1, eq_ix2 y⟩
  have hr := r.isLt
  have hx := x.isLt
  exact Cert.Ref.result X C ⟨r.val / 2048, by omega⟩ ⟨x.val / 128, by omega⟩ ⟨r.val % 2048, by omega⟩ r x
    (by show r.val = 2048 * (r.val / 2048) + r.val % 2048; omega) ⟨x.val % 128, by omega⟩
    (by show x.val = 128 * (x.val / 128) + x.val % 128; omega)

/-- The attention call and its reference return the same array. -/
theorem attention : Cert.algebraic_KernelIdeal_ReferenceIdeal_pre_finite_logits (hKernelIdeal := Cert.KernelIdeal.Gen.facts)
    (hReferenceIdeal := Cert.ReferenceIdeal.Gen.facts) (hPre_finite_logits := Cert.Pre_finite_logits.Gen.facts) := by
  intro m ρ m' ρ' hpre hag
  refine ⟨fun c => Cert.Arrays.result (Cert.Arrays.qkv m c) (Cert.Arrays.sums m c),
    (θ_run _ _ _).mono (fun r h c => ⟨(h c).1.trans (Cert.Arrays.final m c (Cert.Pre.finite _ _ (hpre c))), (h c).2⟩)
      (Cert.KernelIdeal.Value.run_blocks m ρ),
    (θ_run _ _ _).mono (fun r h c => ⟨(h c).1.trans ?_, (h c).2⟩) (Cert.ReferenceIdeal.Value.run m' ρ')⟩
  rw [Cert.ReferenceIdeal.Read.val_main_v42_eq, (hag c).1, (hag c).2]
  exact attention_reference _ _

/-- The host program of the attention's reference, from any memory: its arguments are kept and every counter ends at zero. -/
theorem reference_frame : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run m ρ)

/-- The normalisation with the gated projections and its reference return the same array. -/
theorem mid : Cert.algebraic_MidIdeal_MidReferenceIdeal (hMidIdeal := Cert.MidIdeal.Gen.facts)
    (hMidReferenceIdeal := Cert.MidReferenceIdeal.Gen.facts) := by
  intro m ρ m' ρ' _ hag
  refine ⟨fun c y => Cert.Linear.gated 0 (Cert.MidValue.stream m c) (Cert.MidValue.gains m c) (Cert.MidValue.gateW m c)
      (Cert.MidValue.upW m c) (y 0) (y 1),
    (θ_run _ _ _).mono (fun r h c => ⟨(h c).1.trans (Cert.MidValue.final m c), (h c).2⟩) (Cert.MidIdeal.Value.run_blocks m ρ),
    (θ_run _ _ _).mono (fun r h c => ⟨(h c).1.trans ?_, (h c).2⟩) (Cert.MidReferenceIdeal.Value.run m' ρ')⟩
  rw [Cert.MidReferenceIdeal.Read.val_main_v23_eq, (hag c).1, (hag c).2.1, (hag c).2.2.1, (hag c).2.2.2]
  exact Cert.MidRef.reference _ _ _ _

theorem mid_frame : Cert.quiescent_MidReferenceIdeal (hMidReferenceIdeal := Cert.MidReferenceIdeal.Gen.facts) := by
  intro m ρ _
  exact (θ_run Cert.MidReferenceIdeal.defs _ _).mono (fun r h => ⟨fun c => (h c).2, sem_eq_zero_of_no_sems (by decide) r.2⟩)
    (Cert.MidReferenceIdeal.Value.run m ρ)

/-- The down projection, added to the stream, and its reference return the same array. -/
theorem down : Cert.algebraic_DownIdeal_DownReferenceIdeal (hDownIdeal := Cert.DownIdeal.Gen.facts)
    (hDownReferenceIdeal := Cert.DownReferenceIdeal.Gen.facts) := by
  intro m ρ m' ρ' _ hag
  refine ⟨fun c y => Cert.Linear.addDot 0 (Cert.DownValue.rows m c) (Cert.DownValue.weights m c) (Cert.DownValue.stream m c) (y 0) (y 1),
    (θ_run _ _ _).mono (fun r h c => ⟨(h c).1.trans (Cert.DownValue.final m c), (h c).2⟩) (Cert.DownIdeal.Value.run_blocks m ρ),
    (θ_run _ _ _).mono (fun r h c => ⟨(h c).1.trans ?_, (h c).2⟩) (Cert.DownReferenceIdeal.Value.run m' ρ')⟩
  rw [Cert.DownReferenceIdeal.Read.val_main_v4_eq, (hag c).1, (hag c).2.1, (hag c).2.2]
  exact Cert.DownValue.reference _ _ _

theorem down_frame : Cert.quiescent_DownReferenceIdeal (hDownReferenceIdeal := Cert.DownReferenceIdeal.Gen.facts) := by
  intro m ρ _
  exact (θ_run Cert.DownReferenceIdeal.defs _ _).mono (fun r h => ⟨fun c => (h c).2, sem_eq_zero_of_no_sems (by decide) r.2⟩)
    (Cert.DownReferenceIdeal.Value.run m ρ)

/-- The second layer's down projection with the final normalisation and its reference return the same array. -/
theorem last : Cert.algebraic_LastIdeal_LastReferenceIdeal (hLastIdeal := Cert.LastIdeal.Gen.facts)
    (hLastReferenceIdeal := Cert.LastReferenceIdeal.Gen.facts) := by
  intro m ρ m' ρ' _ hag
  refine ⟨fun c y => Cert.Linear.normed (Cert.Linear.addDot 1 (Cert.LastValue.rows m c) (Cert.LastValue.weights m c) (Cert.LastValue.stream m c) (y 0))
      (fun i => Cert.LastValue.gains m c (ix1 i)) (y 1),
    (θ_run _ _ _).mono (fun r h c => ⟨(h.1 c).trans (Cert.LastValue.final m c), h.2.1 c⟩)
      (θ_run_and (Cert.LastIdeal.Hand.value m ρ) (Cert.LastIdeal.Hand.frame m ρ)),
    (θ_run _ _ _).mono (fun r h c => ⟨(h c).1.trans ?_, (h c).2⟩) (Cert.LastReferenceIdeal.Value.run m' ρ')⟩
  rw [Cert.LastReferenceIdeal.Read.val_main_v17_eq, (hag c).1, (hag c).2.1, (hag c).2.2.1, (hag c).2.2.2]
  exact Cert.LastRef.reference _ _ _ _

theorem last_frame : Cert.quiescent_LastReferenceIdeal (hLastReferenceIdeal := Cert.LastReferenceIdeal.Gen.facts) := by
  intro m ρ _
  exact (θ_run Cert.LastReferenceIdeal.defs _ _).mono (fun r h => ⟨fun c => (h c).2, sem_eq_zero_of_no_sems (by decide) r.2⟩)
    (Cert.LastReferenceIdeal.Value.run m ρ)

/-- The output projection, added to the stream, and its reference return the same array. -/
theorem out : Cert.algebraic_OutIdeal_OutReferenceIdeal (hOutIdeal := Cert.OutIdeal.Gen.facts)
    (hOutReferenceIdeal := Cert.OutReferenceIdeal.Gen.facts) := by
  intro m ρ m' ρ' _ hag
  refine ⟨fun c y => Cert.Linear.addDot 0 (Cert.OutValue.rows m c) (Cert.OutValue.weights m c) (Cert.OutValue.stream m c) (y 0) (y 1),
    (θ_run _ _ _).mono (fun r h c => ⟨(h c).1.trans (Cert.OutValue.final m c), (h c).2⟩) (Cert.OutIdeal.Value.run_blocks m ρ),
    (θ_run _ _ _).mono (fun r h c => ⟨(h c).1.trans ?_, (h c).2⟩) (Cert.OutReferenceIdeal.Value.run m' ρ')⟩
  rw [Cert.OutReferenceIdeal.Read.val_main_v3_eq, (hag c).1, (hag c).2.1, (hag c).2.2]
  exact Cert.OutValue.reference _ _ _

theorem out_frame : Cert.quiescent_OutReferenceIdeal (hOutReferenceIdeal := Cert.OutReferenceIdeal.Gen.facts) := by
  intro m ρ _
  exact (θ_run Cert.OutReferenceIdeal.defs _ _).mono (fun r h => ⟨fun c => (h c).2, sem_eq_zero_of_no_sems (by decide) r.2⟩)
    (Cert.OutReferenceIdeal.Value.run m ρ)

/-- The first layer's input projection and its reference return the same two arrays. -/
theorem entry : Cert.algebraic_InIdeal_InReferenceIdeal (hInIdeal := Cert.InIdeal.Gen.facts)
    (hInReferenceIdeal := Cert.InReferenceIdeal.Gen.facts) := by
  intro m ρ m' ρ' _ hag
  refine ⟨fun c y => Cert.Linear.mixed (Cert.InValue.stream m c) (Cert.InValue.gains m c) (Cert.InValue.weights m c) (y 0) (Cert.Linear.column (y 1)),
    fun c y => Cert.Linear.gateLogits (Cert.InValue.stream m c) (Cert.InValue.gains m c) (Cert.InValue.weights m c) (y 0) (y 1),
    (θ_run _ _ _).mono (fun r h c => ⟨(h.1 c).1.trans (Cert.InValue.projection m c), (h.1 c).2.trans (Cert.InValue.logits m c), h.2.1 c⟩)
      (θ_run_and (Cert.InIdeal.Hand.value m ρ) (Cert.InIdeal.Hand.frame m ρ)),
    (θ_run _ _ _).mono (fun r h c => ⟨(h c).1.trans ?_, (h c).2.1.trans ?_, (h c).2.2⟩) (Cert.InReferenceIdeal.Value.run m' ρ')⟩
  · rw [Cert.InReferenceIdeal.Read.val_main_v20_eq, (hag c).1, (hag c).2.1, (hag c).2.2]
    exact Cert.InRef.projection _ _ _
  · rw [Cert.InReferenceIdeal.Read.val_main_v21_eq, (hag c).1, (hag c).2.1, (hag c).2.2]
    exact Cert.InRef.logits _ _ _

theorem entry_frame : Cert.quiescent_InReferenceIdeal (hInReferenceIdeal := Cert.InReferenceIdeal.Gen.facts) := by
  intro m ρ _
  exact (θ_run Cert.InReferenceIdeal.defs _ _).mono (fun r h => ⟨fun c => (h c).2.2, sem_eq_zero_of_no_sems (by decide) r.2⟩)
    (Cert.InReferenceIdeal.Value.run m ρ)

/-- The delta-rule layer's input projection with its convolution and its reference return the same two arrays. -/
theorem gdn : Cert.algebraic_GdnInIdeal_GdnInReferenceIdeal (hGdnInIdeal := Cert.GdnInIdeal.Gen.facts)
    (hGdnInReferenceIdeal := Cert.GdnInReferenceIdeal.Gen.facts) := by
  intro m ρ m' ρ' _ hag
  refine ⟨fun c y => Cert.Convolved.convolved (Cert.GdnInValue.stream m c) (Cert.GdnInValue.gains m c) (Cert.GdnInValue.weights m c)
      (Cert.GdnInValue.filters m c) (y 0) (y 1),
    fun c y => Cert.Convolved.rates (Cert.GdnInValue.stream m c) (Cert.GdnInValue.gains m c) (Cert.GdnInValue.weights m c) (y 0) (y 1),
    (θ_run _ _ _).mono (fun r h c => ⟨(h.1 c).1.trans (Cert.GdnInValue.projection m c), (h.1 c).2.trans (Cert.GdnInValue.logits m c), h.2.1 c⟩)
      (θ_run_and (Cert.GdnInIdeal.Hand.value m ρ) (Cert.GdnInIdeal.Hand.frame m ρ)),
    (θ_run _ _ _).mono (fun r h c => ⟨(h c).1.trans ?_, (h c).2.1.trans ?_, (h c).2.2⟩) (Cert.GdnInReferenceIdeal.Value.run m' ρ')⟩
  · rw [Cert.GdnInReferenceIdeal.Read.val_main_v79_eq, (hag c).1, (hag c).2.1, (hag c).2.2.1, (hag c).2.2.2]
    exact Cert.GdnInRef.projection _ _ _ _
  · rw [Cert.GdnInReferenceIdeal.Read.val_main_v80_eq, (hag c).1, (hag c).2.1, (hag c).2.2.1]
    exact Cert.GdnInRef.logits _ _ _

theorem gdn_frame : Cert.quiescent_GdnInReferenceIdeal (hGdnInReferenceIdeal := Cert.GdnInReferenceIdeal.Gen.facts) := by
  intro m ρ _
  exact (θ_run Cert.GdnInReferenceIdeal.defs _ _).mono (fun r h => ⟨fun c => (h c).2.2, sem_eq_zero_of_no_sems (by decide) r.2⟩)
    (Cert.GdnInReferenceIdeal.Value.run m ρ)

/-- The first layer's output projection, added to the stream, and its reference return the same array. -/
theorem out_fox : Cert.algebraic_OutFoxIdeal_OutFoxReferenceIdeal (hOutFoxIdeal := Cert.OutFoxIdeal.Gen.facts)
    (hOutFoxReferenceIdeal := Cert.OutFoxReferenceIdeal.Gen.facts) := by
  intro m ρ m' ρ' _ hag
  refine ⟨fun c y => Cert.OutFoxValue.addDots (Cert.OutFoxValue.left m c) (Cert.OutFoxValue.right m c) (Cert.OutFoxValue.weights m c)
      (Cert.OutFoxValue.stream m c) (y 0) (y 1),
    (θ_run _ _ _).mono (fun r h c => ⟨(h c).1.trans ((Cert.OutFoxIdeal.Value.final5 m c).symm.trans (Cert.OutFoxValue.final m c)), (h c).2⟩)
      (Cert.OutFoxIdeal.Value.run m ρ),
    (θ_run _ _ _).mono (fun r h c => ⟨(h c).1.trans ?_, (h c).2⟩) (Cert.OutFoxReferenceIdeal.Value.run m' ρ')⟩
  rw [Cert.OutFoxReferenceIdeal.Read.val_main_v4_eq, (hag c).1, (hag c).2.1, (hag c).2.2.1, (hag c).2.2.2]
  exact Cert.OutFoxValue.reference _ _ _ _

theorem out_fox_frame : Cert.quiescent_OutFoxReferenceIdeal (hOutFoxReferenceIdeal := Cert.OutFoxReferenceIdeal.Gen.facts) := by
  intro m ρ _
  exact (θ_run Cert.OutFoxReferenceIdeal.defs _ _).mono (fun r h => ⟨fun c => (h c).2, sem_eq_zero_of_no_sems (by decide) r.2⟩)
    (Cert.OutFoxReferenceIdeal.Value.run m ρ)

/-- The first layer's forget gates and their reference return the same array. -/
theorem gates : Cert.algebraic_GatesIdeal_GatesReferenceIdeal (hGatesIdeal := Cert.GatesIdeal.Gen.facts)
    (hGatesReferenceIdeal := Cert.GatesReferenceIdeal.Gen.facts) := by
  intro m ρ m' ρ' _ hag
  refine ⟨fun c y => Cert.GatesValue.sums (Cert.GatesValue.logits m c) (Cert.GatesValue.biases m c) (y 0) (y 1),
    (θ_run _ _ _).mono (fun r h c => ⟨(h c).1.trans (Cert.GatesValue.final m c), (h c).2⟩) (Cert.GatesIdeal.Value.run_blocks m ρ),
    (θ_run _ _ _).mono (fun r h c => ⟨(h c).1.trans ?_, (h c).2⟩) (Cert.GatesReferenceIdeal.Value.run m' ρ')⟩
  rw [Cert.GatesReferenceIdeal.Read.val_main_v8_eq, (hag c).1, (hag c).2]
  exact Cert.GatesValue.reference _ _

theorem gates_frame : Cert.quiescent_GatesReferenceIdeal (hGatesReferenceIdeal := Cert.GatesReferenceIdeal.Gen.facts) := by
  intro m ρ _
  exact (θ_run Cert.GatesReferenceIdeal.defs _ _).mono (fun r h => ⟨fun c => (h c).2, sem_eq_zero_of_no_sems (by decide) r.2⟩)
    (Cert.GatesReferenceIdeal.Value.run m ρ)

/-- The delta-rule layer's gates and their reference return the same array. -/
theorem gdn_gates : Cert.algebraic_GdnGatesIdeal_GdnGatesReferenceIdeal (hGdnGatesIdeal := Cert.GdnGatesIdeal.Gen.facts)
    (hGdnGatesReferenceIdeal := Cert.GdnGatesReferenceIdeal.Gen.facts) := by
  intro m ρ m' ρ' _ hag
  refine ⟨fun c y => Cert.GdnGatesValue.gates (Cert.GdnGatesValue.logits m c) (Cert.GdnGatesValue.rates m c) (Cert.GdnGatesValue.biases m c) (y 0) (y 1),
    (θ_run _ _ _).mono (fun r h c => ⟨(h c).1.trans (Cert.GdnGatesValue.final m c), (h c).2⟩) (Cert.GdnGatesIdeal.Value.run_blocks m ρ),
    (θ_run _ _ _).mono (fun r h c => ⟨(h c).1.trans ?_, (h c).2⟩) (Cert.GdnGatesReferenceIdeal.Value.run m' ρ')⟩
  rw [Cert.GdnGatesReferenceIdeal.Read.val_main_v24_eq, (hag c).1, (hag c).2.1, (hag c).2.2]
  exact Cert.GdnGatesValue.reference _ _ _

theorem gdn_gates_frame : Cert.quiescent_GdnGatesReferenceIdeal (hGdnGatesReferenceIdeal := Cert.GdnGatesReferenceIdeal.Gen.facts) := by
  intro m ρ _
  exact (θ_run Cert.GdnGatesReferenceIdeal.defs _ _).mono (fun r h => ⟨fun c => (h c).2, sem_eq_zero_of_no_sems (by decide) r.2⟩)
    (Cert.GdnGatesReferenceIdeal.Value.run m ρ)

theorem claim : Cert.Claim := ⟨Cert.Kernel.Gen.facts, Cert.KernelIdeal.Gen.facts, Cert.ReferenceIdeal.Gen.facts,
  Cert.Mid.Gen.facts, Cert.MidIdeal.Gen.facts, Cert.MidReferenceIdeal.Gen.facts, Cert.Down.Gen.facts, Cert.DownIdeal.Gen.facts,
  Cert.DownReferenceIdeal.Gen.facts, Cert.Last.Gen.facts, Cert.LastIdeal.Gen.facts, Cert.LastReferenceIdeal.Gen.facts, Cert.Out.Gen.facts, Cert.OutIdeal.Gen.facts, Cert.OutReferenceIdeal.Gen.facts,
  Cert.In.Gen.facts, Cert.InIdeal.Gen.facts, Cert.InReferenceIdeal.Gen.facts,
  Cert.GdnIn.Gen.facts, Cert.GdnInIdeal.Gen.facts, Cert.GdnInReferenceIdeal.Gen.facts,
  Cert.OutFox.Gen.facts, Cert.OutFoxIdeal.Gen.facts, Cert.OutFoxReferenceIdeal.Gen.facts,
  Cert.Gates.Gen.facts, Cert.GatesIdeal.Gen.facts, Cert.GatesReferenceIdeal.Gen.facts,
  Cert.GdnGates.Gen.facts, Cert.GdnGatesIdeal.Gen.facts, Cert.GdnGatesReferenceIdeal.Gen.facts,
  Cert.Pre_finite_logits.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Mid.Gen.frame m ρ, fun m ρ _ => Cert.MidIdeal.Gen.frame m ρ, mid_frame,
  fun m ρ _ => Cert.Down.Gen.frame m ρ, fun m ρ _ => Cert.DownIdeal.Gen.frame m ρ, down_frame,
  fun m ρ _ => Cert.Last.Hand.frame m ρ, fun m ρ _ => Cert.LastIdeal.Hand.frame m ρ, last_frame,
  fun m ρ _ => Cert.Out.Gen.frame m ρ, fun m ρ _ => Cert.OutIdeal.Gen.frame m ρ, out_frame,
  fun m ρ _ => Cert.In.Hand.frame m ρ, fun m ρ _ => Cert.InIdeal.Hand.frame m ρ, entry_frame,
  fun m ρ _ => Cert.GdnIn.Hand.frame m ρ, fun m ρ _ => Cert.GdnInIdeal.Hand.frame m ρ, gdn_frame,
  fun m ρ _ => Cert.OutFox.Gen.frame m ρ, fun m ρ _ => Cert.OutFoxIdeal.Gen.frame m ρ, out_fox_frame,
  fun m ρ _ => Cert.Gates.Gen.frame m ρ, fun m ρ _ => Cert.GatesIdeal.Gen.frame m ρ, gates_frame,
  fun m ρ _ => Cert.GdnGates.Gen.frame m ρ, fun m ρ _ => Cert.GdnGatesIdeal.Gen.frame m ρ, gdn_gates_frame,
  trivial, attention, trivial, mid, trivial, down, trivial, last, trivial, out, trivial, entry, trivial, gdn, trivial, out_fox, trivial, gates, trivial, gdn_gates⟩

end Cert.Proof

end
